-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_v28) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_v183) = v3 c
          ∧ r.2.mem ((c.tc : Thread Cert.ReferenceIdeal.nD Cert.ReferenceIdeal.τ).loc Cert.ReferenceIdeal.main_v184) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v102) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S10x8192x1024 : Shape := ⟨3, ![10, 8192, 1024]⟩
abbrev S1024x7184 : Shape := ⟨2, ![1024, 7184]⟩
abbrev S64 : Shape := ⟨1, ![64]⟩
abbrev S128 : Shape := ⟨1, ![128]⟩
abbrev S_ : Shape := ⟨0, ![]⟩

class Facts : Prop where
  bcast_S_S10x8192x1024 : S_.BroadcastsInDim S10x8192x1024 (![] : Fin 0 → Fin S10x8192x1024.rank)
  reducesTo_S10x8192x1024_S_d0_1_2 : S10x8192x1024.ReducesTo [0, 1, 2] S_
  h_S_ : 0 < S_.numel
  bcast_S_S1024x7184 : S_.BroadcastsInDim S1024x7184 (![] : Fin 0 → Fin S1024x7184.rank)
  reducesTo_S1024x7184_S_d0_1 : S1024x7184.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10x8192x1024 .f32) (main_arg1 : FVec F S1024x7184 .f32) (main_arg2 : FVec F S64 .f32) (main_arg3 : FVec F S64 .f32) (main_arg4 : FVec F S64 .f32) (main_arg5 : FVec F S64 .f32) (main_arg6 : FVec F S128 .f32) : IVec S_ 1 :=
  let main_v0 : FVec F S10x8192x1024 .f32 := Host.absf main_arg0
  let main_cst : FVec F S_ .f32 := constant S_ .f32 0x7F800000#32
  let main_v1 : FVec F S10x8192x1024 .f32 := broadcastInDim S10x8192x1024 ![] bcast_S_S10x8192x1024 main_cst
  let main_v2 : IVec S10x8192x1024 1 := cmpf .olt main_v0 main_v1
  let main_c : IVec S_ 1 := constantI S_ 1 1#1
  let main_v3 : IVec S_ 1 := (fun x v => Host.reduce IntOp.andi x v reducesTo_S10x8192x1024_S_d0_1_2 h_S_) main_v2 main_c
  let main_v4 : FVec F S1024x7184 .f32 := Host.absf main_arg1
  let main_cst_0 : FVec F S_ .f32 := constant S_ .f32 0x7F800000#32
  let main_v5 : FVec F S1024x7184 .f32 := broadcastInDim S1024x7184 ![] bcast_S_S1024x7184 main_cst_0
  let main_v6 : IVec S1024x7184 1 := cmpf .olt main_v4 main_v5
  let main_c_1 : IVec S_ 1 := constantI S_ 1 1#1
  let main_v7 : IVec S_ 1 := (fun x v => Host.reduce IntOp.andi x v reducesTo_S1024x7184_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Pre_in_range.lean ====
abbrev S180224x1024 : Shape := ⟨2, ![180224, 1024]⟩
abbrev S352 : Shape := ⟨1, ![352]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S_ : Shape := ⟨0, ![]⟩

class Facts : Prop where
  bcast_S_S352 : S_.BroadcastsInDim S352 (![] : Fin 0 → Fin S352.rank)
  reducesTo_S352_S_d0 : S352.ReducesTo [0] S_
  h_S_ : 0 < S_.numel

variable [Facts]

def fn {F : FTy → Type} [FloatOps F] (main_arg0 : FVec F S180224x1024 .f32) (main_arg1 : IVec S352 32) (main_arg2 : IVec S352 32) (main_arg3 : FVec F S2x32x1024x2048 .f32) (main_arg4 : FVec F S2x32x2048 .f32) (main_arg5 : FVec F S2x32x1024x1024 .f32) (main_arg6 : FVec F S2x32x1024 .f32) : IVec S_ 1 :=
  let main_c : IVec S_ 32 := constantI S_ 32 0#32
  let main_v0 : IVec S352 32 := broadcastInDim S352 ![] bcast_S_S352 main_c
  let main_v1 : IVec S352 1 := cmpi .sge main_arg1 main_v0
  let main_c_0 : IVec S_ 1 := constantI S_ 1 1#1
  let main_v2 : IVec S_ 1 := (fun x v => Host.reduce IntOp.andi x v reducesTo_S352_S_d0 h_S_) main_v1 main_c_0
  let main_c_1 : IVec S_ 32 := constantI S_ 32 32#32
  let main_v3 : IVec S352 32 := broadcastInDim S352 ![] bcast_S_S352 main_c_1
  let main_v4 : IVec S352 1 := cmpi .slt main_arg1 main_v3
  let main_c_2 : IVec S_ 1 := constantI S_ 1 1#1
  let main_v5 : IVec S_ 1 := (fun x v => Host.reduce IntOp.andi x v reducesTo_S352_S_d0 h_S_) main_v4 main_c_2
  let main_v6 : IVec S_ 1 := andi main_v2 main_v5
  main_v6
-- ==== Kernel.lean ====
abbrev S10x8192x1024 : Shape := ⟨3, ![10, 8192, 1024]⟩
abbrev S1024x7184 : Shape := ⟨2, ![1024, 7184]⟩
abbrev S64 : Shape := ⟨1, ![64]⟩
abbrev S128 : Shape := ⟨1, ![128]⟩
abbrev S1024x2048 : Shape := ⟨2, ![1024, 2048]⟩
abbrev S1024x576 : Shape := ⟨2, ![1024, 576]⟩
abbrev S1024x64 : Shape := ⟨2, ![1024, 64]⟩
abbrev S1024x128 : Shape := ⟨2, ![1024, 128]⟩
abbrev S1024x3648 : Shape := ⟨2, ![1024, 3648]⟩
abbrev S1024x16 : Shape := ⟨2, ![1024, 16]⟩
abbrev S_ : Shape := ⟨0, ![]⟩
abbrev S1024x112 : Shape := ⟨2, ![1024, 112]⟩
abbrev S1024x7168 : Shape := ⟨2, ![1024, 7168]⟩
abbrev S1024x7296 : Shape := ⟨2, ![1024, 7296]⟩
abbrev S81920x1024 : Shape := ⟨2, ![81920, 1024]⟩
abbrev S81920x7296 : Shape := ⟨2, ![81920, 7296]⟩
abbrev S1024x1024 : Shape := ⟨2, ![1024, 1024]⟩
abbrev S1024x2432 : Shape := ⟨2, ![1024, 2432]⟩
abbrev S10x8192x7296 : Shape := ⟨3, ![10, 8192, 7296]⟩
abbrev S10x8192x2048 : Shape := ⟨3, ![10, 8192, 2048]⟩
abbrev S10x8192x16 : Shape := ⟨3, ![10, 8192, 16]⟩
abbrev S10x8192x512 : Shape := ⟨3, ![10, 8192, 512]⟩
abbrev S10x8192x3072 : Shape := ⟨3, ![10, 8192, 3072]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S1x512x512 : Shape := ⟨3, ![1, 512, 512]⟩
abbrev S512x128 : Shape := ⟨2, ![512, 128]⟩
abbrev S512x512 : Shape := ⟨2, ![512, 512]⟩
abbrev S1x512 : Shape := ⟨2, ![1, 512]⟩
abbrev S1x64 : Shape := ⟨2, ![1, 64]⟩
abbrev S1x128 : Shape := ⟨2, ![1, 128]⟩
abbrev S1x256x128 : Shape := ⟨3, ![1, 256, 128]⟩
abbrev S1x8192x128 : Shape := ⟨3, ![1, 8192, 128]⟩
abbrev S16x512x512 : Shape := ⟨3, ![16, 512, 512]⟩
abbrev S256x128 : Shape := ⟨2, ![256, 128]⟩
abbrev S1x512x128 : Shape := ⟨3, ![1, 512, 128]⟩
abbrev S256x512 : Shape := ⟨2, ![256, 512]⟩
abbrev S1x256x512 : Shape := ⟨3, ![1, 256, 512]⟩
abbrev S256 : Shape := ⟨1, ![256]⟩
abbrev S256x1 : Shape := ⟨2, ![256, 1]⟩
abbrev S256x256 : Shape := ⟨2, ![256, 256]⟩
abbrev S512x256 : Shape := ⟨2, ![512, 256]⟩
abbrev S1 : Shape := ⟨1, ![1]⟩
abbrev S1x1 : Shape := ⟨2, ![1, 1]⟩

abbrev nBuf : Space → Nat
  | .hbm => 67
  | .vmem => 40
  | .smem => 0
  | _ => 0

abbrev bufTy : (tb : Table) → Fin (tcTables nBuf tb) → BufTy
  | .hbm, ⟨0, _⟩ => ⟨S10x8192x1024, .f32⟩
  | .hbm, ⟨1, _⟩ => ⟨S1024x7184, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S1024x2048, .f32⟩
  | .hbm, ⟨8, _⟩ => ⟨S1024x576, .f32⟩
  | .hbm, ⟨9, _⟩ => ⟨S1024x64, .f32⟩
  | .hbm, ⟨10, _⟩ => ⟨S1024x64, .f32⟩
  | .hbm, ⟨11, _⟩ => ⟨S1024x64, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S1024x128, .f32⟩
  | .hbm, ⟨16, _⟩ => ⟨S1024x64, .f32⟩
  | .hbm, ⟨17, _⟩ => ⟨S1024x64, .f32⟩
  | .hbm, ⟨18, _⟩ => ⟨S1024x64, .f32⟩
  | .hbm, ⟨19, _⟩ => ⟨S1024x64, .f32⟩
  | .hbm, ⟨20, _⟩ => ⟨S1024x64, .f32⟩
  | .hbm, ⟨21, _⟩ => ⟨S1024x64, .f32⟩
  | .hbm, ⟨22, _⟩ => ⟨S1024x3648, .f32⟩
  | .hbm, ⟨23, _⟩ => ⟨S1024x16, .f32⟩
  | .hbm, ⟨24, _⟩ => ⟨S_, .f32⟩
  | .hbm, ⟨25, _⟩ => ⟨S1024x112, .f32⟩
  | .hbm, ⟨26, _⟩ => ⟨S1024x7168, .f32⟩
  | .hbm, ⟨27, _⟩ => ⟨S1024x128, .f32⟩
  | .hbm, ⟨28, _⟩ => ⟨S1024x7296, .f32⟩
  | .hbm, ⟨29, _⟩ => ⟨S1024x7296, .bf16⟩
  | .hbm, ⟨30, _⟩ => ⟨S81920x1024, .f32⟩
  | .hbm, ⟨31, _⟩ => ⟨S81920x7296, .f32⟩
  | .hbm, ⟨32, _⟩ => ⟨S10x8192x7296, .f32⟩
  | .hbm, ⟨33, _⟩ => ⟨S10x8192x2048, .f32⟩
  | .hbm, ⟨34, _⟩ => ⟨S10x8192x16, .f32⟩
  | .hbm, ⟨35, _⟩ => ⟨S10x8192x512, .f32⟩
  | .hbm, ⟨36, _⟩ => ⟨S10x8192x3072, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S8192, .f32⟩
  | .hbm, ⟨46, _⟩ => ⟨S8192x1, .f32⟩
  | .hbm, ⟨47, _⟩ => ⟨S1x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x128, .f32⟩
  | .hbm, ⟨54, _⟩ => ⟨S8192x32, .f32⟩
  | .hbm, ⟨55, _⟩ => ⟨S8192x32, .f32⟩
  | .hbm, ⟨56, _⟩ => ⟨S8192x128, .f32⟩
  | .hbm, ⟨57, _⟩ => ⟨S10x8192x512, .bf16⟩
  | .hbm, ⟨58, _⟩ => ⟨S10x8192x512, .bf16⟩
  | .hbm, ⟨59, _⟩ => ⟨S10x8192x512, .bf16⟩
  | .hbm, ⟨60, _⟩ => ⟨S10x8192x512, .bf16⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x128, .f32⟩
  | .hbm, ⟨66, _⟩ => ⟨S10x8192x512, .f32⟩
  | .local _ .vmem, ⟨0, _⟩ => ⟨S1024x1024, .f32⟩
  | .local _ .vmem, ⟨1, _⟩ => ⟨S1024x1024, .f32⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | .local _ .vmem, ⟨5, _⟩ => ⟨S1024x2432, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x256x128, .bf16⟩
  | .local _ .vmem, ⟨25, _⟩ => ⟨S1x256x128, .bf16⟩
  | .local _ .vmem, ⟨26, _⟩ => ⟨S1x256x128, .bf16⟩
  | .local _ .vmem, ⟨27, _⟩ => ⟨S1x256x128, .bf16⟩
  | .local _ .vmem, ⟨28, _⟩ => ⟨S1x8192x128, .bf16⟩
  | .local _ .vmem, ⟨29, _⟩ => ⟨S1x8192x128, .bf16⟩
  | .local _ .vmem, ⟨30, _⟩ => ⟨S1x8192x128, .bf16⟩
  | .local _ .vmem, ⟨31, _⟩ => ⟨S1x8192x128, .bf16⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S1x128, .f32⟩
  | .local _ .vmem, ⟨37, _⟩ => ⟨S1x256x128, .f32⟩
  | .local _ .vmem, ⟨38, _⟩ => ⟨S1x256x128, .f32⟩
  | .local _ .vmem, ⟨39, _⟩ => ⟨S16x512x512, .f32⟩
  | _, _ => ⟨S10x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_0 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47_0 : Ref sig .tc := ⟨.hbm, 57, rfl⟩
abbrev main_v47_1 : Ref sig .tc := ⟨.hbm, 58, rfl⟩
abbrev main_v47_2 : Ref sig .tc := ⟨.hbm, 59, rfl⟩
abbrev main_v47_3 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc2_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38

abbrev nD : Nat := 1
abbrev τ : Topo := Topo.v7x

variable {F : FTy → Type} [FloatOps F]

abbrev grid0 : Pipeline.Grid := ⟨2, ![80, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![10, 16], ![false, false]⟩

def cc1_transform_0 (i : grid1.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc1_transform_1 (i : grid1.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc1_transform_2 (i : grid1.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x512x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨3, ![10, 4, 32], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x256x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S1x8192x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x8192x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false, false]

abbrev stage2_9 : Fin 2 → Memref sig .tc .vmem S1x256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true, true]
-- ==== KernelIdeal.lean ====
variable {F : FTy → Type} [FloatOps F] [Named F]
def κ : String → Option EReal := fun
  | "q_scale" => some (((8 * (Real.log 2))⁻¹ : ℝ) : EReal)
  | _ => none
-- ==== ReferenceIdeal.lean ====
abbrev S10x8192x1024 : Shape := ⟨3, ![10, 8192, 1024]⟩
abbrev S1024x7184 : Shape := ⟨2, ![1024, 7184]⟩
abbrev S64 : Shape := ⟨1, ![64]⟩
abbrev S128 : Shape := ⟨1, ![128]⟩
abbrev S8192 : Shape := ⟨1, ![8192]⟩
abbrev S10x8192x7184 : Shape := ⟨3, ![10, 8192, 7184]⟩
abbrev S10x8192x1536 : Shape := ⟨3, ![10, 8192, 1536]⟩
abbrev S10x8192x256 : Shape := ⟨3, ![10, 8192, 256]⟩
abbrev S10x8192x512 : Shape := ⟨3, ![10, 8192, 512]⟩
abbrev S10x8192x4x64 : Shape := ⟨4, ![10, 8192, 4, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S10x8192x4x32 : Shape := ⟨4, ![10, 8192, 4, 32]⟩
abbrev S10x8192x4x128 : Shape := ⟨4, ![10, 8192, 4, 128]⟩
abbrev S10x4x8192x8192 : Shape := ⟨4, ![10, 4, 8192, 8192]⟩
abbrev S10x4x8192 : Shape := ⟨3, ![10, 4, 8192]⟩
abbrev S10x4x8192x1 : Shape := ⟨4, ![10, 4, 8192, 1]⟩
abbrev S10x4x128x8192 : Shape := ⟨4, ![10, 4, 128, 8192]⟩
abbrev S10x8192x4 : Shape := ⟨3, ![10, 8192, 4]⟩
abbrev S10x8192x4x1 : Shape := ⟨4, ![10, 8192, 4, 1]⟩
abbrev S1x1x1x128 : Shape := ⟨4, ![1, 1, 1, 128]⟩
abbrev S10x8192x2048 : Shape := ⟨3, ![10, 8192, 2048]⟩
abbrev S10x8192x16 : Shape := ⟨3, ![10, 8192, 16]⟩
abbrev S10x8192x3072 : Shape := ⟨3, ![10, 8192, 3072]⟩

abbrev nBuf : Space → Nat
  | .hbm => 216
  | .vmem => 0
  | .smem => 0
  | _ => 0

abbrev hbmTy0_0 (i : Nat) : BufTy := match i % 128 with
  | 0 => ⟨S10x8192x1024, .f32⟩
  | 1 => ⟨S1024x7184, .f32⟩
  | 2 => ⟨S64, .f32⟩
  | 3 => ⟨S64, .f32⟩
  | 4 => ⟨S64, .f32⟩
  | 5 => ⟨S64, .f32⟩
  | 6 => ⟨S128, .f32⟩
  | 7 => ⟨S8192, .f32⟩
  | 8 => ⟨S10x8192x7184, .f32⟩
  | 9 => ⟨S10x8192x1536, .f32⟩
  | 10 => ⟨S10x8192x256, .f32⟩
  | 11 => ⟨S10x8192x256, .f32⟩
  | 12 => ⟨S10x8192x256, .f32⟩
  | 13 => ⟨S10x8192x256, .f32⟩
  | 14 => ⟨S10x8192x512, .f32⟩
  | 15 => ⟨S10x8192x4x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S8192x1, .f32⟩
  | 25 => ⟨S1x32, .f32⟩
  | 26 => ⟨S8192x32, .f32⟩
  | 27 => ⟨S8192x32, .f32⟩
  | 28 => ⟨S8192x32, .f32⟩
  | 29 => ⟨S8192x32, .f32⟩
  | 30 => ⟨S1x8192x1x32, .f32⟩
  | 31 => ⟨S8192x32, .f32⟩
  | 32 => ⟨S1x8192x1x32, .f32⟩
  | 33 => ⟨S10x8192x4x32, .f32⟩
  | 34 => ⟨S10x8192x4x32, .f32⟩
  | 35 => ⟨S10x8192x4x32, .f32⟩
  | 36 => ⟨S10x8192x4x32, .f32⟩
  | 37 => ⟨S10x8192x4x32, .f32⟩
  | 38 => ⟨S10x8192x4x32, .f32⟩
  | 39 => ⟨S10x8192x4x32, .f32⟩
  | 40 => ⟨S10x8192x4x32, .f32⟩
  | 41 => ⟨S10x8192x4x32, .f32⟩
  | 42 => ⟨S10x8192x4x32, .f32⟩
  | 43 => ⟨S10x8192x4x32, .f32⟩
  | 44 => ⟨S10x8192x4x32, .f32⟩
  | 45 => ⟨S10x8192x4x64, .f32⟩
  | 46 => ⟨S10x8192x4x64, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S8192x1, .f32⟩
  | 56 => ⟨S1x32, .f32⟩
  | 57 => ⟨S8192x32, .f32⟩
  | 58 => ⟨S8192x32, .f32⟩
  | 59 => ⟨S8192x32, .f32⟩
  | 60 => ⟨S8192x32, .f32⟩
  | 61 => ⟨S1x8192x1x32, .f32⟩
  | 62 => ⟨S8192x32, .f32⟩
  | 63 => ⟨S1x8192x1x32, .f32⟩
  | 64 => ⟨S10x8192x4x32, .f32⟩
  | 65 => ⟨S10x8192x4x32, .f32⟩
  | 66 => ⟨S10x8192x4x32, .f32⟩
  | 67 => ⟨S10x8192x4x32, .f32⟩
  | 68 => ⟨S10x8192x4x32, .f32⟩
  | 69 => ⟨S10x8192x4x32, .f32⟩
  | 70 => ⟨S10x8192x4x32, .f32⟩
  | 71 => ⟨S10x8192x4x32, .f32⟩
  | 72 => ⟨S10x8192x4x32, .f32⟩
  | 73 => ⟨S10x8192x4x32, .f32⟩
  | 74 => ⟨S10x8192x4x32, .f32⟩
  | 75 => ⟨S10x8192x4x32, .f32⟩
  | 76 => ⟨S10x8192x4x64, .f32⟩
  | 77 => ⟨S10x8192x4x64, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S8192x1, .f32⟩
  | 87 => ⟨S1x32, .f32⟩
  | 88 => ⟨S8192x32, .f32⟩
  | 89 => ⟨S8192x32, .f32⟩
  | 90 => ⟨S8192x32, .f32⟩
  | 91 => ⟨S8192x32, .f32⟩
  | 92 => ⟨S1x8192x1x32, .f32⟩
  | 93 => ⟨S8192x32, .f32⟩
  | 94 => ⟨S1x8192x1x32, .f32⟩
  | 95 => ⟨S10x8192x4x32, .f32⟩
  | 96 => ⟨S10x8192x4x32, .f32⟩
  | 97 => ⟨S10x8192x4x32, .f32⟩
  | 98 => ⟨S10x8192x4x32, .f32⟩
  | 99 => ⟨S10x8192x4x32, .f32⟩
  | 100 => ⟨S10x8192x4x32, .f32⟩
  | 101 => ⟨S10x8192x4x32, .f32⟩
  | 102 => ⟨S10x8192x4x32, .f32⟩
  | 103 => ⟨S10x8192x4x32, .f32⟩
  | 104 => ⟨S10x8192x4x32, .f32⟩
  | 105 => ⟨S10x8192x4x32, .f32⟩
  | 106 => ⟨S10x8192x4x32, .f32⟩
  | 107 => ⟨S10x8192x4x64, .f32⟩
  | 108 => ⟨S10x8192x4x64, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S8192x1, .f32⟩
  | 118 => ⟨S1x32, .f32⟩
  | 119 => ⟨S8192x32, .f32⟩
  | 120 => ⟨S8192x32, .f32⟩
  | 121 => ⟨S8192x32, .f32⟩
  | 122 => ⟨S8192x32, .f32⟩
  | 123 => ⟨S1x8192x1x32, .f32⟩
  | 124 => ⟨S8192x32, .f32⟩
  | 125 => ⟨S1x8192x1x32, .f32⟩
  | 126 => ⟨S10x8192x4x32, .f32⟩
  | 127 => ⟨S10x8192x4x32, .f32⟩
  | _ => ⟨S10x8192x1024, .f32⟩

abbrev hbmTy0_1 (i : Nat) : BufTy := match i % 128 with
  | 0 => ⟨S10x8192x4x32, .f32⟩
  | 1 => ⟨S10x8192x4x32, .f32⟩
  | 2 => ⟨S10x8192x4x32, .f32⟩
  | 3 => ⟨S10x8192x4x32, .f32⟩
  | 4 => ⟨S10x8192x4x32, .f32⟩
  | 5 => ⟨S10x8192x4x32, .f32⟩
  | 6 => ⟨S10x8192x4x32, .f32⟩
  | 7 => ⟨S10x8192x4x32, .f32⟩
  | 8 => ⟨S10x8192x4x32, .f32⟩
  | 9 => ⟨S10x8192x4x32, .f32⟩
  | 10 => ⟨S10x8192x4x64, .f32⟩
  | 11 => ⟨S10x8192x4x128, .f32⟩
  | 12 => ⟨S64, .f32⟩
  | 13 => ⟨S_, .f32⟩
  | 14 => ⟨S_, .f32⟩
  | 15 => ⟨S_, .f32⟩
  | 16 => ⟨S64, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S10x4x8192x8192, .f32⟩
  | 24 => ⟨S_, .f32⟩
  | 25 => ⟨S10x4x8192x8192, .f32⟩
  | 26 => ⟨S10x4x8192x8192, .f32⟩
  | 27 => ⟨S_, .f32⟩
  | 28 => ⟨S10x4x8192, .f32⟩
  | 29 => ⟨S_, .f32⟩
  | 30 => ⟨S10x4x8192, .f32⟩
  | 31 => ⟨S10x4x8192, .f32⟩
  | 32 => ⟨S10x4x8192x1, .f32⟩
  | 33 => ⟨S10x4x8192x8192, .f32⟩
  | 34 => ⟨S10x4x8192x8192, .f32⟩
  | 35 => ⟨S10x4x8192x8192, .f32⟩
  | 36 => ⟨S_, .f32⟩
  | 37 => ⟨S10x4x8192, .f32⟩
  | 38 => ⟨S10x4x8192x1, .f32⟩
  | 39 => ⟨S10x4x8192x8192, .f32⟩
  | 40 => ⟨S10x4x8192x8192, .f32⟩
  | 41 => ⟨S10x4x8192x8192, .f32⟩
  | 42 => ⟨S_, .f32⟩
  | 43 => ⟨S10x4x8192x8192, .f32⟩
  | 44 => ⟨S10x4x8192x8192, .f32⟩
  | 45 => ⟨S_, .f32⟩
  | 46 => ⟨S10x4x8192, .f32⟩
  | 47 => ⟨S_, .f32⟩
  | 48 => ⟨S10x4x8192, .f32⟩
  | 49 => ⟨S10x4x8192, .f32⟩
  | 50 => ⟨S10x4x8192x1, .f32⟩
  | 51 => ⟨S10x4x8192x8192, .f32⟩
  | 52 => ⟨S10x4x8192x8192, .f32⟩
  | 53 => ⟨S10x4x8192x8192, .f32⟩
  | 54 => ⟨S_, .f32⟩
  | 55 => ⟨S10x4x8192, .f32⟩
  | 56 => ⟨S10x4x8192x1, .f32⟩
  | 57 => ⟨S10x4x8192x8192, .f32⟩
  | 58 => ⟨S10x4x8192x8192, .f32⟩
  | 59 => ⟨S10x4x8192x8192, .f32⟩
  | 60 => ⟨S10x4x8192x8192, .f32⟩
  | 61 => ⟨S10x4x8192x8192, .f32⟩
  | 62 => ⟨S10x4x128x8192, .f32⟩
  | 63 => ⟨S10x8192x4x128, .f32⟩
  | 64 => ⟨S10x8192x4x128, .f32⟩
  | 65 => ⟨S_, .f32⟩
  | 66 => ⟨S10x8192x4, .f32⟩
  | 67 => ⟨S10x8192x4x1, .f32⟩
  | 68 => ⟨S_, .f32⟩
  | 69 => ⟨S10x8192x4x1, .f32⟩
  | 70 => ⟨S10x8192x4x1, .f32⟩
  | 71 => ⟨S_, .f32⟩
  | 72 => ⟨S10x8192x4x1, .f32⟩
  | 73 => ⟨S10x8192x4x1, .f32⟩
  | 74 => ⟨S10x8192x4x1, .f32⟩
  | 75 => ⟨S10x8192x4x128, .f32⟩
  | 76 => ⟨S10x8192x4x128, .f32⟩
  | 77 => ⟨S1x1x1x128, .f32⟩
  | 78 => ⟨S10x8192x4x128, .f32⟩
  | 79 => ⟨S10x8192x4x128, .f32⟩
  | 80 => ⟨S_, .f32⟩
  | 81 => ⟨S10x8192x4x128, .f32⟩
  | 82 => ⟨S10x8192x4x128, .f32⟩
  | 83 => ⟨S10x8192x2048, .f32⟩
  | 84 => ⟨S10x8192x16, .f32⟩
  | 85 => ⟨S10x8192x512, .f32⟩
  | 86 => ⟨S10x8192x3072, .f32⟩
  | 87 => ⟨S10x8192x512, .f32⟩
  | _ => ⟨S10x8192x1024, .f32⟩

abbrev hbmTy (i : Nat) : BufTy := match i / 128 with
  | 0 => hbmTy0_0 i
  | 1 => hbmTy0_1 i
  | _ => ⟨S10x8192x1024, .f32⟩

abbrev bufTy : (tb : Table) → Fin (tcTables nBuf tb) → BufTy
  | .hbm, ⟨i, _⟩ => hbmTy i
  | _, _ => ⟨S10x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_3 : Ref sig .tc := ⟨.hbm, 80, rfl⟩
abbrev main_v69 : Ref sig .tc := ⟨.hbm, 81, rfl⟩
abbrev main_v70 : Ref sig .tc := ⟨.hbm, 82, rfl⟩
abbrev main_cst_4 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_5 : Ref sig .tc := ⟨.hbm, 111, rfl⟩
abbrev main_v98 : Ref sig .tc := ⟨.hbm, 112, rfl⟩
abbrev main_v99 : Ref sig .tc := ⟨.hbm, 113, rfl⟩
abbrev main_cst_6 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_cst_7 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_cst_8 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_cst_9 : Ref sig .tc := ⟨.hbm, 149, rfl⟩
abbrev main_v132 : Ref sig .tc := ⟨.hbm, 150, rfl⟩
abbrev main_v133 : Ref sig .tc := ⟨.hbm, 151, rfl⟩
abbrev main_cst_10 : Ref sig .tc := ⟨.hbm, 152, rfl⟩
abbrev main_v134 : Ref sig .tc := ⟨.hbm, 153, rfl⟩
abbrev main_v135 : Ref sig .tc := ⟨.hbm, 154, rfl⟩
abbrev main_cst_11 : Ref sig .tc := ⟨.hbm, 155, rfl⟩
abbrev main_v136 : Ref sig .tc := ⟨.hbm, 156, rfl⟩
abbrev main_cst_12 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_13 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_cst_14 : Ref sig .tc := ⟨.hbm, 170, rfl⟩
abbrev main_v148 : Ref sig .tc := ⟨.hbm, 171, rfl⟩
abbrev main_v149 : Ref sig .tc := ⟨.hbm, 172, rfl⟩
abbrev main_cst_15 : Ref sig .tc := ⟨.hbm, 173, rfl⟩
abbrev main_v150 : Ref sig .tc := ⟨.hbm, 174, rfl⟩
abbrev main_cst_16 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_cst_17 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_cst_18 : Ref sig .tc := ⟨.hbm, 193, rfl⟩
abbrev main_v167 : Ref sig .tc := ⟨.hbm, 194, rfl⟩
abbrev main_v168 : Ref sig .tc := ⟨.hbm, 195, rfl⟩
abbrev main_cst_19 : Ref sig .tc := ⟨.hbm, 196, rfl⟩
abbrev main_v169 : Ref sig .tc := ⟨.hbm, 197, rfl⟩
abbrev main_v170 : Ref sig .tc := ⟨.hbm, 198, rfl⟩
abbrev main_cst_20 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_cst_21 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩

abbrev nD : Nat := 1
abbrev τ : Topo := Topo.v7x

variable {F : FTy → Type} [FloatOps F]
-- ==== Kernel2.lean ====
abbrev S180224x1024 : Shape := ⟨2, ![180224, 1024]⟩
abbrev S352 : Shape := ⟨1, ![352]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S32x1024x1024 : Shape := ⟨3, ![32, 1024, 1024]⟩
abbrev S1x32x2048 : Shape := ⟨3, ![1, 32, 2048]⟩
abbrev S32x2048 : Shape := ⟨2, ![32, 2048]⟩
abbrev S32x1024 : Shape := ⟨2, ![32, 1024]⟩
abbrev S32x1x1024 : Shape := ⟨3, ![32, 1, 1024]⟩
abbrev S1x32x1024 : Shape := ⟨3, ![1, 32, 1024]⟩
abbrev S512x1024 : Shape := ⟨2, ![512, 1024]⟩
abbrev S1x1024x1024 : Shape := ⟨3, ![1, 1024, 1024]⟩
abbrev S1 : Shape := ⟨1, ![1]⟩
abbrev S1x1x1024 : Shape := ⟨3, ![1, 1, 1024]⟩
abbrev S1x1x1024x1024 : Shape := ⟨4, ![1, 1, 1024, 1024]⟩
abbrev S1024x1024 : Shape := ⟨2, ![1024, 1024]⟩
abbrev S1x1024 : Shape := ⟨2, ![1, 1024]⟩

abbrev nBuf : Space → Nat
  | .hbm => 26
  | .vmem => 17
  | .smem => 2
  | _ => 0

abbrev bufTy : (tb : Table) → Fin (tcTables nBuf tb) → BufTy
  | .hbm, ⟨0, _⟩ => ⟨S180224x1024, .f32⟩
  | .hbm, ⟨1, _⟩ => ⟨S2x32x1024x2048, .f32⟩
  | .hbm, ⟨2, _⟩ => ⟨S2x32x2048, .f32⟩
  | .hbm, ⟨3, _⟩ => ⟨S2x32x1024x1024, .f32⟩
  | .hbm, ⟨4, _⟩ => ⟨S2x32x1024, .f32⟩
  | .hbm, ⟨5, _⟩ => ⟨S1x32x1024x2048, .f32⟩
  | .hbm, ⟨6, _⟩ => ⟨S32x1024x2048, .f32⟩
  | .hbm, ⟨7, _⟩ => ⟨S32x1024x1024, .f32⟩
  | .hbm, ⟨8, _⟩ => ⟨S32x1024x1024, .bf16⟩
  | .hbm, ⟨9, _⟩ => ⟨S1x32x1024x2048, .f32⟩
  | .hbm, ⟨10, _⟩ => ⟨S32x1024x2048, .f32⟩
  | .hbm, ⟨11, _⟩ => ⟨S32x1024x1024, .f32⟩
  | .hbm, ⟨12, _⟩ => ⟨S32x1024x1024, .bf16⟩
  | .hbm, ⟨13, _⟩ => ⟨S1x32x2048, .f32⟩
  | .hbm, ⟨14, _⟩ => ⟨S32x2048, .f32⟩
  | .hbm, ⟨15, _⟩ => ⟨S32x1024, .f32⟩
  | .hbm, ⟨16, _⟩ => ⟨S32x1x1024, .f32⟩
  | .hbm, ⟨17, _⟩ => ⟨S1x32x2048, .f32⟩
  | .hbm, ⟨18, _⟩ => ⟨S32x2048, .f32⟩
  | .hbm, ⟨19, _⟩ => ⟨S32x1024, .f32⟩
  | .hbm, ⟨20, _⟩ => ⟨S32x1x1024, .f32⟩
  | .hbm, ⟨21, _⟩ => ⟨S1x32x1024, .f32⟩
  | .hbm, ⟨22, _⟩ => ⟨S32x1024, .f32⟩
  | .hbm, ⟨23, _⟩ => ⟨S32x1x1024, .f32⟩
  | .hbm, ⟨24, _⟩ => ⟨S180224x1024, .bf16⟩
  | .hbm, ⟨25, _⟩ => ⟨S180224x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .smem, ⟨0, _⟩ => ⟨S352, .i32⟩
  | .local _ .smem, ⟨1, _⟩ => ⟨S352, .i32⟩
  | _, _ => ⟨S180224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![352], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v6 : BitVec 32 := Scalar.subi arg0 c1_i32
  let c0_i32_1 : BitVec 32 := 0#32
  let v7 : BitVec 32 := Scalar.maxsi v6 c0_i32_1
  let v8 : Index := Scalar.indexCast v7
  ![v8.toNat]
def k0_cond2 (v1 : BitVec 32) : BitVec 1 :=
  let c0_i32 : BitVec 32 := 0#32
  let v2 : BitVec 1 := Scalar.cmpi .ne v1 c0_i32
  let v14 : BitVec 32 := Scalar.extui v2
  let c0_i32_3 : BitVec 32 := 0#32
  let v15 : BitVec 1 := Scalar.cmpi .ne v14 c0_i32_3
  v15

def k0_cond3 (v1 : BitVec 32) : BitVec 1 :=
  let c0_i32 : BitVec 32 := 0#32
  let v2 : BitVec 1 := Scalar.cmpi .ne v1 c0_i32
  let v_true : BitVec 1 := 1#1
  let v16 : BitVec 1 := Scalar.xori v2 v_true
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S352.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_6 (k0_off1_inb : ∀ i : grid0.Coords, ∀ a, (k0_off1 i) a + S1.size a ≤ S352.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S352) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S180224x1024 : Shape := ⟨2, ![180224, 1024]⟩
abbrev S352 : Shape := ⟨1, ![352]⟩
abbrev S2x32x1024x2048 : Shape := ⟨4, ![2, 32, 1024, 2048]⟩
abbrev S2x32x2048 : Shape := ⟨3, ![2, 32, 2048]⟩
abbrev S2x32x1024x1024 : Shape := ⟨4, ![2, 32, 1024, 1024]⟩
abbrev S2x32x1024 : Shape := ⟨3, ![2, 32, 1024]⟩
abbrev S1x32x1024x2048 : Shape := ⟨4, ![1, 32, 1024, 2048]⟩
abbrev S32x1024x2048 : Shape := ⟨3, ![32, 1024, 2048]⟩
abbrev S1x32x2048 : Shape := ⟨3, ![1, 32, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S32x1024 : Shape := ⟨2, ![32, 1024]⟩
abbrev S352x512x1024 : Shape := ⟨3, ![352, 512, 1024]⟩
abbrev S_ : Shape := ⟨0, ![]⟩
abbrev S352x1 : Shape := ⟨2, ![352, 1]⟩
abbrev S352x1024x2048 : Shape := ⟨3, ![352, 1024, 2048]⟩
abbrev S352x512x2048 : Shape := ⟨3, ![352, 512, 2048]⟩
abbrev S352x2048 : Shape := ⟨2, ![352, 2048]⟩
abbrev S352x1x2048 : Shape := ⟨3, ![352, 1, 2048]⟩
abbrev S352x1024x1024 : Shape := ⟨3, ![352, 1024, 1024]⟩
abbrev S352x1024 : Shape := ⟨2, ![352, 1024]⟩
abbrev S352x1x1024 : Shape := ⟨3, ![352, 1, 1024]⟩
abbrev S352x1x1 : Shape := ⟨3, ![352, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S180224x1024, .f32⟩
  | .hbm, ⟨1, _⟩ => ⟨S352, .i32⟩
  | .hbm, ⟨2, _⟩ => ⟨S352, .i32⟩
  | .hbm, ⟨3, _⟩ => ⟨S2x32x1024x2048, .f32⟩
  | .hbm, ⟨4, _⟩ => ⟨S2x32x2048, .f32⟩
  | .hbm, ⟨5, _⟩ => ⟨S2x32x1024x1024, .f32⟩
  | .hbm, ⟨6, _⟩ => ⟨S2x32x1024, .f32⟩
  | .hbm, ⟨7, _⟩ => ⟨S1x32x1024x2048, .f32⟩
  | .hbm, ⟨8, _⟩ => ⟨S32x1024x2048, .f32⟩
  | .hbm, ⟨9, _⟩ => ⟨S1x32x2048, .f32⟩
  | .hbm, ⟨10, _⟩ => ⟨S32x2048, .f32⟩
  | .hbm, ⟨11, _⟩ => ⟨S1x32x1024x1024, .f32⟩
  | .hbm, ⟨12, _⟩ => ⟨S32x1024x1024, .f32⟩
  | .hbm, ⟨13, _⟩ => ⟨S1x32x1024, .f32⟩
  | .hbm, ⟨14, _⟩ => ⟨S32x1024, .f32⟩
  | .hbm, ⟨15, _⟩ => ⟨S352x512x1024, .f32⟩
  | .hbm, ⟨16, _⟩ => ⟨S_, .i32⟩
  | .hbm, ⟨17, _⟩ => ⟨S352, .i32⟩
  | .hbm, ⟨18, _⟩ => ⟨S352, .i1⟩
  | .hbm, ⟨19, _⟩ => ⟨S_, .i32⟩
  | .hbm, ⟨20, _⟩ => ⟨S352, .i32⟩
  | .hbm, ⟨21, _⟩ => ⟨S352, .i32⟩
  | .hbm, ⟨22, _⟩ => ⟨S352, .i32⟩
  | .hbm, ⟨23, _⟩ => ⟨S352x1, .i32⟩
  | .hbm, ⟨24, _⟩ => ⟨S352x1024x2048, .f32⟩
  | .hbm, ⟨25, _⟩ => ⟨S352x512x2048, .f32⟩
  | .hbm, ⟨26, _⟩ => ⟨S_, .i32⟩
  | .hbm, ⟨27, _⟩ => ⟨S352, .i32⟩
  | .hbm, ⟨28, _⟩ => ⟨S352, .i1⟩
  | .hbm, ⟨29, _⟩ => ⟨S_, .i32⟩
  | .hbm, ⟨30, _⟩ => ⟨S352, .i32⟩
  | .hbm, ⟨31, _⟩ => ⟨S352, .i32⟩
  | .hbm, ⟨32, _⟩ => ⟨S352, .i32⟩
  | .hbm, ⟨33, _⟩ => ⟨S352x1, .i32⟩
  | .hbm, ⟨34, _⟩ => ⟨S352x2048, .f32⟩
  | .hbm, ⟨35, _⟩ => ⟨S352x1x2048, .f32⟩
  | .hbm, ⟨36, _⟩ => ⟨S352x512x2048, .f32⟩
  | .hbm, ⟨37, _⟩ => ⟨S352x512x2048, .f32⟩
  | .hbm, ⟨38, _⟩ => ⟨S352x512x1024, .f32⟩
  | .hbm, ⟨39, _⟩ => ⟨S_, .f32⟩
  | .hbm, ⟨40, _⟩ => ⟨S352x512x1024, .f32⟩
  | .hbm, ⟨41, _⟩ => ⟨S352x512x1024, .f32⟩
  | .hbm, ⟨42, _⟩ => ⟨S352x512x1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S352x512x1024, .f32⟩
  | .hbm, ⟨47, _⟩ => ⟨S352x512x1024, .f32⟩
  | .hbm, ⟨48, _⟩ => ⟨S_, .f32⟩
  | .hbm, ⟨49, _⟩ => ⟨S352x512x1024, .f32⟩
  | .hbm, ⟨50, _⟩ => ⟨S352x512x1024, .f32⟩
  | .hbm, ⟨51, _⟩ => ⟨S_, .f32⟩
  | .hbm, ⟨52, _⟩ => ⟨S352x512x1024, .f32⟩
  | .hbm, ⟨53, _⟩ => ⟨S352x512x1024, .f32⟩
  | .hbm, ⟨54, _⟩ => ⟨S352x512x1024, .f32⟩
  | .hbm, ⟨55, _⟩ => ⟨S_, .f32⟩
  | .hbm, ⟨56, _⟩ => ⟨S352x512x1024, .f32⟩
  | .hbm, ⟨57, _⟩ => ⟨S352x512x1024, .f32⟩
  | .hbm, ⟨58, _⟩ => ⟨S352x512x1024, .f32⟩
  | .hbm, ⟨59, _⟩ => ⟨S352x512x1024, .f32⟩
  | .hbm, ⟨60, _⟩ => ⟨S_, .f32⟩
  | .hbm, ⟨61, _⟩ => ⟨S352x512x1024, .f32⟩
  | .hbm, ⟨62, _⟩ => ⟨S352x512x1024, .f32⟩
  | .hbm, ⟨63, _⟩ => ⟨S_, .f32⟩
  | .hbm, ⟨64, _⟩ => ⟨S352x512x1024, .f32⟩
  | .hbm, ⟨65, _⟩ => ⟨S352x512x1024, .f32⟩
  | .hbm, ⟨66, _⟩ => ⟨S352x512x1024, .f32⟩
  | .hbm, ⟨67, _⟩ => ⟨S_, .i32⟩
  | .hbm, ⟨68, _⟩ => ⟨S352, .i32⟩
  | .hbm, ⟨69, _⟩ => ⟨S352, .i1⟩
  | .hbm, ⟨70, _⟩ => ⟨S_, .i32⟩
  | .hbm, ⟨71, _⟩ => ⟨S352, .i32⟩
  | .hbm, ⟨72, _⟩ => ⟨S352, .i32⟩
  | .hbm, ⟨73, _⟩ => ⟨S352, .i32⟩
  | .hbm, ⟨74, _⟩ => ⟨S352x1, .i32⟩
  | .hbm, ⟨75, _⟩ => ⟨S352x1024x1024, .f32⟩
  | .hbm, ⟨76, _⟩ => ⟨S352x512x1024, .f32⟩
  | .hbm, ⟨77, _⟩ => ⟨S_, .i32⟩
  | .hbm, ⟨78, _⟩ => ⟨S352, .i32⟩
  | .hbm, ⟨79, _⟩ => ⟨S352, .i1⟩
  | .hbm, ⟨80, _⟩ => ⟨S_, .i32⟩
  | .hbm, ⟨81, _⟩ => ⟨S352, .i32⟩
  | .hbm, ⟨82, _⟩ => ⟨S352, .i32⟩
  | .hbm, ⟨83, _⟩ => ⟨S352, .i32⟩
  | .hbm, ⟨84, _⟩ => ⟨S352x1, .i32⟩
  | .hbm, ⟨85, _⟩ => ⟨S352x1024, .f32⟩
  | .hbm, ⟨86, _⟩ => ⟨S352x1x1024, .f32⟩
  | .hbm, ⟨87, _⟩ => ⟨S352x512x1024, .f32⟩
  | .hbm, ⟨88, _⟩ => ⟨S352x512x1024, .f32⟩
  | .hbm, ⟨89, _⟩ => ⟨S352x1x1, .i32⟩
  | .hbm, ⟨90, _⟩ => ⟨S_, .i32⟩
  | .hbm, ⟨91, _⟩ => ⟨S352x1x1, .i32⟩
  | .hbm, ⟨92, _⟩ => ⟨S352x1x1, .i1⟩
  | .hbm, ⟨93, _⟩ => ⟨S_, .f32⟩
  | .hbm, ⟨94, _⟩ => ⟨S_, .f32⟩
  | .hbm, ⟨95, _⟩ => ⟨S352x512x1024, .i1⟩
  | .hbm, ⟨96, _⟩ => ⟨S352x512x1024, .f32⟩
  | .hbm, ⟨97, _⟩ => ⟨S352x512x1024, .f32⟩
  | .hbm, ⟨98, _⟩ => ⟨S180224x1024, .f32⟩
  | .hbm, ⟨99, _⟩ => ⟨S180224x1024, .bf16⟩
  | _, _ => ⟨S180224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩

abbrev nD : Nat := 1
abbrev τ : Topo := Topo.v7x

variable {F : FTy → Type} [FloatOps F]
-- ==== Kernel3.lean ====
abbrev S2x32x1024x2048 : Shape := ⟨4, ![2, 32, 1024, 2048]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256 : Shape := ⟨2, ![256, 256]⟩
abbrev S32x1024x1024 : Shape := ⟨3, ![32, 1024, 1024]⟩
abbrev S1x1x256x2048 : Shape := ⟨4, ![1, 1, 256, 2048]⟩
abbrev S1x256x1024 : Shape := ⟨3, ![1, 256, 1024]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 31
  | .vmem => 7
  | .smem => 0
  | _ => 0

abbrev bufTy : (tb : Table) → Fin (tcTables nBuf tb) → BufTy
  | .hbm, ⟨0, _⟩ => ⟨S2x32x1024x2048, .f32⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S1x256, .i32⟩
  | .hbm, ⟨7, _⟩ => ⟨S1x256, .i1⟩
  | .hbm, ⟨8, _⟩ => ⟨S_, .i32⟩
  | .hbm, ⟨9, _⟩ => ⟨S1x256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i1⟩
  | .hbm, ⟨14, _⟩ => ⟨S_, .i32⟩
  | .hbm, ⟨15, _⟩ => ⟨S1x256, .i32⟩
  | .hbm, ⟨16, _⟩ => ⟨S1x256, .i32⟩
  | .hbm, ⟨17, _⟩ => ⟨S_, .i32⟩
  | .hbm, ⟨18, _⟩ => ⟨S1x256, .i32⟩
  | .hbm, ⟨19, _⟩ => ⟨S1x256, .i32⟩
  | .hbm, ⟨20, _⟩ => ⟨S_, .i32⟩
  | .hbm, ⟨21, _⟩ => ⟨S1x256, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S256x256, .bf16⟩
  | .hbm, ⟨29, _⟩ => ⟨S32x1024x1024, .bf16⟩
  | .hbm, ⟨30, _⟩ => ⟨S32x1024x1024, .bf16⟩
  | .local _ .vmem, ⟨0, _⟩ => ⟨S1x1x256x2048, .f32⟩
  | .local _ .vmem, ⟨1, _⟩ => ⟨S1x1x256x2048, .f32⟩
  | .local _ .vmem, ⟨2, _⟩ => ⟨S256x256, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | _, _ => ⟨S2x32x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x32x1024x2048 : Shape := ⟨4, ![2, 32, 1024, 2048]⟩
abbrev S1x32x1024x2048 : Shape := ⟨4, ![1, 32, 1024, 2048]⟩
abbrev S32x1024x2048 : Shape := ⟨3, ![32, 1024, 2048]⟩
abbrev S32x1024x1024 : Shape := ⟨3, ![32, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2x32x1024x2048, .f32⟩
  | .hbm, ⟨1, _⟩ => ⟨S1x32x1024x2048, .f32⟩
  | .hbm, ⟨2, _⟩ => ⟨S32x1024x2048, .f32⟩
  | .hbm, ⟨3, _⟩ => ⟨S32x1024x1024, .f32⟩
  | .hbm, ⟨4, _⟩ => ⟨S32x1024x1024, .bf16⟩
  | .hbm, ⟨5, _⟩ => ⟨S1x32x1024x2048, .f32⟩
  | .hbm, ⟨6, _⟩ => ⟨S32x1024x2048, .f32⟩
  | .hbm, ⟨7, _⟩ => ⟨S32x1024x1024, .f32⟩
  | .hbm, ⟨8, _⟩ => ⟨S32x1024x1024, .bf16⟩
  | _, _ => ⟨S2x32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]
-- ==== Kernel4.lean ====
abbrev S10x8192x1024 : Shape := ⟨3, ![10, 8192, 1024]⟩
abbrev S10x8192x512 : Shape := ⟨3, ![10, 8192, 512]⟩
abbrev S10x8192x7296 : Shape := ⟨3, ![10, 8192, 7296]⟩
abbrev S3072 : Shape := ⟨1, ![3072]⟩
abbrev S128 : Shape := ⟨1, ![128]⟩
abbrev S512x512 : Shape := ⟨2, ![512, 512]⟩
abbrev S512 : Shape := ⟨1, ![512]⟩
abbrev S3x512x1024 : Shape := ⟨3, ![3, 512, 1024]⟩
abbrev S1024x1024 : Shape := ⟨2, ![1024, 1024]⟩
abbrev S1024 : Shape := ⟨1, ![1024]⟩
abbrev S1x3072 : Shape := ⟨2, ![1, 3072]⟩
abbrev S1x128 : Shape := ⟨2, ![1, 128]⟩
abbrev S1x512 : Shape := ⟨2, ![1, 512]⟩
abbrev S1x1024 : Shape := ⟨2, ![1, 1024]⟩
abbrev S1x256x1024 : Shape := ⟨3, ![1, 256, 1024]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 23
  | .vmem => 28
  | .smem => 0
  | _ => 0

abbrev bufTy : (tb : Table) → Fin (tcTables nBuf tb) → BufTy
  | .hbm, ⟨0, _⟩ => ⟨S10x8192x1024, .f32⟩
  | .hbm, ⟨1, _⟩ => ⟨S10x8192x512, .f32⟩
  | .hbm, ⟨2, _⟩ => ⟨S10x8192x512, .f32⟩
  | .hbm, ⟨3, _⟩ => ⟨S10x8192x7296, .f32⟩
  | .hbm, ⟨4, _⟩ => ⟨S10x8192x512, .f32⟩
  | .hbm, ⟨5, _⟩ => ⟨S10x8192x512, .f32⟩
  | .hbm, ⟨6, _⟩ => ⟨S3072, .f32⟩
  | .hbm, ⟨7, _⟩ => ⟨S128, .f32⟩
  | .hbm, ⟨8, _⟩ => ⟨S512x512, .f32⟩
  | .hbm, ⟨9, _⟩ => ⟨S512, .f32⟩
  | .hbm, ⟨10, _⟩ => ⟨S3x512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1x3072, .f32⟩
  | .hbm, ⟨15, _⟩ => ⟨S1x128, .f32⟩
  | .hbm, ⟨16, _⟩ => ⟨S512x512, .bf16⟩
  | .hbm, ⟨17, _⟩ => ⟨S1x512, .f32⟩
  | .hbm, ⟨18, _⟩ => ⟨S3x512x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S10x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x3072, .f32⟩
  | .local _ .vmem, ⟨19, _⟩ => ⟨S1x128, .f32⟩
  | .local _ .vmem, ⟨20, _⟩ => ⟨S512x512, .bf16⟩
  | .local _ .vmem, ⟨21, _⟩ => ⟨S1x512, .f32⟩
  | .local _ .vmem, ⟨22, _⟩ => ⟨S3x512x1024, .bf16⟩
  | .local _ .vmem, ⟨23, _⟩ => ⟨S1024x1024, .bf16⟩
  | .local _ .vmem, ⟨24, _⟩ => ⟨S1x1024, .f32⟩
  | .local _ .vmem, ⟨25, _⟩ => ⟨S1x1024, .f32⟩
  | .local _ .vmem, ⟨26, _⟩ => ⟨S1x256x1024, .f32⟩
  | .local _ .vmem, ⟨27, _⟩ => ⟨S1x256x1024, .f32⟩
  | _, _ => ⟨S10x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![10, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_8 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S10x8192x1024 : Shape := ⟨3, ![10, 8192, 1024]⟩
abbrev S10x8192x512 : Shape := ⟨3, ![10, 8192, 512]⟩
abbrev S10x8192x7296 : Shape := ⟨3, ![10, 8192, 7296]⟩
abbrev S3072 : Shape := ⟨1, ![3072]⟩
abbrev S128 : Shape := ⟨1, ![128]⟩
abbrev S512x512 : Shape := ⟨2, ![512, 512]⟩
abbrev S512 : Shape := ⟨1, ![512]⟩
abbrev S3x512x1024 : Shape := ⟨3, ![3, 512, 1024]⟩
abbrev S1024x1024 : Shape := ⟨2, ![1024, 1024]⟩
abbrev S1024 : Shape := ⟨1, ![1024]⟩
abbrev S10x8192x3072 : Shape := ⟨3, ![10, 8192, 3072]⟩
abbrev S10x8192x4x128 : Shape := ⟨4, ![10, 8192, 4, 128]⟩
abbrev S_ : Shape := ⟨0, ![]⟩
abbrev S10x8192x4 : Shape := ⟨3, ![10, 8192, 4]⟩
abbrev S10x8192x4x1 : Shape := ⟨4, ![10, 8192, 4, 1]⟩
abbrev S1x1x1x128 : Shape := ⟨4, ![1, 1, 1, 128]⟩
abbrev S1x1x512 : Shape := ⟨3, ![1, 1, 512]⟩
abbrev S1x1x3072 : Shape := ⟨3, ![1, 1, 3072]⟩
abbrev S10x8192x3x1024 : Shape := ⟨4, ![10, 8192, 3, 1024]⟩
abbrev S10x8192x1x1024 : Shape := ⟨4, ![10, 8192, 1, 1024]⟩
abbrev S1x512x1024 : Shape := ⟨3, ![1, 512, 1024]⟩
abbrev S512x1024 : Shape := ⟨2, ![512, 1024]⟩
abbrev S10x8192 : Shape := ⟨2, ![10, 8192]⟩
abbrev S10x8192x1 : Shape := ⟨3, ![10, 8192, 1]⟩
abbrev S1x1x1024 : Shape := ⟨3, ![1, 1, 1024]⟩

abbrev nBuf : Space → Nat
  | .hbm => 142
  | .vmem => 0
  | .smem => 0
  | _ => 0

abbrev hbmTy0_0 (i : Nat) : BufTy := match i % 128 with
  | 0 => ⟨S10x8192x1024, .f32⟩
  | 1 => ⟨S10x8192x512, .f32⟩
  | 2 => ⟨S10x8192x512, .f32⟩
  | 3 => ⟨S10x8192x7296, .f32⟩
  | 4 => ⟨S10x8192x512, .f32⟩
  | 5 => ⟨S10x8192x512, .f32⟩
  | 6 => ⟨S3072, .f32⟩
  | 7 => ⟨S128, .f32⟩
  | 8 => ⟨S512x512, .f32⟩
  | 9 => ⟨S512, .f32⟩
  | 10 => ⟨S3x512x1024, .f32⟩
  | 11 => ⟨S1024x1024, .f32⟩
  | 12 => ⟨S1024, .f32⟩
  | 13 => ⟨S1024, .f32⟩
  | 14 => ⟨S10x8192x512, .f32⟩
  | 15 => ⟨S10x8192x3072, .f32⟩
  | 16 => ⟨S10x8192x512, .f32⟩
  | 17 => ⟨S10x8192x4x128, .f32⟩
  | 18 => ⟨S10x8192x4x128, .f32⟩
  | 19 => ⟨S_, .f32⟩
  | 20 => ⟨S10x8192x4, .f32⟩
  | 21 => ⟨S10x8192x4x1, .f32⟩
  | 22 => ⟨S_, .f32⟩
  | 23 => ⟨S10x8192x4x1, .f32⟩
  | 24 => ⟨S10x8192x4x1, .f32⟩
  | 25 => ⟨S_, .f32⟩
  | 26 => ⟨S10x8192x4x1, .f32⟩
  | 27 => ⟨S10x8192x4x1, .f32⟩
  | 28 => ⟨S10x8192x4x1, .f32⟩
  | 29 => ⟨S10x8192x4x128, .f32⟩
  | 30 => ⟨S10x8192x4x128, .f32⟩
  | 31 => ⟨S1x1x1x128, .f32⟩
  | 32 => ⟨S10x8192x4x128, .f32⟩
  | 33 => ⟨S10x8192x4x128, .f32⟩
  | 34 => ⟨S10x8192x4x128, .f32⟩
  | 35 => ⟨S10x8192x4x128, .f32⟩
  | 36 => ⟨S10x8192x4x128, .f32⟩
  | 37 => ⟨S_, .f32⟩
  | 38 => ⟨S10x8192x4x128, .f32⟩
  | 39 => ⟨S10x8192x4x128, .f32⟩
  | 40 => ⟨S_, .f32⟩
  | 41 => ⟨S10x8192x4x128, .f32⟩
  | 42 => ⟨S10x8192x4x128, .f32⟩
  | 43 => ⟨S10x8192x4x128, .f32⟩
  | 44 => ⟨S10x8192x4x128, .f32⟩
  | 45 => ⟨S10x8192x512, .f32⟩
  | 46 => ⟨S10x8192x512, .f32⟩
  | 47 => ⟨S10x8192x512, .f32⟩
  | 48 => ⟨S_, .f32⟩
  | 49 => ⟨S10x8192x512, .f32⟩
  | 50 => ⟨S10x8192x512, .f32⟩
  | 51 => ⟨S10x8192x512, .f32⟩
  | 52 => ⟨S_, .f32⟩
  | 53 => ⟨S10x8192x512, .f32⟩
  | 54 => ⟨S10x8192x512, .f32⟩
  | 55 => ⟨S10x8192x512, .f32⟩
  | 56 => ⟨S_, .f32⟩
  | 57 => ⟨S10x8192x512, .f32⟩
  | 58 => ⟨S10x8192x512, .f32⟩
  | 59 => ⟨S_, .f32⟩
  | 60 => ⟨S10x8192x512, .f32⟩
  | 61 => ⟨S10x8192x512, .f32⟩
  | 62 => ⟨S10x8192x512, .f32⟩
  | 63 => ⟨S10x8192x512, .f32⟩
  | 64 => ⟨S1x1x512, .f32⟩
  | 65 => ⟨S10x8192x512, .f32⟩
  | 66 => ⟨S10x8192x512, .f32⟩
  | 67 => ⟨S10x8192x512, .f32⟩
  | 68 => ⟨S10x8192x512, .f32⟩
  | 69 => ⟨S_, .f32⟩
  | 70 => ⟨S10x8192x512, .f32⟩
  | 71 => ⟨S10x8192x512, .f32⟩
  | 72 => ⟨S_, .f32⟩
  | 73 => ⟨S10x8192x512, .f32⟩
  | 74 => ⟨S10x8192x512, .f32⟩
  | 75 => ⟨S10x8192x512, .f32⟩
  | 76 => ⟨S1x1x3072, .f32⟩
  | 77 => ⟨S10x8192x3072, .f32⟩
  | 78 => ⟨S10x8192x3072, .f32⟩
  | 79 => ⟨S10x8192x3072, .f32⟩
  | 80 => ⟨S10x8192x3072, .f32⟩
  | 81 => ⟨S_, .f32⟩
  | 82 => ⟨S10x8192x3072, .f32⟩
  | 83 => ⟨S10x8192x3072, .f32⟩
  | 84 => ⟨S_, .f32⟩
  | 85 => ⟨S10x8192x3072, .f32⟩
  | 86 => ⟨S10x8192x3072, .f32⟩
  | 87 => ⟨S10x8192x3x1024, .f32⟩
  | 88 => ⟨S10x8192x1x1024, .f32⟩
  | 89 => ⟨S10x8192x1024, .f32⟩
  | 90 => ⟨S1x512x1024, .f32⟩
  | 91 => ⟨S512x1024, .f32⟩
  | 92 => ⟨S10x8192x1024, .f32⟩
  | 93 => ⟨S10x8192x1024, .f32⟩
  | 94 => ⟨S10x8192x1x1024, .f32⟩
  | 95 => ⟨S10x8192x1024, .f32⟩
  | 96 => ⟨S1x512x1024, .f32⟩
  | 97 => ⟨S512x1024, .f32⟩
  | 98 => ⟨S10x8192x1024, .f32⟩
  | 99 => ⟨S10x8192x1024, .f32⟩
  | 100 => ⟨S10x8192x1024, .f32⟩
  | 101 => ⟨S10x8192x1x1024, .f32⟩
  | 102 => ⟨S10x8192x1024, .f32⟩
  | 103 => ⟨S1x512x1024, .f32⟩
  | 104 => ⟨S512x1024, .f32⟩
  | 105 => ⟨S10x8192x1024, .f32⟩
  | 106 => ⟨S10x8192x1024, .f32⟩
  | 107 => ⟨S10x8192x1024, .f32⟩
  | 108 => ⟨S_, .f32⟩
  | 109 => ⟨S10x8192x1024, .f32⟩
  | 110 => ⟨S10x8192x1024, .f32⟩
  | 111 => ⟨S10x8192x1024, .f32⟩
  | 112 => ⟨S10x8192x1024, .f32⟩
  | 113 => ⟨S_, .f32⟩
  | 114 => ⟨S10x8192, .f32⟩
  | 115 => ⟨S10x8192x1, .f32⟩
  | 116 => ⟨S_, .f32⟩
  | 117 => ⟨S10x8192x1, .f32⟩
  | 118 => ⟨S10x8192x1, .f32⟩
  | 119 => ⟨S10x8192x1024, .f32⟩
  | 120 => ⟨S10x8192x1024, .f32⟩
  | 121 => ⟨S10x8192x1024, .f32⟩
  | 122 => ⟨S_, .f32⟩
  | 123 => ⟨S10x8192, .f32⟩
  | 124 => ⟨S10x8192x1, .f32⟩
  | 125 => ⟨S_, .f32⟩
  | 126 => ⟨S10x8192x1, .f32⟩
  | 127 => ⟨S10x8192x1, .f32⟩
  | _ => ⟨S10x8192x1024, .f32⟩

abbrev hbmTy0_1 (i : Nat) : BufTy := match i % 128 with
  | 0 => ⟨S10x8192x1024, .f32⟩
  | 1 => ⟨S10x8192x1024, .f32⟩
  | 2 => ⟨S_, .f32⟩
  | 3 => ⟨S10x8192x1, .f32⟩
  | 4 => ⟨S10x8192x1, .f32⟩
  | 5 => ⟨S10x8192x1, .f32⟩
  | 6 => ⟨S10x8192x1024, .f32⟩
  | 7 => ⟨S10x8192x1024, .f32⟩
  | 8 => ⟨S1x1x1024, .f32⟩
  | 9 => ⟨S10x8192x1024, .f32⟩
  | 10 => ⟨S10x8192x1024, .f32⟩
  | 11 => ⟨S1x1x1024, .f32⟩
  | 12 => ⟨S10x8192x1024, .f32⟩
  | 13 => ⟨S10x8192x1024, .f32⟩
  | _ => ⟨S10x8192x1024, .f32⟩

abbrev hbmTy (i : Nat) : BufTy := match i / 128 with
  | 0 => hbmTy0_0 i
  | 1 => hbmTy0_1 i
  | _ => ⟨S10x8192x1024, .f32⟩

abbrev bufTy : (tb : Table) → Fin (tcTables nBuf tb) → BufTy
  | .hbm, ⟨i, _⟩ => hbmTy i
  | _, _ => ⟨S10x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_6 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_8 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_10 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_11 : Ref sig .tc := ⟨.hbm, 113, rfl⟩
abbrev main_v79 : Ref sig .tc := ⟨.hbm, 114, rfl⟩
abbrev main_v80 : Ref sig .tc := ⟨.hbm, 115, rfl⟩
abbrev main_cst_12 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_13 : Ref sig .tc := ⟨.hbm, 122, rfl⟩
abbrev main_v86 : Ref sig .tc := ⟨.hbm, 123, rfl⟩
abbrev main_v87 : Ref sig .tc := ⟨.hbm, 124, rfl⟩
abbrev main_cst_14 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_15 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]
-- ==== Proof.Ideal.Proj.lean ====
/- The projection matmul of the program read over the extended reals: what its body leaves and its pipeline data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point of the grid. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0
abbrev r0_1 : Rect S1024x2432 := Rect.unit (s := S1024x2432) ![0, 0] S1024x2432.size inb_S1024x2432_S1024x2432_0_0

/-- What the matmul leaves in its output tile: the product of the two input tiles. -/
def out0_2 (x0 : Vec F S1024x1024 .f32) (x1 : Vec F S1024x2432 .bf16) : Vec F S1024x2432 .f32 :=
  View.canon [⟨r0_1, k0_pay1 (View.ld x0 r0_0) (View.ld x1 r0_1)⟩]

theorem cover0_2 (p0 : Vec F S1024x2432 .f32) (y : S1024x2432.Idx) :
    ∃ pc ∈ ([⟨r0_1, p0⟩] : List (View.Piece (Elt F) S1024x2432 .f32)), y ∈ pc.1.set :=
  View.cover_of_tiled [⟨r0_1, p0⟩] S1024x2432.size (by rfl) y

set_option maxHeartbeats 1000000 in
/-- The matmul's body on any whole staging buffers: the inputs stay, the output is `out0_2` of them. -/
theorem sound_kernel0 (c : Dev nD) (E : Set ℕ) (i : grid0.Coords) (arg2 : Memref sig .tc .vmem S1024x1024 .f32) (harg2 : arg2.IsWhole) (arg3 : Memref sig .tc .vmem S1024x2432 .bf16) (harg3 : arg3.IsWhole) (arg4 : Memref sig .tc .vmem S1024x2432 .f32) (harg4 : arg4.IsWhole)
    (x0 : Vec F S1024x1024 .f32) (x1 : Vec F S1024x2432 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0_matmul i arg2 harg2 arg3 harg3 arg4 harg4) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the matmul's pipeline holds: the arrays found, each input's block in place, the output tile after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

/-- The matmul's body meets its pipeline's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Ideal.Rope.lean ====
/- The rotary call of the program read over the extended reals: what its body leaves and its pipeline data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A default for the part of a staging buffer a fetch would not fill; there is none, and nothing reads it. -/
def dflt1 (w : Fin cfg1.W) : (cfg1.win w).block.Idx → Elt F (cfg1.win w).elt := fun _ => Classical.choice inferInstance
/-- What the staging buffer of input window `w` holds at point `t`: the block read off the array, typed at the whole block. -/
def X1 (c : Dev nD) (w : Fin cfg1.W) (t : Fin cfg1.N) : (cfg1.win w).block.Idx → Elt F (cfg1.win w).elt :=
  (cfg1.win w).fill (cfg1.grid.coords t) (dflt1 w) (iblk1 V c w t)
theorem xsize1_0 : ∀ t : Fin cfg1.N, ∀ a, (cfg1.win 0).xsize (cfg1.grid.coords t) a = (cfg1.win 0).size a := by decide +kernel
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j
  have hm : (cfg1.win 0).moved (cfg1.grid.coords t) j = true :=
    ((cfg1.win 0).moved_iff _ j).mpr fun a => by rw [xsize1_0 t a]; exact (j a).isLt
  unfold Pipeline.Window.fill; rw [dif_pos hm, dif_pos hm]
theorem before1_0_of {c : Dev nD} (dat : Dat τ (Elt F) Unit ℕ (UR sig nD τ) ℕ cfg1 c) (hA : dat.A 0 = V c (Pipeline.arrRef spec1 0))
    (hafter : ∀ t, dat.after 0 t = X1 V c 0 t) (t : Fin cfg1.N) (d) : dat.before 0 t d = X1 V c 0 t :=
  (dat.before_in_eq_fetched 0 rfl (fun _ => rfl)
      (fun t t' h => funext fun a => congrArg (fun n => Pipeline.Clip.of n ((cfg1.win 0).size a) (S10x8192x7296.size a)) (congrFun h a))
      (fun t => by rw [hafter]; unfold X1; rw [Pipeline.Window.cut_fill]; unfold Dat.blockOf iblk1; rw [hA]; try rfl) t d).trans
    (by unfold Dat.fetched X1; rw [fill1_0 t d (dflt1 0)]; unfold Dat.blockOf iblk1; rw [hA]; try rfl)
theorem xsize1_1 : ∀ t : Fin cfg1.N, ∀ a, (cfg1.win 1).xsize (cfg1.grid.coords t) a = (cfg1.win 1).size a := by decide +kernel
theorem fill1_1 (t : Fin cfg1.N) (d d' : (cfg1.win 1).block.Idx → Elt F (cfg1.win 1).elt) (g) :
    (cfg1.win 1).fill (cfg1.grid.coords t) d g = (cfg1.win 1).fill (cfg1.grid.coords t) d' g := by
  funext j
  have hm : (cfg1.win 1).moved (cfg1.grid.coords t) j = true :=
    ((cfg1.win 1).moved_iff _ j).mpr fun a => by rw [xsize1_1 t a]; exact (j a).isLt
  unfold Pipeline.Window.fill; rw [dif_pos hm, dif_pos hm]
theorem before1_1_of {c : Dev nD} (dat : Dat τ (Elt F) Unit ℕ (UR sig nD τ) ℕ cfg1 c) (hA : dat.A 1 = V c (Pipeline.arrRef spec1 1))
    (hafter : ∀ t, dat.after 1 t = X1 V c 1 t) (t : Fin cfg1.N) (d) : dat.before 1 t d = X1 V c 1 t :=
  (dat.before_in_eq_fetched 1 rfl (fun _ => rfl)
      (fun t t' h => funext fun a => congrArg (fun n => Pipeline.Clip.of n ((cfg1.win 1).size a) (S10x8192x7296.size a)) (congrFun h a))
      (fun t => by rw [hafter]; unfold X1; rw [Pipeline.Window.cut_fill]; unfold Dat.blockOf iblk1; rw [hA]; try rfl) t d).trans
    (by unfold Dat.fetched X1; rw [fill1_1 t d (dflt1 1)]; unfold Dat.blockOf iblk1; rw [hA]; try rfl)
theorem xsize1_2 : ∀ t : Fin cfg1.N, ∀ a, (cfg1.win 2).xsize (cfg1.grid.coords t) a = (cfg1.win 2).size a := by decide +kernel
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j
  have hm : (cfg1.win 2).moved (cfg1.grid.coords t) j = true :=
    ((cfg1.win 2).moved_iff _ j).mpr fun a => by rw [xsize1_2 t a]; exact (j a).isLt
  unfold Pipeline.Window.fill; rw [dif_pos hm, dif_pos hm]
theorem before1_2_of {c : Dev nD} (dat : Dat τ (Elt F) Unit ℕ (UR sig nD τ) ℕ cfg1 c) (hA : dat.A 2 = V c (Pipeline.arrRef spec1 2))
    (hafter : ∀ t, dat.after 2 t = X1 V c 2 t) (t : Fin cfg1.N) (d) : dat.before 2 t d = X1 V c 2 t :=
  (dat.before_in_eq_fetched 2 rfl (fun _ => rfl)
      (fun t t' h => funext fun a => congrArg (fun n => Pipeline.Clip.of n ((cfg1.win 2).size a) (S10x8192x7296.size a)) (congrFun h a))
      (fun t => by rw [hafter]; unfold X1; rw [Pipeline.Window.cut_fill]; unfold Dat.blockOf iblk1; rw [hA]; try rfl) t d).trans
    (by unfold Dat.fetched X1; rw [fill1_2 t d (dflt1 2)]; unfold Dat.blockOf iblk1; rw [hA]; try rfl)

/-- An input window's staging buffer holds its block at every point of the grid. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S512x128 := Rect.unit (s := S512x128) ![0, 0] S512x128.size inb_S512x128_S512x128_0_0
abbrev r1_1 : Rect S1x512x512 := Rect.unit (s := S1x512x512) ![0, 0, 0] S1x512x512.size inb_S1x512x512_S1x512x512_0_0_0

def k1_pay13 (x0 : Vec F S1x512x512 .f32) (x1 : Vec F S1x512x512 .f32) (x2 : Vec F S1x512x512 .f32) (x3 : Vec F S512x128 .f32) (x4 : Vec F S512x128 .f32) : IVec S1x512 32 :=
  iota .tc S1x512 32 [1] iota_S1x512_d1_w32

/-- The rotated and scaled queries of one tile. -/
def k1_pay14 (x0 : Vec F S1x512x512 .f32) (x1 : Vec F S1x512x512 .f32) (x2 : Vec F S1x512x512 .f32) (x3 : Vec F S512x128 .f32) (x4 : Vec F S512x128 .f32) : FVec F S512x512 .f32 :=
  k1_pay6 (View.ld x3 r1_0) (View.ld x4 r1_0) (View.ld x0 r1_1)

/-- What the rotary call leaves in its first output: the rotated, scaled queries with the second half of every head zeroed. -/
def out1_5 (x0 : Vec F S1x512x512 .f32) (x1 : Vec F S1x512x512 .f32) (x2 : Vec F S1x512x512 .f32) (x3 : Vec F S512x128 .f32) (x4 : Vec F S512x128 .f32) : Vec F S1x512x512 .bf16 :=
  View.canon [⟨r1_1, k1_pay8 (k1_pay13 x0 x1 x2 x3 x4) (k1_pay14 x0 x1 x2 x3 x4) 128#32 (Scalar.cmpi .eq 128#32 0#32) 1#32⟩]

theorem cover1_5 (p0 : Vec F S1x512x512 .bf16) (y : S1x512x512.Idx) :
    ∃ pc ∈ ([⟨r1_1, p0⟩] : List (View.Piece (Elt F) S1x512x512 .bf16)), y ∈ pc.1.set :=
  View.cover_of_tiled [⟨r1_1, p0⟩] S1x512x512.size (by rfl) y

/-- The same with the first half of every head zeroed. -/
def out1_6 (x0 : Vec F S1x512x512 .f32) (x1 : Vec F S1x512x512 .f32) (x2 : Vec F S1x512x512 .f32) (x3 : Vec F S512x128 .f32) (x4 : Vec F S512x128 .f32) : Vec F S1x512x512 .bf16 :=
  View.canon [⟨r1_1, k1_pay9 (k1_pay13 x0 x1 x2 x3 x4) (k1_pay14 x0 x1 x2 x3 x4) 128#32 (Scalar.cmpi .eq 128#32 0#32) 1#32⟩]

theorem cover1_6 (p0 : Vec F S1x512x512 .bf16) (y : S1x512x512.Idx) :
    ∃ pc ∈ ([⟨r1_1, p0⟩] : List (View.Piece (Elt F) S1x512x512 .bf16)), y ∈ pc.1.set :=
  View.cover_of_tiled [⟨r1_1, p0⟩] S1x512x512.size (by rfl) y

/-- The rotated keys. -/
def out1_7 (x0 : Vec F S1x512x512 .f32) (x1 : Vec F S1x512x512 .f32) (x2 : Vec F S1x512x512 .f32) (x3 : Vec F S512x128 .f32) (x4 : Vec F S512x128 .f32) : Vec F S1x512x512 .bf16 :=
  View.canon [⟨r1_1, k1_pay1 (k1_pay4 (View.ld x4 r1_0)) (k1_pay11 k1_pay5 (View.ld x1 r1_1)) (k1_pay12 (k1_pay3 (View.ld x3 r1_0)) (View.ld x1 r1_1))⟩]

theorem cover1_7 (p0 : Vec F S1x512x512 .bf16) (y : S1x512x512.Idx) :
    ∃ pc ∈ ([⟨r1_1, p0⟩] : List (View.Piece (Elt F) S1x512x512 .bf16)), y ∈ pc.1.set :=
  View.cover_of_tiled [⟨r1_1, p0⟩] S1x512x512.size (by rfl) y

/-- The values, passed on. -/
def out1_8 (x0 : Vec F S1x512x512 .f32) (x1 : Vec F S1x512x512 .f32) (x2 : Vec F S1x512x512 .f32) (x3 : Vec F S512x128 .f32) (x4 : Vec F S512x128 .f32) : Vec F S1x512x512 .bf16 :=
  View.canon [⟨r1_1, k1_pay2 (View.ld x2 r1_1)⟩]

theorem cover1_8 (p0 : Vec F S1x512x512 .bf16) (y : S1x512x512.Idx) :
    ∃ pc ∈ ([⟨r1_1, p0⟩] : List (View.Piece (Elt F) S1x512x512 .bf16)), y ∈ pc.1.set :=
  View.cover_of_tiled [⟨r1_1, p0⟩] S1x512x512.size (by rfl) y

set_option maxHeartbeats 1000000 in
/-- The rotary body on any whole staging buffers: the inputs stay, each output is its function of them. -/
theorem sound_kernel1 (c : Dev nD) (E : Set ℕ) (i : grid1.Coords) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .bf16) (harg10 : arg10.IsWhole)
    (x0 : Vec F S1x512x512 .f32) (x1 : Vec F S1x512x512 .f32) (x2 : Vec F S1x512x512 .f32) (x3 : Vec F S512x128 .f32) (x4 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4) ∗ owns (c : Thread nD τ) arg8 fullShare (out1_6 x0 x1 x2 x3 x4) ∗ owns (c : Thread nD τ) arg9 fullShare (out1_7 x0 x1 x2 x3 x4) ∗ owns (c : Thread nD τ) arg10 fullShare (out1_8 x0 x1 x2 x3 x4)) -∗ K ⟨⟩))
      ⊢ wp frame (wpE (defs₀ (F := F)) Variants.none c none) E (cc1_rope_prep i arg2 harg2 arg3 harg3 arg4 harg4 arg5 harg5 arg6 harg6 arg7 harg7 arg8 harg8 arg9 harg9 arg10 harg10) K := by
  simp only [cc1_rope_prep_eq_skeleton]; unfold cc1_rope_prep_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_6 _)).trans ?_
    rfl
  isplitl [H7]
  · iexists _; isplitr
    swap; · iexact H7
    ipureintro
    refine (View.read_writes_eq_canon _ _ _ (cover1_7 _)).trans ?_
    rfl
  iexists _; isplitr
  swap; · iexact H8
  ipureintro
  refine (View.read_writes_eq_canon _ _ _ (cover1_8 _)).trans ?_
  rfl

/-- What the rotary pipeline holds; its three windows on the projection share that array. -/
def dat1 (c : Dev nD) : Dat τ (Elt F) Unit ℕ (UR sig nD τ) ℕ cfg1 c where
  A w := V c (Pipeline.arrRef spec1 w)
  after w t := match w with
    | ⟨0, _⟩ => X1 V c 0 t
    | ⟨1, _⟩ => X1 V c 1 t
    | ⟨2, _⟩ => X1 V c 2 t
    | ⟨3, _⟩ => iblk1 V c 3 t
    | ⟨4, _⟩ => iblk1 V c 4 t
    | ⟨5, _⟩ => out1_5 (X1 V c 0 t) (X1 V c 1 t) (X1 V c 2 t) (iblk1 V c 3 t) (iblk1 V c 4 t)
    | ⟨6, _⟩ => out1_6 (X1 V c 0 t) (X1 V c 1 t) (X1 V c 2 t) (iblk1 V c 3 t) (iblk1 V c 4 t)
    | ⟨7, _⟩ => out1_7 (X1 V c 0 t) (X1 V c 1 t) (X1 V c 2 t) (iblk1 V c 3 t) (iblk1 V c 4 t)
    | ⟨8, _⟩ => out1_8 (X1 V c 0 t) (X1 V c 1 t) (X1 V c 2 t) (iblk1 V c 3 t) (iblk1 V c 4 t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = X1 V c 0 t := by dsimp only [dat1]
theorem after1_1 (c : Dev nD) (t : Fin cfg1.N) : (dat1 V c).after 1 t = X1 V c 1 t := by dsimp only [dat1]
theorem after1_2 (c : Dev nD) (t : Fin cfg1.N) : (dat1 V c).after 2 t = X1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (X1 V c 0 t) (X1 V c 1 t) (X1 V c 2 t) (iblk1 V c 3 t) (iblk1 V c 4 t) := by dsimp only [dat1]
theorem after1_6 (c : Dev nD) (t : Fin cfg1.N) : (dat1 V c).after 6 t = out1_6 (X1 V c 0 t) (X1 V c 1 t) (X1 V c 2 t) (iblk1 V c 3 t) (iblk1 V c 4 t) := by dsimp only [dat1]
theorem after1_7 (c : Dev nD) (t : Fin cfg1.N) : (dat1 V c).after 7 t = out1_7 (X1 V c 0 t) (X1 V c 1 t) (X1 V c 2 t) (iblk1 V c 3 t) (iblk1 V c 4 t) := by dsimp only [dat1]
theorem after1_8 (c : Dev nD) (t : Fin cfg1.N) : (dat1 V c).after 8 t = out1_8 (X1 V c 0 t) (X1 V c 1 t) (X1 V c 2 t) (iblk1 V c 3 t) (iblk1 V c 4 t) := by dsimp only [dat1]

theorem before1_0 (c : Dev nD) (t : Fin cfg1.N) (d) : (dat1 V c).before 0 t d = X1 V c 0 t :=
  before1_0_of V (dat1 V c) (A_eq1 V c 0) (after1_0 V c) t d
theorem before1_1 (c : Dev nD) (t : Fin cfg1.N) (d) : (dat1 V c).before 1 t d = X1 V c 1 t :=
  before1_1_of V (dat1 V c) (A_eq1 V c 1) (after1_1 V c) t d
theorem before1_2 (c : Dev nD) (t : Fin cfg1.N) (d) : (dat1 V c).before 2 t d = X1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ (X1 V c 0 t) (X1 V c 1 t) (X1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row1 (t : Fin cfg1.N) :
    defs₀ (F := F) .tc cfg1.body (cfg1.bodyArgs t (cfg1.slots t)) = bodyAt1 t := by
  unfold defs₀; rw [Defs.onTc_tc]

/-- The rotary body meets its pipeline's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Ideal.Attn.lean ====
/- The attention call of the program read over the extended reals: what its body leaves and its pipeline data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off the array the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point of the grid. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

abbrev VO2_9 : View sig .tc .vmem S1x256x128 .f32 := (Memref.whole cc2_stg9_0 : Memref sig .tc .vmem S1x256x128 .f32).view
abbrev ms2_0 (t : Fin cfg2.N) : Memref sig .tc .vmem S1x256x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x8192x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x8192x128 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x256x128 .f32 := win2_9.stage (cfg2.slots t 9)
abbrev hs2_9 (t : Fin cfg2.N) : (ms2_9 t).IsWhole := hstage2_9 ((cfg2.slots t 9).cast nbuf2_9)
abbrev scM2_0 : Memref sig .tc .vmem S16x512x512 .f32 := Memref.whole cc2_scratch0

theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ Pipeline.scopedRestBut spec2 c [cc2_scratch0]) := by
  rw [scopedRest2_split]

theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA; rw [scopedRest2_flat]; simp only [scM2_0, owns_whole]; try rfl

set_option maxHeartbeats 1000000 in
/-- The attention body on any whole staging buffers: what it stores in its output and in its score scratch, with the proof that it runs. -/
noncomputable def kernelRun2_A (c : Dev nD) (i : grid2.Coords) (arg3 : Memref sig .tc .vmem S1x256x128 .bf16) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .f32) (harg12 : arg12.IsWhole) (arg13 : Memref sig .tc .vmem S16x512x512 .f32) (harg13 : arg13.IsWhole)
    (x0 : Vec F S1x256x128 .bf16) (x1 : Vec F S1x256x128 .bf16) (x2 : Vec F S1x8192x128 .bf16) (x3 : Vec F S1x8192x128 .bf16) (x4 : Vec F S1x64 .f32) (x5 : Vec F S1x64 .f32) (x6 : Vec F S1x64 .f32) (x7 : Vec F S1x64 .f32) (x8 : Vec F S1x128 .f32) :
    Σ' (L9 : List (View.Piece (Elt F) S1x256x128 .f32)), { LT0 : List (View.Piece (Elt F) S16x512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LT0)) -∗ K ⟨⟩))
          ⊢ wp frame (wpE (defs₀ (F := F)) Variants.none c none) E (cc2_diff_attn i arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc2_diff_attn_eq_skeleton]; unfold cc2_diff_attn_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]; · iexists _; iexact H9
    iexists _; iexact HS0

/-- The one store of the attention body fills its output tile. -/
theorem cover2_A_9 (c : Dev nD) (i : grid2.Coords) (arg3 : Memref sig .tc .vmem S1x256x128 .bf16) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .f32) (harg12 : arg12.IsWhole) (arg13 : Memref sig .tc .vmem S16x512x512 .f32) (harg13 : arg13.IsWhole)
    (x0 : Vec F S1x256x128 .bf16) (x1 : Vec F S1x256x128 .bf16) (x2 : Vec F S1x8192x128 .bf16) (x3 : Vec F S1x8192x128 .bf16) (x4 : Vec F S1x64 .f32) (x5 : Vec F S1x64 .f32) (x6 : Vec F S1x64 .f32) (x7 : Vec F S1x64 .f32) (x8 : Vec F S1x128 .f32) (y : S1x256x128.Idx) :
    ∃ pc ∈ (kernelRun2_A c i arg3 harg3 arg4 harg4 arg5 harg5 arg6 harg6 arg7 harg7 arg8 harg8 arg9 harg9 arg10 harg10 arg11 harg11 arg12 harg12 arg13 harg13 x0 x1 x2 x3 x4 x5 x6 x7 x8).1, y ∈ pc.1.set :=
  View.cover_of_tiledL (kernelRun2_A c i arg3 harg3 arg4 harg4 arg5 harg5 arg6 harg6 arg7 harg7 arg8 harg8 arg9 harg9 arg10 harg10 arg11 harg11 arg12 harg12 arg13 harg13 x0 x1 x2 x3 x4 x5 x6 x7 x8).1 S1x256x128.size (by sl_kernel_rfl) y

/-- What the attention body leaves in its output tile. -/
def out2_A_9 (c : Dev nD) (i : grid2.Coords) (arg3 : Memref sig .tc .vmem S1x256x128 .bf16) (harg3 : arg3.IsWhole) (arg4 : Memref sig .tc .vmem S1x256x128 .bf16) (harg4 : arg4.IsWhole) (arg5 : Memref sig .tc .vmem S1x8192x128 .bf16) (harg5 : arg5.IsWhole) (arg6 : Memref sig .tc .vmem S1x8192x128 .bf16) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x256x128 .f32) (harg12 : arg12.IsWhole) (arg13 : Memref sig .tc .vmem S16x512x512 .f32) (harg13 : arg13.IsWhole)
    (x0 : Vec F S1x256x128 .bf16) (x1 : Vec F S1x256x128 .bf16) (x2 : Vec F S1x8192x128 .bf16) (x3 : Vec F S1x8192x128 .bf16) (x4 : Vec F S1x64 .f32) (x5 : Vec F S1x64 .f32) (x6 : Vec F S1x64 .f32) (x7 : Vec F S1x64 .f32) (x8 : Vec F S1x128 .f32) : Vec F S1x256x128 .f32 :=
  VO2_9.read (Elt F) (VO2_9.writes (Elt F) VO2_9.junk (kernelRun2_A c i arg3 harg3 arg4 harg4 arg5 harg5 arg6 harg6 arg7 harg7 arg8 harg8 arg9 harg9 arg10 harg10 arg11 harg11 arg12 harg12 arg13 harg13 x0 x1 x2 x3 x4 x5 x6 x7 x8).1)

/-- The output tile after the body at point `t`. -/
def outsAt2 (c : Dev nD) (t : Fin cfg2.N) : Vec F S1x256x128 .f32 :=
  out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk2 V c 0 t) (iblk2 V c 1 t) (iblk2 V c 2 t) (iblk2 V c 3 t) (iblk2 V c 4 t) (iblk2 V c 5 t) (iblk2 V c 6 t) (iblk2 V c 7 t) (iblk2 V c 8 t)

/-- What the attention pipeline holds. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => (outsAt2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = (outsAt2 V c t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  rw [show (dat2 V c).Φ t.castSucc = Pipeline.ΦA spec2 c from rfl, PhiA2_eq]
  unfold outsAt2
  unfold out2_A_9
  iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun2_A c (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, ⟨%fT0, HS0⟩⟩
  isplitl [HS0 HR1 Hg]
  · isplitl [HS0 HR1]
    · isplitl [HS0]
      · iexists _; unfold owns; iexists _; isplitr
        swap; · iexact HS0
        ipureintro; rfl
      iexact HR1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover2_A_9 c _ _ _ _ _ _ _ _ _ _ _ _ _ _ _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

/-- The attention body meets its pipeline's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Ideal.Steps.lean ====
/- The buffers between the segments of the program read over the extended reals. -/
module

public import proofs.«01_k».proof.Proof.Ideal.Proj
public import proofs.«01_k».proof.Proof.Ideal.Rope
public import proofs.«01_k».proof.Proof.Ideal.Attn

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4, main_v5, main_v6, main_v7, main_v8, main_v9, main_v10, main_v11, main_v12, main_v13, main_v14, main_v15, main_v16, main_cst, main_v17, main_v18, main_v19, main_v20, main_v21, main_v22]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v24, main_v25, main_v26, main_v27, main_v28, main_v29, main_v30, main_cst_0, main_v31, main_v32, main_cst_1, main_v33, main_v34, main_v35, main_v36, main_v37, main_v38, main_v39, main_v40, main_v41, main_v42, main_v43, main_v44, main_v45, main_v46]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v48, main_v49, main_v50, main_v51, main_v52]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- The buffers before the matmul: the packed weight and the flat input are built. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b

/-- The buffers after the matmul. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers before the rotary call: the projection is reshaped, the angle tables are built. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b

/-- The buffers after the rotary call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers before the attention call. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b

/-- The buffers at the end. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)

end Cert.KernelIdeal.Run

end
-- ==== Proof.Ideal.Whole.lean ====
/- The run of the program read over the extended reals, from launch to return. -/
module

public import proofs.«01_k».proof.Proof.Ideal.Steps

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm

/-- The three pipelines' data, each at the buffers its call finds. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0

/-- What rides beside the buffers: the generator register, and nothing owed. -/
abbrev R (c : Dev nD) : sProp 𝕄 := iprop((∃ r, prngReg c r) ∗ ∃ W, owes (c : Thread nD τ) (0 : CellTallies nD τ sig Unit) W)

/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- The matmul call as a segment from `W1` to `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The rotary call as a segment from `W3` to `W4`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call as a segment from `W5` to `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every weakly fair execution of the program ends with every unscoped buffer at `W6` and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W6 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c b hb, funext fun g => hz g (.inr (no_unscoped g.2))⟩)

/-- The program runs, its arguments end as launched, and every counter ends at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c)⟩, h.2⟩) (run_all m ρ)

end Cert.KernelIdeal.Run

end
-- ==== Proof.Frames.lean ====
/- The claims about the runs (each program ends, leaves its arguments as they were and every semaphore at zero) and the claim
   that the named constant stands for the literal it replaces. -/
module

public import proofs.«01_k».proof.Defs
public import proofs.«01_k».proof.Proof.Ideal.Whole
public import proofs.«01_k».proof.Proof.Bits.Whole
public import proofs.«01_k».proof.Proof.Gen.ReferenceIdeal.Run

@[expose] public section

noncomputable section

namespace Cert.Proof

open Idealize.ShloMosaic Idealize.SL.Sem

/-- The kernel, on machine numbers. -/
theorem frame_kernel : Cert.quiescent_Kernel := fun m ρ _ => Cert.Kernel.Run.frame_all m ρ

/-- The idealized kernel. -/
theorem frame_kernelIdeal : Cert.quiescent_KernelIdeal := fun m ρ _ => Cert.KernelIdeal.Run.frame_all m ρ

/-- The reference: the generated run keeps every argument, and the program declares no semaphore. -/
theorem frame_referenceIdeal : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The certificate's table gives `q_scale` the real it names. -/
theorem preserves_kernel : Cert.preserves_Kernel_KernelIdeal :=
  IdealRules.named_const.statement Cert.KernelIdeal.κ "q_scale" .f32 0x3E38AA3B#32
    (((8 * (Real.log 2))⁻¹ : ℝ) : EReal) rfl

end Cert.Proof

end
-- ==== Proof.Ideal.RealKit.lean ====
/- Numbers that are real: the few facts about sums and maxima of real numbers inside the extended reals that the proof uses. -/
module

public import Idealize.ShloMosaic.Lib.Pointwise
public import Idealize.ShloMosaic.Lib.KernelVsHost

@[expose] public section

noncomputable section

namespace Cert.RealKit

open Idealize.ShloMosaic

/-- A finite sum of real numbers is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of products of real numbers. -/
theorem coe_dot {n : ℕ} (x y : Fin n → EReal) (f g : Fin n → ℝ) (hx : ∀ i, x i = f i) (hy : ∀ i, y i = g i) :
    ∑ i, x i * y i = ((∑ i, f i * g i : ℝ) : EReal) := by
  rw [← coe_sum]
  exact Finset.sum_congr rfl fun i _ => by rw [hx, hy, EReal.coe_mul]

/-- Neither infinity. -/
def Bd (x : EReal) : Prop := ⊥ < x ∧ x < ⊤

theorem bd_coe (r : ℝ) : Bd (r : EReal) := ⟨EReal.bot_lt_coe r, EReal.coe_lt_top r⟩

theorem Bd.real {x : EReal} (h : Bd x) : ∃ r : ℝ, x = r := ⟨x.toReal, (EReal.coe_toReal h.2.ne h.1.ne').symm⟩

/-- The maximum of something below infinity with a real number is real. -/
theorem Bd.max {x y : EReal} (hx : x < ⊤) (hy : Bd y) : Bd (max x y) := ⟨lt_max_of_lt_right hy.1, max_lt hx hy.2⟩

/-- The maximum of finitely many real numbers, from minus infinity, is real. -/
theorem bd_fold {n : ℕ} (f : Fin (n + 1) → EReal) (h : ∀ i, Bd (f i)) : Bd (Finset.fold max ⊥ f Finset.univ) :=
  ⟨(Finset.lt_fold_max _).2 (.inr ⟨0, Finset.mem_univ _, (h 0).1⟩), (Finset.fold_max_lt _).2 ⟨bot_lt_top, fun i _ => (h i).2⟩⟩

/-- A sum over `16 * 512` keys, one tile of 512 after the other. -/
theorem sum_tiles (f : Fin 8192 → ℝ) : ∑ n, f n = ∑ c : Fin 16, ∑ j : Fin 512, f ⟨c.val * 512 + j.val, by omega⟩ := by
  rw [← Finset.sum_product', Finset.univ_product_univ]
  refine (Fintype.sum_equiv (finProdFinEquiv (m := 16) (n := 512)) _ _ fun p => ?_).symm
  refine congrArg f (Fin.ext ?_)
  show p.1.val * 512 + p.2.val = p.2.val + 512 * p.1.val
  omega

end Cert.RealKit

end
-- ==== Proof.Finite.lean ====
/- What the precondition says: every entry of the input, of the projection's weight and of the four vectors is a real number. -/
module

public import proofs.«01_k».proof.Pre_finite
public import proofs.«01_k».proof.Proof.Gen.Pre_finite
public import proofs.«01_k».proof.Proof.Ideal.RealKit
public import Idealize.ShloMosaic.Lib.ReduceAll
public import Idealize.ShloMosaic.Lib.Affine

@[expose] public section

noncomputable section

namespace Cert.Proof.Finite

open Cert.Pre_finite Cert.Pre_finite.Facts Cert.RealKit
open Idealize.ShloMosaic

theorem inf_top : Ideal.ofBits .f32 0x7F800000#32 = ⊤ := rfl

instance : Subsingleton S_.Idx := ⟨fun a b => funext fun k => k.elim0⟩

/-- A number whose absolute value is below infinity is real. -/
theorem real_of_lt {x : EReal} (h : Ideal.cmp .olt (max x (-x)) (Ideal.ofBits .f32 0x7F800000#32) = 1#1) : ∃ r : ℝ, x = r := by
  rw [inf_top] at h
  have hlt : max x (-x) < ⊤ := by
    by_contra hn
    have : Ideal.cmp .olt (max x (-x)) ⊤ = 0#1 := by
      show BitVec.ofBool (decide (max x (-x) < ⊤)) = 0#1
      rw [decide_eq_false hn]
      rfl
    rw [this] at h
    exact absurd h (by decide)
  have h1 := lt_of_le_of_lt (le_max_left _ _) hlt
  have h2 := lt_of_le_of_lt (le_max_right _ _) hlt
  refine Bd.real ⟨bot_lt_iff_ne_bot.2 fun e => ?_, h1⟩
  rw [e, EReal.neg_bot] at h2
  exact lt_irrefl _ h2

/-- The test of one array. -/
theorem real_of_all {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf x) (broadcastInDim s ![] hb (constant (F := Ideal) S_ .f32 0x7F800000#32))) (constantI S_ 1 1#1) hr h_S_ j = 1#1)
    (i : s.Idx) : ∃ r : ℝ, (x i : EReal) = r :=
  real_of_lt (Host.reduce_andi_all _ _ _ _ j e i)

theorem and_one {a b : IVec S_ 1} {j : S_.Idx} (h : andi a b j = 1#1) : a j = 1#1 ∧ b j = 1#1 := IntOp.andi_eq_one.1 h

theorem reals (x : FVec Ideal S10x8192x1024 .f32) (w : FVec Ideal S1024x7184 .f32) (a b c d : FVec Ideal S64 .f32) (g : FVec Ideal S128 .f32)
    (h : fn (F := Ideal) x w a b c d g = fun _ => 1#1) :
    (∀ i, ∃ r : ℝ, (x i : EReal) = r) ∧ (∀ i, ∃ r : ℝ, (w i : EReal) = r) ∧ (∀ i, ∃ r : ℝ, (a i : EReal) = r)
      ∧ (∀ i, ∃ r : ℝ, (b i : EReal) = r) ∧ (∀ i, ∃ r : ℝ, (c i : EReal) = r) ∧ (∀ i, ∃ r : ℝ, (d i : EReal) = r) := by
  have h0 := congrFun h (fun k => k.elim0)
  unfold fn fn_part1 at h0
  obtain ⟨h0, hd⟩ := and_one h0
  obtain ⟨h0, hc⟩ := and_one h0
  obtain ⟨h0, hb⟩ := and_one h0
  obtain ⟨h0, ha⟩ := and_one h0
  obtain ⟨hx, hw⟩ := and_one h0
  exact ⟨real_of_all x _ _ _ hx, real_of_all w _ _ _ hw, real_of_all a _ _ _ ha, real_of_all b _ _ _ hb, real_of_all c _ _ _ hc, real_of_all d _ _ _ hd⟩

end Cert.Proof.Finite

end
-- ==== Proof.Ideal.RopeTile.lean ====
/- What the rotary call computes of one tile, at an index. -/
module

public import proofs.«01_k».proof.Proof.Ideal.Rope
public import Idealize.ShloMosaic.Lib.Pointwise
public import Idealize.ShloMosaic.Lib.KernelVsHost
public import Idealize.ShloMosaic.Lib.Pipeline.Value
public import Idealize.ShloMosaic.Lib.Pipeline.ValueKit.Geometry
public import Idealize.ShloMosaic.Lib.Pipeline.ValueKit.Acc

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat Cfg Window)

/-- The mask of the first halves of the heads' 64 lanes. -/
theorem first_half : ∀ l : Fin 512, k1_pay5 (ix2 0 l) = if l.val % 64 < 32 then 1#1 else 0#1 := by decide +kernel

/-- The mask of the first 64 of every 128 lanes. -/
theorem is_a : ∀ l : Fin 512, k1_pay7 (iota .tc S1x512 32 [1] iota_S1x512_d1_w32) 128#32 (Scalar.cmpi .eq 128#32 0#32) 1#32 (ix2 0 l)
    = if l.val % 128 < 64 then 1#1 else 0#1 := by decide +kernel

theorem tab_apply (v : FVec Ideal S512x128 .f32) (r l : Fin 512) :
    k1_pay3 (F := Ideal) v (ix2 r l) = v (ix2 r ⟨l.val % 128, Nat.mod_lt _ (by decide)⟩) := by
  have hl := l.isLt
  pointwise [k1_pay3]
  split_ifs
  all_goals exact congrArg (fun z => v (ix2 r z)) (Fin.ext (by simp only []; omega))

theorem tab_apply' (v : FVec Ideal S512x128 .f32) (r l : Fin 512) :
    k1_pay4 (F := Ideal) v (ix2 r l) = v (ix2 r ⟨l.val % 128, Nat.mod_lt _ (by decide)⟩) := tab_apply v r l

/-- The lane a rotation by half a head pairs with a lane. -/
def partner (l : Fin 512) : Fin 512 :=
  if h : l.val % 64 < 32 then ⟨l.val + 32, by omega⟩ else ⟨l.val - 32, by omega⟩

/-- The rotation's second operand: the partner lane. -/
theorem partner_apply (x : FVec Ideal S512x512 .f32) (r l : Fin 512) :
    select (broadcastTo S512x512 (shapeCast S1x512 k1_pay5 shapeCasts_S1x512_S1x512) broadcasts_S1x512_S512x512)
      (dynamicRotate 1 480#32 none x rotates_S512x512_d1) (dynamicRotate 1 32#32 none x rotates_S512x512_d1) (ix2 r l)
      = x (ix2 r (partner l)) := by
  have hl := l.isLt
  have h5 := first_half l
  pointwise []
  rw [h5]
  unfold partner
  by_cases h : l.val % 64 < 32
  · rw [dif_pos h, if_pos h]
    show x _ = x _
    refine congrArg (fun z => x (ix2 r z)) (Fin.ext ?_)
    show (l.val + 512 - 480) % 512 = l.val + 32
    omega
  · rw [dif_neg h, if_neg h]
    show x _ = x _
    refine congrArg (fun z => x (ix2 r z)) (Fin.ext ?_)
    show (l.val + 512 - 32) % 512 = l.val - 32
    omega

/-- The lane's column in the 128-lane tables. -/
abbrev tcol (l : Fin 512) : Fin 128 := ⟨l.val % 128, Nat.mod_lt _ (by decide)⟩

/-- A tile rotated, at an index. -/
def rotAt (x : FVec Ideal S1x512x512 .f32) (cs sn : FVec Ideal S512x128 .f32) (r l : Fin 512) : EReal :=
  x (ix3 0 r l) * cs (ix2 r (tcol l)) + x (ix3 0 r (partner l)) * sn (ix2 r (tcol l))

/-- The named constant, over the extended reals. -/
def qs : EReal := (((8 * (Real.log 2))⁻¹ : ℝ) : EReal)

theorem q_apply (cs sn : FVec Ideal S512x128 .f32) (x : FVec Ideal S1x512x512 .f32) (r l : Fin 512) :
    k1_pay6 (F := Ideal) cs sn x (ix2 r l) = rotAt x cs sn r l * qs := by
  have hp := partner_apply (shapeCast S512x512 x shapeCasts_S1x512x512_S512x512) r l
  have h3 := tab_apply cs r l
  have h4 := tab_apply' sn r l
  unfold rotAt
  pointwise [k1_pay6]
  pointwise [] at hp
  rw [h3, h4, hp]
  rfl

theorem k_apply (cs sn : FVec Ideal S512x128 .f32) (x : FVec Ideal S1x512x512 .f32) (r l : Fin 512) :
    k1_pay1 (F := Ideal) (k1_pay4 sn) (k1_pay11 k1_pay5 x) (k1_pay12 (k1_pay3 cs) x) (ix3 0 r l) = rotAt x cs sn r l := by
  have hp := partner_apply (shapeCast S512x512 x shapeCasts_S1x512x512_S512x512) r l
  have h3 := tab_apply cs r l
  have h4 := tab_apply' sn r l
  unfold rotAt
  pointwise [k1_pay1, k1_pay11, k1_pay12, k1_pay10]
  pointwise [] at hp
  rw [h3, h4, hp]

/-- The first output tile: the rotated, scaled queries on the first 64 of every 128 lanes, zero on the rest. -/
theorem out5_apply (x0 x1 x2 : FVec Ideal S1x512x512 .f32) (cs sn : FVec Ideal S512x128 .f32) (r l : Fin 512) :
    out1_5 (F := Ideal) x0 x1 x2 cs sn (ix3 0 r l) = if l.val % 128 < 64 then rotAt x0 cs sn r l * qs else (0 : EReal) := by
  have ha := is_a l
  unfold out1_5
  rw [View.canon_cons_unit_lit inb_S1x512x512_S1x512x512_0_0_0 _ _ (by decide)]
  unfold k1_pay13 k1_pay14
  rw [View.ld_unit_lit _ _ (by decide), View.ld_unit_lit _ _ (by decide), View.ld_unit_lit _ _ (by decide)]
  have hq := q_apply cs sn x0 r l
  pointwise [k1_pay8]
  rw [hq, ha]
  by_cases h : l.val % 128 < 64
  · rw [if_pos h, if_pos h]; rfl
  · rw [if_neg h, if_neg h]
    rfl

/-- The second output tile: the same on the other 64 lanes. -/
theorem out6_apply (x0 x1 x2 : FVec Ideal S1x512x512 .f32) (cs sn : FVec Ideal S512x128 .f32) (r l : Fin 512) :
    out1_6 (F := Ideal) x0 x1 x2 cs sn (ix3 0 r l) = if l.val % 128 < 64 then (0 : EReal) else rotAt x0 cs sn r l * qs := by
  have ha := is_a l
  unfold out1_6
  rw [View.canon_cons_unit_lit inb_S1x512x512_S1x512x512_0_0_0 _ _ (by decide)]
  unfold k1_pay13 k1_pay14
  rw [View.ld_unit_lit _ _ (by decide), View.ld_unit_lit _ _ (by decide), View.ld_unit_lit _ _ (by decide)]
  have hq := q_apply cs sn x0 r l
  pointwise [k1_pay9]
  rw [hq, ha]
  by_cases h : l.val % 128 < 64
  · rw [if_pos h, if_pos h]
    rfl
  · rw [if_neg h, if_neg h]; rfl

/-- The third output tile: the rotated keys. -/
theorem out7_apply (x0 x1 x2 : FVec Ideal S1x512x512 .f32) (cs sn : FVec Ideal S512x128 .f32) (r l : Fin 512) :
    out1_7 (F := Ideal) x0 x1 x2 cs sn (ix3 0 r l) = rotAt x1 cs sn r l := by
  unfold out1_7
  rw [View.canon_cons_unit_lit inb_S1x512x512_S1x512x512_0_0_0 _ _ (by decide),
    View.ld_unit_lit _ _ (by decide), View.ld_unit_lit _ _ (by decide), View.ld_unit_lit _ _ (by decide)]
  exact k_apply cs sn x1 r l

/-- The fourth output tile: the values as they are. -/
theorem out8_apply (x0 x1 x2 : FVec Ideal S1x512x512 .f32) (cs sn : FVec Ideal S512x128 .f32) (r l : Fin 512) :
    out1_8 (F := Ideal) x0 x1 x2 cs sn (ix3 0 r l) = (x2 (ix3 0 r l) : EReal) := by
  unfold out1_8
  rw [View.canon_cons_unit_lit inb_S1x512x512_S1x512x512_0_0_0 _ _ (by decide), View.ld_unit_lit _ _ (by decide)]
  pointwise [k1_pay2]

end Cert.KernelIdeal.Val

end
-- ==== Proof.Ideal.RopeVal.lean ====
/- The arrays the rotary call leaves. -/
module

public import proofs.«01_k».proof.Proof.Ideal.RopeTile

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat Cfg Window)

theorem index1_0 : ∀ t : Fin cfg1.N, win1_0.index t = ![(grid1.coords t 0).val, (grid1.coords t 1).val, 5] := (by decide +kernel : ∀ t : Fin grid1.N, _)
theorem index1_1 : ∀ t : Fin cfg1.N, win1_1.index t = ![(grid1.coords t 0).val, (grid1.coords t 1).val, 6] := (by decide +kernel : ∀ t : Fin grid1.N, _)
theorem index1_2 : ∀ t : Fin cfg1.N, win1_2.index t = ![(grid1.coords t 0).val, (grid1.coords t 1).val, 7] := (by decide +kernel : ∀ t : Fin grid1.N, _)
theorem index1_3 : ∀ t : Fin cfg1.N, win1_3.index t = ![(grid1.coords t 1).val, 0] := (by decide +kernel : ∀ t : Fin grid1.N, _)
theorem index1_4 : ∀ t : Fin cfg1.N, win1_4.index t = ![(grid1.coords t 1).val, 0] := (by decide +kernel : ∀ t : Fin grid1.N, _)
theorem index1_5 : ∀ t : Fin cfg1.N, win1_5.index t = ![(grid1.coords t 0).val, (grid1.coords t 1).val, 0] := (by decide +kernel : ∀ t : Fin grid1.N, _)
theorem index1_6 : ∀ t : Fin cfg1.N, win1_6.index t = ![(grid1.coords t 0).val, (grid1.coords t 1).val, 0] := (by decide +kernel : ∀ t : Fin grid1.N, _)
theorem index1_7 : ∀ t : Fin cfg1.N, win1_7.index t = ![(grid1.coords t 0).val, (grid1.coords t 1).val, 0] := (by decide +kernel : ∀ t : Fin grid1.N, _)
theorem index1_8 : ∀ t : Fin cfg1.N, win1_8.index t = ![(grid1.coords t 0).val, (grid1.coords t 1).val, 0] := (by decide +kernel : ∀ t : Fin grid1.N, _)

/-- A grid point's batch. -/
def bOf (t : Fin cfg1.N) : Fin 10 := grid1.coords t 0
/-- A tile's row among all rows. -/
def rowOf (t : Fin cfg1.N) (r : Fin 512) : Fin 8192 := ⟨(grid1.coords t 1).val * 512 + r.val, by
  have h : (grid1.coords t 1).val < 16 := (grid1.coords t 1).isLt
  omega⟩
/-- A lane in a 512-lane run of the projection's columns. -/
abbrev colOf (k : ℕ) (l : Fin 512) (h : k * 512 + 512 ≤ 7296) : Fin 7296 := ⟨k * 512 + l.val, by omega⟩

variable (V : (c : Dev nD) → (b : Ref sig .tc) → Buf (Elt Ideal) ((c : Thread nD τ).loc b))

theorem x0_apply (c : Dev nD) (t : Fin cfg1.N) (r l : Fin 512) :
    X1 V c 0 t (ix3 (0 : Fin 1) r l) = V c main_v24 (ix3 (bOf t) (rowOf t r) (colOf 5 l (by decide))) := by
  have hm : (cfg1.win 0).moved (cfg1.grid.coords t) (ix3 (0 : Fin 1) r l) = true :=
    ((cfg1.win 0).moved_iff _ _).mpr fun a => by rw [xsize1_0 t a]; exact (ix3 (0 : Fin 1) r l a).isLt
  unfold X1 Pipeline.Window.fill
  rw [dif_pos hm]
  blk_simp [iblk1]
  refine congrArg (V c main_v24) ?_
  unfold bOf rowOf
  blk_ext [index1_0 t]

theorem x1_apply (c : Dev nD) (t : Fin cfg1.N) (r l : Fin 512) :
    X1 V c 1 t (ix3 (0 : Fin 1) r l) = V c main_v24 (ix3 (bOf t) (rowOf t r) (colOf 6 l (by decide))) := by
  have hm : (cfg1.win 1).moved (cfg1.grid.coords t) (ix3 (0 : Fin 1) r l) = true :=
    ((cfg1.win 1).moved_iff _ _).mpr fun a => by rw [xsize1_1 t a]; exact (ix3 (0 : Fin 1) r l a).isLt
  unfold X1 Pipeline.Window.fill
  rw [dif_pos hm]
  blk_simp [iblk1]
  refine congrArg (V c main_v24) ?_
  unfold bOf rowOf
  blk_ext [index1_1 t]

theorem x2_apply (c : Dev nD) (t : Fin cfg1.N) (r l : Fin 512) :
    X1 V c 2 t (ix3 (0 : Fin 1) r l) = V c main_v24 (ix3 (bOf t) (rowOf t r) (colOf 7 l (by decide))) := by
  have hm : (cfg1.win 2).moved (cfg1.grid.coords t) (ix3 (0 : Fin 1) r l) = true :=
    ((cfg1.win 2).moved_iff _ _).mpr fun a => by rw [xsize1_2 t a]; exact (ix3 (0 : Fin 1) r l a).isLt
  unfold X1 Pipeline.Window.fill
  rw [dif_pos hm]
  blk_simp [iblk1]
  refine congrArg (V c main_v24) ?_
  unfold bOf rowOf
  blk_ext [index1_2 t]

theorem x3_apply (c : Dev nD) (t : Fin cfg1.N) (r : Fin 512) (l : Fin 128) :
    iblk1 V c 3 t (ix2 r l) = V c main_v43 (ix2 (rowOf t r) l) := by
  blk_simp [iblk1]
  refine congrArg (V c main_v43) ?_
  unfold rowOf
  blk_ext [index1_3 t]

theorem x4_apply (c : Dev nD) (t : Fin cfg1.N) (r : Fin 512) (l : Fin 128) :
    iblk1 V c 4 t (ix2 r l) = V c main_v46 (ix2 (rowOf t r) l) := by
  blk_simp [iblk1]
  refine congrArg (V c main_v46) ?_
  unfold rowOf
  blk_ext [index1_4 t]

/-- A row of the projection's `k`-th run of 512 columns, rotated, at a lane. -/
def rotArr (P : FVec Ideal S10x8192x7296 .f32) (cs sn : FVec Ideal S8192x128 .f32) (k : ℕ) (hk : k * 512 + 512 ≤ 7296)
    (b : Fin 10) (s : Fin 8192) (l : Fin 512) : EReal :=
  P (ix3 b s (colOf k l hk)) * cs (ix2 s (tcol l)) + P (ix3 b s (colOf k (partner l) hk)) * sn (ix2 s (tcol l))

theorem rot_x0 (c : Dev nD) (t : Fin cfg1.N) (r l : Fin 512) :
    rotAt (X1 V c 0 t) (iblk1 V c 3 t) (iblk1 V c 4 t) r l
      = rotArr (V c main_v24) (V c main_v43) (V c main_v46) 5 (by decide) (bOf t) (rowOf t r) l := by
  unfold rotAt rotArr
  exact congrArg₂ (fun a b : EReal => a + b)
    (congrArg₂ (fun a b : EReal => a * b) (x0_apply V c t r l) (x3_apply V c t r (tcol l)))
    (congrArg₂ (fun a b : EReal => a * b) (x0_apply V c t r (partner l)) (x4_apply V c t r (tcol l)))

theorem rot_x1 (c : Dev nD) (t : Fin cfg1.N) (r l : Fin 512) :
    rotAt (X1 V c 1 t) (iblk1 V c 3 t) (iblk1 V c 4 t) r l
      = rotArr (V c main_v24) (V c main_v43) (V c main_v46) 6 (by decide) (bOf t) (rowOf t r) l := by
  unfold rotAt rotArr
  exact congrArg₂ (fun a b : EReal => a + b)
    (congrArg₂ (fun a b : EReal => a * b) (x1_apply V c t r l) (x3_apply V c t r (tcol l)))
    (congrArg₂ (fun a b : EReal => a * b) (x1_apply V c t r (partner l)) (x4_apply V c t r (tcol l)))

/-- The queries' array with the second query of each head zeroed, from the projection and the two tables. -/
def qaArr (P : FVec Ideal S10x8192x7296 .f32) (cs sn : FVec Ideal S8192x128 .f32) : FVec Ideal S10x8192x512 .bf16 := fun y =>
  if (y 2).val % 128 < 64 then rotArr P cs sn 5 (by decide) (y 0) (y 1) (y 2) * qs else (0 : EReal)
/-- The same with the first query of each head zeroed. -/
def qbArr (P : FVec Ideal S10x8192x7296 .f32) (cs sn : FVec Ideal S8192x128 .f32) : FVec Ideal S10x8192x512 .bf16 := fun y =>
  if (y 2).val % 128 < 64 then (0 : EReal) else rotArr P cs sn 5 (by decide) (y 0) (y 1) (y 2) * qs
/-- The keys' array. -/
def kkArr (P : FVec Ideal S10x8192x7296 .f32) (cs sn : FVec Ideal S8192x128 .f32) : FVec Ideal S10x8192x512 .bf16 := fun y =>
  rotArr P cs sn 6 (by decide) (y 0) (y 1) (y 2)
/-- The values' array. -/
def vvArr (P : FVec Ideal S10x8192x7296 .f32) : FVec Ideal S10x8192x512 .bf16 := fun y =>
  (P (ix3 (y 0) (y 1) (colOf 7 (y 2) (by decide))) : EReal)

theorem ext3 {n0 n1 n2 : ℕ} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext i
  fin_cases i
  · exact Fin.ext h0
  · exact Fin.ext h1
  · exact Fin.ext h2

theorem emb1_5 (t : Fin cfg1.N) (r l : Fin 512) : (win1_5.blk t).view.emb (ix3 (0 : Fin 1) r l) = ix3 (bOf t) (rowOf t r) l := by
  unfold bOf rowOf
  blk_ext [index1_5 t]
theorem emb1_6 (t : Fin cfg1.N) (r l : Fin 512) : (win1_6.blk t).view.emb (ix3 (0 : Fin 1) r l) = ix3 (bOf t) (rowOf t r) l := by
  unfold bOf rowOf
  blk_ext [index1_6 t]
theorem emb1_7 (t : Fin cfg1.N) (r l : Fin 512) : (win1_7.blk t).view.emb (ix3 (0 : Fin 1) r l) = ix3 (bOf t) (rowOf t r) l := by
  unfold bOf rowOf
  blk_ext [index1_7 t]
theorem emb1_8 (t : Fin cfg1.N) (r l : Fin 512) : (win1_8.blk t).view.emb (ix3 (0 : Fin 1) r l) = ix3 (bOf t) (rowOf t r) l := by
  unfold bOf rowOf
  blk_ext [index1_8 t]

theorem arr1_5 (c : Dev nD) : (dat1 V c).arrAt 5 cfg1.N = qaArr (V c main_v24) (V c main_v43) (V c main_v46) := by
  refine (dat1 V c).arrAt_eq_of_covers 5 (qaArr (V c main_v24) (V c main_v43) (V c main_v46)) (by decide +kernel) fun t hf y => ?_
  blk_simp
  rw [after1_5]
  obtain ⟨z, r, l, rfl⟩ : ∃ (z : Fin 1) (r l : Fin 512), y = ix3 z r l := ⟨y 0, y 1, y 2, eq_ix3 y⟩
  obtain rfl : z = 0 := Subsingleton.elim _ _
  refine (out5_apply _ _ _ _ _ r l).trans ?_
  rw [rot_x0]
  refine Eq.trans ?_ (congrArg (qaArr (V c main_v24) (V c main_v43) (V c main_v46)) (emb1_5 t r l)).symm
  rfl

theorem arr1_6 (c : Dev nD) : (dat1 V c).arrAt 6 cfg1.N = qbArr (V c main_v24) (V c main_v43) (V c main_v46) := by
  refine (dat1 V c).arrAt_eq_of_covers 6 (qbArr (V c main_v24) (V c main_v43) (V c main_v46)) (by decide +kernel) fun t hf y => ?_
  blk_simp
  rw [after1_6]
  obtain ⟨z, r, l, rfl⟩ : ∃ (z : Fin 1) (r l : Fin 512), y = ix3 z r l := ⟨y 0, y 1, y 2, eq_ix3 y⟩
  obtain rfl : z = 0 := Subsingleton.elim _ _
  refine (out6_apply _ _ _ _ _ r l).trans ?_
  rw [rot_x0]
  refine Eq.trans ?_ (congrArg (qbArr (V c main_v24) (V c main_v43) (V c main_v46)) (emb1_6 t r l)).symm
  rfl

theorem arr1_7 (c : Dev nD) : (dat1 V c).arrAt 7 cfg1.N = kkArr (V c main_v24) (V c main_v43) (V c main_v46) := by
  refine (dat1 V c).arrAt_eq_of_covers 7 (kkArr (V c main_v24) (V c main_v43) (V c main_v46)) (by decide +kernel) fun t hf y => ?_
  blk_simp
  rw [after1_7]
  obtain ⟨z, r, l, rfl⟩ : ∃ (z : Fin 1) (r l : Fin 512), y = ix3 z r l := ⟨y 0, y 1, y 2, eq_ix3 y⟩
  obtain rfl : z = 0 := Subsingleton.elim _ _
  refine (out7_apply _ _ _ _ _ r l).trans ?_
  rw [rot_x1]
  refine Eq.trans ?_ (congrArg (kkArr (V c main_v24) (V c main_v43) (V c main_v46)) (emb1_7 t r l)).symm
  rfl

theorem arr1_8 (c : Dev nD) : (dat1 V c).arrAt 8 cfg1.N = vvArr (V c main_v24) := by
  refine (dat1 V c).arrAt_eq_of_covers 8 (vvArr (V c main_v24)) (by decide +kernel) fun t hf y => ?_
  blk_simp
  rw [after1_8]
  obtain ⟨z, r, l, rfl⟩ : ∃ (z : Fin 1) (r l : Fin 512), y = ix3 z r l := ⟨y 0, y 1, y 2, eq_ix3 y⟩
  obtain rfl : z = 0 := Subsingleton.elim _ _
  refine (out8_apply _ _ _ _ _ r l).trans ?_
  refine (x2_apply V c t r l).trans ?_
  refine Eq.trans ?_ (congrArg (vvArr (V c main_v24)) (emb1_8 t r l)).symm
  rfl

end Cert.KernelIdeal.Val

end
-- ==== Proof.Ideal.AttnTile.lean ====
/- The attention tile: the body's chain of loads and payloads as one regular tower over the sixteen key tiles. -/
module

public import proofs.«01_k».proof.Proof.Ideal.Attn
public import Idealize.ShloMosaic.Lib.Tactic
public import Idealize.ShloMosaic.Lib.KernelVsHost
public import Idealize.ShloMosaic.Lib.Pointwise
public import Idealize.ShloMosaic.Lib.Pipeline.Value
public import Idealize.ShloMosaic.Lib.Pipeline.ReadBack
public import Idealize.ShloMosaic.Lib.Pipeline.ValueKit.Geometry
public import Idealize.ShloMosaic.Lib.Pipeline.ValueKit.Acc

@[expose] public section

set_option maxRecDepth 65536

noncomputable section

namespace Cert.KernelIdeal.Val

open Cert.KernelIdeal Cert.KernelIdeal.Gen Cert.KernelIdeal.Run
open Idealize.ShloMosaic Idealize.ShloMosaic.TcCoe Idealize.ShloMosaic.Tactic Idealize.SL.Sem
open Idealize.ShloMosaic.Pipeline (Dat Cfg Window)

/-- A key (or value) tile: 512 rows of the block, from row `o`. -/
def ktile (x : FVec Ideal S1x8192x128 .bf16) (o : ℕ) (h : ∀ a, (![0, o, 0] : Fin 3 → ℕ) a + (![1, 512, 128] : Fin 3 → ℕ) a ≤ S1x8192x128.size a) :
    FVec Ideal S1x512x128 .bf16 :=
  View.ld (Val := Elt Ideal) (S := S1x8192x128) (e' := .bf16) x (Rect.unit (s := S1x8192x128) ![0, o, 0] ![1, 512, 128] h)

/-- The scores of the tile's queries against a key tile. -/
def score (q : FVec Ideal S1x256x128 .bf16) (k : FVec Ideal S1x512x128 .bf16) : FVec Ideal S256x512 .f32 :=
  matmul dot_S256x128_S512x128_S256x512_1_1_0_0_n_n none (shapeCast S256x128 q shapeCasts_S1x256x128_S256x128)
    (shapeCast S512x128 k shapeCasts_S1x512x128_S512x128) (constant S256x512 .f32 0x00000000#32)

/-- The running lane-wise maximum, one key tile further. -/
def lanes (m : FVec Ideal S256x128 .f32) (s : FVec Ideal S256x512 .f32) : FVec Ideal S256x128 .f32 :=
  maximumf (maximumf (maximumf (maximumf m
    (extractStridedSlice S256x128 ![0, 0] s slices_S256x512_o0_0_S256x128))
    (extractStridedSlice S256x128 ![0, 128] s slices_S256x512_o0_128_S256x128))
    (extractStridedSlice S256x128 ![0, 256] s slices_S256x512_o0_256_S256x128))
    (extractStridedSlice S256x128 ![0, 384] s slices_S256x512_o0_384_S256x128)

/-- The lane-wise maximum folded to one number per row. -/
def rowMax (m : FVec Ideal S256x128 .f32) : FVec Ideal S256x1 .f32 :=
  shapeCast S256x1 (multiReduction .maximumf [1] S256 m 0xFF800000#32 reduces_S256x128_S256 (.inl rfl) rfl) shapeCasts_S256_S256x1

/-- A value tile beside a block of ones. -/
def vones (v : FVec Ideal S1x512x128 .bf16) : FVec Ideal S512x256 .bf16 :=
  concatenate S512x256 1 [⟨S512x128, shapeCast S512x128 v shapeCasts_S1x512x128_S512x128⟩,
    ⟨S512x128, broadcast S512x128 (Scalar.ofBits .bf16 0x3F80#16 : Ideal .bf16)⟩] concatenates_S512x128_S512x128_S512x256_d1

/-- The accumulator, one key tile further. -/
def step (m : FVec Ideal S256x1 .f32) (acc : FVec Ideal S256x256 .f32) (s : FVec Ideal S1x256x512 .f32) (v : FVec Ideal S1x512x128 .bf16) :
    FVec Ideal S256x256 .f32 :=
  addf acc (matmul dot_S256x512_S512x256_S256x256_1_0_0_1_n_n none
    (exp2 (truncf .bf16 (subf (shapeCast S256x512 s shapeCasts_S1x256x512_S256x512) (broadcastTo S256x512 m broadcasts_S256x1_S256x512)) bitsLt_bf16_f32))
    (vones v) (constant S256x256 .f32 0x00000000#32))

/-- The row maximum of all scores. -/
def maxTower (q : FVec Ideal S1x256x128 .bf16) (k : FVec Ideal S1x8192x128 .bf16) : FVec Ideal S256x1 .f32 :=
  rowMax (lanes (lanes (lanes (lanes (lanes (lanes (lanes (lanes (lanes (lanes (lanes (lanes (lanes (lanes (lanes (lanes (broadcast S256x128 (Scalar.ofBits .f32 0xFF800000#32 : Ideal .f32))
    (score q (ktile k 0 inb_S1x8192x128_S1x512x128_0_0_0)))
    (score q (ktile k 512 inb_S1x8192x128_S1x512x128_0_512_0)))
    (score q (ktile k 1024 inb_S1x8192x128_S1x512x128_0_1024_0)))
    (score q (ktile k 1536 inb_S1x8192x128_S1x512x128_0_1536_0)))
    (score q (ktile k 2048 inb_S1x8192x128_S1x512x128_0_2048_0)))
    (score q (ktile k 2560 inb_S1x8192x128_S1x512x128_0_2560_0)))
    (score q (ktile k 3072 inb_S1x8192x128_S1x512x128_0_3072_0)))
    (score q (ktile k 3584 inb_S1x8192x128_S1x512x128_0_3584_0)))
    (score q (ktile k 4096 inb_S1x8192x128_S1x512x128_0_4096_0)))
    (score q (ktile k 4608 inb_S1x8192x128_S1x512x128_0_4608_0)))
    (score q (ktile k 5120 inb_S1x8192x128_S1x512x128_0_5120_0)))
    (score q (ktile k 5632 inb_S1x8192x128_S1x512x128_0_5632_0)))
    (score q (ktile k 6144 inb_S1x8192x128_S1x512x128_0_6144_0)))
    (score q (ktile k 6656 inb_S1x8192x128_S1x512x128_0_6656_0)))
    (score q (ktile k 7168 inb_S1x8192x128_S1x512x128_0_7168_0)))
    (score q (ktile k 7680 inb_S1x8192x128_S1x512x128_0_7680_0)))

/-- The score scratch after the first pass: every store, the last one first. -/
def scratch (q0 q1 : FVec Ideal S1x256x128 .bf16) (k : FVec Ideal S1x8192x128 .bf16) : List (View.Piece (Elt Ideal) S16x512x512 .f32) :=
  [⟨Rect.unit (s := S16x512x512) ![15, 256, 0] ![1, 256, 512] inb_S16x512x512_S1x256x512_15_256_0, shapeCast S1x256x512 (score q1 (ktile k 7680 inb_S1x8192x128_S1x512x128_0_7680_0)) shapeCasts_S256x512_S1x256x512⟩,
   ⟨Rect.unit (s := S16x512x512) ![15, 0, 0] ![1, 256, 512] inb_S16x512x512_S1x256x512_15_0_0, shapeCast S1x256x512 (score q0 (ktile k 7680 inb_S1x8192x128_S1x512x128_0_7680_0)) shapeCasts_S256x512_S1x256x512⟩,
   ⟨Rect.unit (s := S16x512x512) ![14, 256, 0] ![1, 256, 512] inb_S16x512x512_S1x256x512_14_256_0, shapeCast S1x256x512 (score q1 (ktile k 7168 inb_S1x8192x128_S1x512x128_0_7168_0)) shapeCasts_S256x512_S1x256x512⟩,
   ⟨Rect.unit (s := S16x512x512) ![14, 0, 0] ![1, 256, 512] inb_S16x512x512_S1x256x512_14_0_0, shapeCast S1x256x512 (score q0 (ktile k 7168 inb_S1x8192x128_S1x512x128_0_7168_0)) shapeCasts_S256x512_S1x256x512⟩,
   ⟨Rect.unit (s := S16x512x512) ![13, 256, 0] ![1, 256, 512] inb_S16x512x512_S1x256x512_13_256_0, shapeCast S1x256x512 (score q1 (ktile k 6656 inb_S1x8192x128_S1x512x128_0_6656_0)) shapeCasts_S256x512_S1x256x512⟩,
   ⟨Rect.unit (s := S16x512x512) ![13, 0, 0] ![1, 256, 512] inb_S16x512x512_S1x256x512_13_0_0, shapeCast S1x256x512 (score q0 (ktile k 6656 inb_S1x8192x128_S1x512x128_0_6656_0)) shapeCasts_S256x512_S1x256x512⟩,
   ⟨Rect.unit (s := S16x512x512) ![12, 256, 0] ![1, 256, 512] inb_S16x512x512_S1x256x512_12_256_0, shapeCast S1x256x512 (score q1 (ktile k 6144 inb_S1x8192x128_S1x512x128_0_6144_0)) shapeCasts_S256x512_S1x256x512⟩,
   ⟨Rect.unit (s := S16x512x512) ![12, 0, 0] ![1, 256, 512] inb_S16x512x512_S1x256x512_12_0_0, shapeCast S1x256x512 (score q0 (ktile k 6144 inb_S1x8192x128_S1x512x128_0_6144_0)) shapeCasts_S256x512_S1x256x512⟩,
   ⟨Rect.unit (s := S16x512x512) ![11, 256, 0] ![1, 256, 512] inb_S16x512x512_S1x256x512_11_256_0, shapeCast S1x256x512 (score q1 (ktile k 5632 inb_S1x8192x128_S1x512x128_0_5632_0)) shapeCasts_S256x512_S1x256x512⟩,
   ⟨Rect.unit (s := S16x512x512) ![11, 0, 0] ![1, 256, 512] inb_S16x512x512_S1x256x512_11_0_0, shapeCast S1x256x512 (score q0 (ktile k 5632 inb_S1x8192x128_S1x512x128_0_5632_0)) shapeCasts_S256x512_S1x256x512⟩,
   ⟨Rect.unit (s := S16x512x512) ![10, 256, 0] ![1, 256, 512] inb_S16x512x512_S1x256x512_10_256_0, shapeCast S1x256x512 (score q1 (ktile k 5120 inb_S1x8192x128_S1x512x128_0_5120_0)) shapeCasts_S256x512_S1x256x512⟩,
   ⟨Rect.unit (s := S16x512x512) ![10, 0, 0] ![1, 256, 512] inb_S16x512x512_S1x256x512_10_0_0, shapeCast S1x256x512 (score q0 (ktile k 5120 inb_S1x8192x128_S1x512x128_0_5120_0)) shapeCasts_S256x512_S1x256x512⟩,
   ⟨Rect.unit (s := S16x512x512) ![9, 256, 0] ![1, 256, 512] inb_S16x512x512_S1x256x512_9_256_0, shapeCast S1x256x512 (score q1 (ktile k 4608 inb_S1x8192x128_S1x512x128_0_4608_0)) shapeCasts_S256x512_S1x256x512⟩,
   ⟨Rect.unit (s := S16x512x512) ![9, 0, 0] ![1, 256, 512] inb_S16x512x512_S1x256x512_9_0_0, shapeCast S1x256x512 (score q0 (ktile k 4608 inb_S1x8192x128_S1x512x128_0_4608_0)) shapeCasts_S256x512_S1x256x512⟩,
   ⟨Rect.unit (s := S16x512x512) ![8, 256, 0] ![1, 256, 512] inb_S16x512x512_S1x256x512_8_256_0, shapeCast S1x256x512 (score q1 (ktile k 4096 inb_S1x8192x128_S1x512x128_0_4096_0)) shapeCasts_S256x512_S1x256x512⟩,
   ⟨Rect.unit (s := S16x512x512) ![8, 0, 0] ![1, 256, 512] inb_S16x512x512_S1x256x512_8_0_0, shapeCast S1x256x512 (score q0 (ktile k 4096 inb_S1x8192x128_S1x512x128_0_4096_0)) shapeCasts_S256x512_S1x256x512⟩,
   ⟨Rect.unit (s := S16x512x512) ![7, 256, 0] ![1, 256, 512] inb_S16x512x512_S1x256x512_7_256_0, shapeCast S1x256x512 (score q1 (ktile k 3584 inb_S1x8192x128_S1x512x128_0_3584_0)) shapeCasts_S256x512_S1x256x512⟩,
   ⟨Rect.unit (s := S16x512x512) ![7, 0, 0] ![1, 256, 512] inb_S16x512x512_S1x256x512_7_0_0, shapeCast S1x256x512 (score q0 (ktile k 3584 inb_S1x8192x128_S1x512x128_0_3584_0)) shapeCasts_S256x512_S1x256x512⟩,
   ⟨Rect.unit (s := S16x512x512) ![6, 256, 0] ![1, 256, 512] inb_S16x512x512_S1x256x512_6_256_0, shapeCast S1x256x512 (score q1 (ktile k 3072 inb_S1x8192x128_S1x512x128_0_3072_0)) shapeCasts_S256x512_S1x256x512⟩,
   ⟨Rect.unit (s := S16x512x512) ![6, 0, 0] ![1, 256, 512] inb_S16x512x512_S1x256x512_6_0_0, shapeCast S1x256x512 (score q0 (ktile k 3072 inb_S1x8192x128_S1x512x128_0_3072_0)) shapeCasts_S256x512_S1x256x512⟩,
   ⟨Rect.unit (s := S16x512x512) ![5, 256, 0] ![1, 256, 512] inb_S16x512x512_S1x256x512_5_256_0, shapeCast S1x256x512 (score q1 (ktile k 2560 inb_S1x8192x128_S1x512x128_0_2560_0)) shapeCasts_S256x512_S1x256x512⟩,
   ⟨Rect.unit (s := S16x512x512) ![5, 0, 0] ![1, 256, 512] inb_S16x512x512_S1x256x512_5_0_0, shapeCast S1x256x512 (score q0 (ktile k 2560 inb_S1x8192x128_S1x512x128_0_2560_0)) shapeCasts_S256x512_S1x256x512⟩,
   ⟨Rect.unit (s := S16x512x512) ![4, 256, 0] ![1, 256, 512] inb_S16x512x512_S1x256x512_4_256_0, shapeCast S1x256x512 (score q1 (ktile k 2048 inb_S1x8192x128_S1x512x128_0_2048_0)) shapeCasts_S256x512_S1x256x512⟩,
   ⟨Rect.unit (s := S16x512x512) ![4, 0, 0] ![1, 256, 512] inb_S16x512x512_S1x256x512_4_0_0, shapeCast S1x256x512 (score q0 (ktile k 2048 inb_S1x8192x128_S1x512x128_0_2048_0)) shapeCasts_S256x512_S1x256x512⟩,
   ⟨Rect.unit (s := S16x512x512) ![3, 256, 0] ![1, 256, 512] inb_S16x512x512_S1x256x512_3_256_0, shapeCast S1x256x512 (score q1 (ktile k 1536 inb_S1x8192x128_S1x512x128_0_1536_0)) shapeCasts_S256x512_S1x256x512⟩,
   ⟨Rect.unit (s := S16x512x512) ![3, 0, 0] ![1, 256, 512] inb_S16x512x512_S1x256x512_3_0_0, shapeCast S1x256x512 (score q0 (ktile k 1536 inb_S1x8192x128_S1x512x128_0_1536_0)) shapeCasts_S256x512_S1x256x512⟩,
   ⟨Rect.unit (s := S16x512x512) ![2, 256, 0] ![1, 256, 512] inb_S16x512x512_S1x256x512_2_256_0, shapeCast S1x256x512 (score q1 (ktile k 1024 inb_S1x8192x128_S1x512x128_0_1024_0)) shapeCasts_S256x512_S1x256x512⟩,
   ⟨Rect.unit (s := S16x512x512) ![2, 0, 0] ![1, 256, 512] inb_S16x512x512_S1x256x512_2_0_0, shapeCast S1x256x512 (score q0 (ktile k 1024 inb_S1x8192x128_S1x512x128_0_1024_0)) shapeCasts_S256x512_S1x256x512⟩,
   ⟨Rect.unit (s := S16x512x512) ![1, 256, 0] ![1, 256, 512] inb_S16x512x512_S1x256x512_1_256_0, shapeCast S1x256x512 (score q1 (ktile k 512 inb_S1x8192x128_S1x512x128_0_512_0)) shapeCasts_S256x512_S1x256x512⟩,
   ⟨Rect.unit (s := S16x512x512) ![1, 0, 0] ![1, 256, 512] inb_S16x512x512_S1x256x512_1_0_0, shapeCast S1x256x512 (score q0 (ktile k 512 inb_S1x8192x128_S1x512x128_0_512_0)) shapeCasts_S256x512_S1x256x512⟩,
   ⟨Rect.unit (s := S16x512x512) ![0, 256, 0] ![1, 256, 512] inb_S16x512x512_S1x256x512_0_256_0, shapeCast S1x256x512 (score q1 (ktile k 0 inb_S1x8192x128_S1x512x128_0_0_0)) shapeCasts_S256x512_S1x256x512⟩,
   ⟨Rect.unit (s := S16x512x512) ![0, 0, 0] ![1, 256, 512] inb_S16x512x512_S1x256x512_0_0_0, shapeCast S1x256x512 (score q0 (ktile k 0 inb_S1x8192x128_S1x512x128_0_0_0)) shapeCasts_S256x512_S1x256x512⟩]

/-- A load of the scores of one key tile from the filled scratch. -/
def reload (L : List (View.Piece (Elt Ideal) S16x512x512 .f32)) (c i : ℕ)
    (h : ∀ a, (![c, i, 0] : Fin 3 → ℕ) a + (![1, 256, 512] : Fin 3 → ℕ) a ≤ S16x512x512.size a) : FVec Ideal S1x256x512 .f32 :=
  (View.whole cc2_scratch0).readCov L (Rect.unit (s := S16x512x512) ![c, i, 0] ![1, 256, 512] h).toLoadRect

/-- The accumulator of softmax 1 after all key tiles. -/
def accTower0 (m : FVec Ideal S256x1 .f32) (L : List (View.Piece (Elt Ideal) S16x512x512 .f32)) (v : FVec Ideal S1x8192x128 .bf16) : FVec Ideal S256x256 .f32 :=
  (step m (step m (step m (step m (step m (step m (step m (step m (step m (step m (step m (step m (step m (step m (step m (step m (broadcast S256x256 (Scalar.ofBits .f32 0x00000000#32 : Ideal .f32))
    (reload L 0 0 inb_S16x512x512_S1x256x512_0_0_0) (ktile v 0 inb_S1x8192x128_S1x512x128_0_0_0))
    (reload L 1 0 inb_S16x512x512_S1x256x512_1_0_0) (ktile v 512 inb_S1x8192x128_S1x512x128_0_512_0))
    (reload L 2 0 inb_S16x512x512_S1x256x512_2_0_0) (ktile v 1024 inb_S1x8192x128_S1x512x128_0_1024_0))
    (reload L 3 0 inb_S16x512x512_S1x256x512_3_0_0) (ktile v 1536 inb_S1x8192x128_S1x512x128_0_1536_0))
    (reload L 4 0 inb_S16x512x512_S1x256x512_4_0_0) (ktile v 2048 inb_S1x8192x128_S1x512x128_0_2048_0))
    (reload L 5 0 inb_S16x512x512_S1x256x512_5_0_0) (ktile v 2560 inb_S1x8192x128_S1x512x128_0_2560_0))
    (reload L 6 0 inb_S16x512x512_S1x256x512_6_0_0) (ktile v 3072 inb_S1x8192x128_S1x512x128_0_3072_0))
    (reload L 7 0 inb_S16x512x512_S1x256x512_7_0_0) (ktile v 3584 inb_S1x8192x128_S1x512x128_0_3584_0))
    (reload L 8 0 inb_S16x512x512_S1x256x512_8_0_0) (ktile v 4096 inb_S1x8192x128_S1x512x128_0_4096_0))
    (reload L 9 0 inb_S16x512x512_S1x256x512_9_0_0) (ktile v 4608 inb_S1x8192x128_S1x512x128_0_4608_0))
    (reload L 10 0 inb_S16x512x512_S1x256x512_10_0_0) (ktile v 5120 inb_S1x8192x128_S1x512x128_0_5120_0))
    (reload L 11 0 inb_S16x512x512_S1x256x512_11_0_0) (ktile v 5632 inb_S1x8192x128_S1x512x128_0_5632_0))
    (reload L 12 0 inb_S16x512x512_S1x256x512_12_0_0) (ktile v 6144 inb_S1x8192x128_S1x512x128_0_6144_0))
    (reload L 13 0 inb_S16x512x512_S1x256x512_13_0_0) (ktile v 6656 inb_S1x8192x128_S1x512x128_0_6656_0))
    (reload L 14 0 inb_S16x512x512_S1x256x512_14_0_0) (ktile v 7168 inb_S1x8192x128_S1x512x128_0_7168_0))
    (reload L 15 0 inb_S16x512x512_S1x256x512_15_0_0) (ktile v 7680 inb_S1x8192x128_S1x512x128_0_7680_0))

/-- The accumulator of softmax 2 after all key tiles. -/
def accTower1 (m : FVec Ideal S256x1 .f32) (L : List (View.Piece (Elt Ideal) S16x512x512 .f32)) (v : FVec Ideal S1x8192x128 .bf16) : FVec Ideal S256x256 .f32 :=
  (step m (step m (step m (step m (step m (step m (step m (step m (step m (step m (step m (step m (step m (step m (step m (step m (broadcast S256x256 (Scalar.ofBits .f32 0x00000000#32 : Ideal .f32))
    (reload L 0 256 inb_S16x512x512_S1x256x512_0_256_0) (ktile v 0 inb_S1x8192x128_S1x512x128_0_0_0))
    (reload L 1 256 inb_S16x512x512_S1x256x512_1_256_0) (ktile v 512 inb_S1x8192x128_S1x512x128_0_512_0))
    (reload L 2 256 inb_S16x512x512_S1x256x512_2_256_0) (ktile v 1024 inb_S1x8192x128_S1x512x128_0_1024_0))
    (reload L 3 256 inb_S16x512x512_S1x256x512_3_256_0) (ktile v 1536 inb_S1x8192x128_S1x512x128_0_1536_0))
    (reload L 4 256 inb_S16x512x512_S1x256x512_4_256_0) (ktile v 2048 inb_S1x8192x128_S1x512x128_0_2048_0))
    (reload L 5 256 inb_S16x512x512_S1x256x512_5_256_0) (ktile v 2560 inb_S1x8192x128_S1x512x128_0_2560_0))
    (reload L 6 256 inb_S16x512x512_S1x256x512_6_256_0) (ktile v 3072 inb_S1x8192x128_S1x512x128_0_3072_0))
    (reload L 7 256 inb_S16x512x512_S1x256x512_7_256_0) (ktile v 3584 inb_S1x8192x128_S1x512x128_0_3584_0))
    (reload L 8 256 inb_S16x512x512_S1x256x512_8_256_0) (ktile v 4096 inb_S1x8192x128_S1x512x128_0_4096_0))
    (reload L 9 256 inb_S16x512x512_S1x256x512_9_256_0) (ktile v 4608 inb_S1x8192x128_S1x512x128_0_4608_0))
    (reload L 10 256 inb_S16x512x512_S1x256x512_10_256_0) (ktile v 5120 inb_S1x8192x128_S1x512x128_0_5120_0))
    (reload L 11 256 inb_S16x512x512_S1x256x512_11_256_0) (ktile v 5632 inb_S1x8192x128_S1x512x128_0_5632_0))
    (reload L 12 256 inb_S16x512x512_S1x256x512_12_256_0) (ktile v 6144 inb_S1x8192x128_S1x512x128_0_6144_0))
    (reload L 13 256 inb_S16x512x512_S1x256x512_13_256_0) (ktile v 6656 inb_S1x8192x128_S1x512x128_0_6656_0))
    (reload L 14 256 inb_S16x512x512_S1x256x512_14_256_0) (ktile v 7168 inb_S1x8192x128_S1x512x128_0_7168_0))
    (reload L 15 256 inb_S16x512x512_S1x256x512_15_256_0) (ktile v 7680 inb_S1x8192x128_S1x512x128_0_7680_0))

/-- What the attention body stores, as the tower. -/
def tower (x0 x1 : FVec Ideal S1x256x128 .bf16) (x2 x3 : FVec Ideal S1x8192x128 .bf16) (x4 x5 x6 x7 : FVec Ideal S1x64 .f32) (x8 : FVec Ideal S1x128 .f32) :
    FVec Ideal S1x256x128 .f32 :=
  k2_pay1 (k2_pay152 (accTower0 (maxTower x0 x2) (scratch x0 x1 x2) x3) (accTower1 (maxTower x1 x2) (scratch x0 x1 x2) x3)
    (k2_pay151 x4 x5) x6 x7 x8)

variable (V : (c : Dev nD) → (b : Ref sig .tc) → Buf (Elt Ideal) ((c : Thread nD τ).loc b))

set_option maxHeartbeats 2000000 in
theorem outsAt2_eq (c : Dev nD) (t : Fin cfg2.N) :
    outsAt2 V c t = tower (iblk2 V c 0 t) (iblk2 V c 1 t) (iblk2 V c 2 t) (iblk2 V c 3 t) (iblk2 V c 4 t) (iblk2 V c 5 t) (iblk2 V c 6 t) (iblk2 V c 7 t) (iblk2 V c 8 t) := by
  unfold outsAt2 out2_A_9
  generalize iblk2 V c 0 t = x0
  generalize iblk2 V c 1 t = x1
  generalize iblk2 V c 2 t = x2
  generalize iblk2 V c 3 t = x3
  generalize iblk2 V c 4 t = x4
  generalize iblk2 V c 5 t = x5
  generalize iblk2 V c 6 t = x6
  generalize iblk2 V c 7 t = x7
  generalize iblk2 V c 8 t = x8
  frame_out
  sl_kernel_rfl

end Cert.KernelIdeal.Val

end
-- ==== Proof.Ideal.AttnReal.lean ====
/- The attention tile over real inputs: the tower's scores, maxima and accumulators are real numbers, and the tile's rows as sums over all keys. -/
module

public import proofs.«01_k».proof.Proof.Ideal.AttnTile
public import proofs.«01_k».proof.Proof.Ideal.RealKit

@[expose] public section

set_option maxRecDepth 65536

noncomputable section

namespace Cert.KernelIdeal.Val

open Cert.KernelIdeal Cert.KernelIdeal.Gen Cert.KernelIdeal.Run Cert.RealKit
open Idealize.ShloMosaic Idealize.ShloMosaic.TcCoe Idealize.ShloMosaic.Tactic Idealize.SL.Sem
open Idealize.ShloMosaic.Pipeline (Dat Cfg Window)

theorem ktile_apply (x : FVec Ideal S1x8192x128 .bf16) (o : ℕ) (h) (j : Fin 512) (d : Fin 128) (ho : o + 512 ≤ 8192) :
    ktile x o h (ix3 (0 : Fin 1) j d) = x (ix3 (0 : Fin 1) (⟨o + j.val, by omega⟩ : Fin 8192) d) := by
  unfold ktile
  refine congrArg x ?_
  funext a
  fin_cases a
  · exact Fin.ext (show 0 + 1 * 0 = 0 from rfl)
  · exact Fin.ext (show o + 1 * j.val = o + j.val by omega)
  · exact Fin.ext (show 0 + 1 * d.val = d.val by omega)

theorem score_apply (q : FVec Ideal S1x256x128 .bf16) (k : FVec Ideal S1x512x128 .bf16) (r : Fin 256) (j : Fin 512) :
    score q k (ix2 r j) = ∑ d : Fin 128, (q (ix3 (0 : Fin 1) r d) : EReal) * k (ix3 (0 : Fin 1) j d) := by
  pointwise [score]

theorem lanes_apply (m : FVec Ideal S256x128 .f32) (s : FVec Ideal S256x512 .f32) (r : Fin 256) (l : Fin 128) :
    lanes m s (ix2 r l) = max (max (max (max (m (ix2 r l) : EReal) (s (ix2 r ⟨l.val, by omega⟩))) (s (ix2 r ⟨128 + l.val, by omega⟩)))
      (s (ix2 r ⟨256 + l.val, by omega⟩))) (s (ix2 r ⟨384 + l.val, by omega⟩)) := by
  pointwise [lanes]

theorem rowMax_apply (m : FVec Ideal S256x128 .f32) (r : Fin 256)  :
    rowMax m (ix2 r (0 : Fin 1)) = Finset.fold max ⊥ (fun x : Fin 128 => (m (ix2 r x) : EReal)) Finset.univ := by
  pointwise [rowMax]
  rfl

theorem vones_apply (v : FVec Ideal S1x512x128 .bf16) (j : Fin 512) (l : Fin 256) :
    vones v (ix2 j l) = if h : l.val < 128 then (v (ix3 (0 : Fin 1) j ⟨l.val, h⟩) : EReal) else 1 := by
  pointwise [vones]

theorem step_apply (m : FVec Ideal S256x1 .f32) (acc : FVec Ideal S256x256 .f32) (s : FVec Ideal S1x256x512 .f32) (v : FVec Ideal S1x512x128 .bf16) (r l : Fin 256) :
    step m acc s v (ix2 r l) = (acc (ix2 r l) : EReal) + ∑ j : Fin 512, Ideal.exp2 ((s (ix3 (0 : Fin 1) r j) : EReal) - m (ix2 r (0 : Fin 1))) * vones v (ix2 j l) := by
  pointwise [step]
  rfl

theorem lanes_bd {m : FVec Ideal S256x128 .f32} {s : FVec Ideal S256x512 .f32} (hm : ∀ r l, (m (ix2 r l) : EReal) < ⊤)
    (hs : ∀ r j, Bd (s (ix2 r j))) (r : Fin 256) (l : Fin 128) : Bd (lanes m s (ix2 r l)) := by
  rw [lanes_apply]
  exact Bd.max (Bd.max (Bd.max (Bd.max (hm r l) (hs r _)).2 (hs r _)).2 (hs r _)).2 (hs r _)

theorem rowMax_bd {m : FVec Ideal S256x128 .f32} (hm : ∀ r l, Bd (m (ix2 r l))) (r : Fin 256) : Bd (rowMax m (ix2 r (0 : Fin 1))) := by
  rw [rowMax_apply]
  exact bd_fold _ fun i => hm r i

/-- A row's real scores against every key. -/
def sreal (Q : Fin 256 → Fin 128 → ℝ) (K : Fin 8192 → Fin 128 → ℝ) (r : Fin 256) (n : Fin 8192) : ℝ := ∑ d, Q r d * K n d

section
variable {q : FVec Ideal S1x256x128 .bf16} {k : FVec Ideal S1x8192x128 .bf16} {Q : Fin 256 → Fin 128 → ℝ} {K : Fin 8192 → Fin 128 → ℝ}
  (hq : ∀ r d, (q (ix3 (0 : Fin 1) r d) : EReal) = Q r d) (hk : ∀ n d, (k (ix3 (0 : Fin 1) n d) : EReal) = K n d)
include hq hk

theorem score_real (o : ℕ) (h) (ho : o + 512 ≤ 8192) (r : Fin 256) (j : Fin 512) :
    (score q (ktile k o h) (ix2 r j) : EReal) = (sreal Q K r ⟨o + j.val, by omega⟩ : ℝ) := by
  rw [score_apply]
  exact coe_dot _ _ _ _ (fun d => hq r d) fun d => by rw [ktile_apply k o h j d ho]; exact hk _ d

theorem score_bd (o : ℕ) (h) (ho : o + 512 ≤ 8192) (r : Fin 256) (j : Fin 512) : Bd (score q (ktile k o h) (ix2 r j)) := by
  rw [score_real hq hk o h ho]
  exact bd_coe _

theorem maxTower_bd (r : Fin 256) : Bd (maxTower q k (ix2 r (0 : Fin 1))) := by
  unfold maxTower
  refine rowMax_bd (fun r l => ?_) r
  refine lanes_bd ?_ (score_bd hq hk _ _ (by decide)) r l
  iterate 15
    intro r l
    refine (lanes_bd ?_ (score_bd hq hk _ _ (by decide)) r l).2
  intro r l
  exact bot_lt_top (α := EReal)

end

/-- The scratch's content at an index: the scores of both queries, key tile by key tile. -/
def scrVal (S0 S1 : Fin 256 → Fin 8192 → ℝ) : S16x512x512.Idx → EReal := fun y =>
  if h : (y 1).val < 256 then ((S0 ⟨(y 1).val, h⟩ ⟨(y 0).val * 512 + (y 2).val, by have h0 : (y 0).val < 16 := (y 0).isLt; have h2 : (y 2).val < 512 := (y 2).isLt; omega⟩ : ℝ) : EReal)
  else ((S1 ⟨(y 1).val - 256, by have h1 : (y 1).val < 512 := (y 1).isLt; omega⟩ ⟨(y 0).val * 512 + (y 2).val, by have h0 : (y 0).val < 16 := (y 0).isLt; have h2 : (y 2).val < 512 := (y 2).isLt; omega⟩ : ℝ) : EReal)

theorem scrVal_fst (S0 S1 : Fin 256 → Fin 8192 → ℝ) (c : Fin 16) (r : Fin 256) (j : Fin 512) (y : S16x512x512.Idx)
    (h0 : (y 0).val = c.val) (h1 : (y 1).val = r.val) (h2 : (y 2).val = j.val) :
    scrVal S0 S1 y = (S0 r ⟨c.val * 512 + j.val, by omega⟩ : ℝ) := by
  unfold scrVal
  rw [dif_pos (by omega)]
  refine congrArg Real.toEReal (congrArg₂ S0 (Fin.ext h1) (Fin.ext ?_))
  show (y 0).val * 512 + (y 2).val = c.val * 512 + j.val
  rw [h0, h2]

theorem scrVal_snd (S0 S1 : Fin 256 → Fin 8192 → ℝ) (c : Fin 16) (r : Fin 256) (j : Fin 512) (y : S16x512x512.Idx)
    (h0 : (y 0).val = c.val) (h1 : (y 1).val = 256 + r.val) (h2 : (y 2).val = j.val) :
    scrVal S0 S1 y = (S1 r ⟨c.val * 512 + j.val, by omega⟩ : ℝ) := by
  unfold scrVal
  rw [dif_neg (by omega)]
  refine congrArg Real.toEReal (congrArg₂ S1 (Fin.ext (show (y 1).val - 256 = r.val by omega)) (Fin.ext ?_))
  show (y 0).val * 512 + (y 2).val = c.val * 512 + j.val
  rw [h0, h2]

theorem cast_apply (s : FVec Ideal S256x512 .f32) (r : Fin 256) (j : Fin 512) :
    shapeCast S1x256x512 s shapeCasts_S256x512_S1x256x512 (ix3 (0 : Fin 1) r j) = s (ix2 r j) := by
  pointwise []

/-- A store of the first query's scores is a block of the scratch's content. -/
theorem piece_fst {s : FVec Ideal S256x512 .f32} (S0 S1 : Fin 256 → Fin 8192 → ℝ) (c : Fin 16) (h)
    (hs : ∀ r j, (s (ix2 r j) : EReal) = (S0 r ⟨c.val * 512 + j.val, by omega⟩ : ℝ)) (x : S1x256x512.Idx) :
    shapeCast S1x256x512 s shapeCasts_S256x512_S1x256x512 x
      = scrVal S0 S1 ((Rect.unit (s := S16x512x512) ![c.val, 0, 0] ![1, 256, 512] h).emb x) := by
  obtain ⟨z, r, j, rfl⟩ : ∃ (z : Fin 1) (r : Fin 256) (j : Fin 512), x = ix3 z r j := ⟨x 0, x 1, x 2, eq_ix3 x⟩
  obtain rfl : z = 0 := Subsingleton.elim _ _
  refine (cast_apply s r j).trans ((hs r j).trans (scrVal_fst S0 S1 c r j _ ?_ ?_ ?_).symm)
  · show c.val + 1 * 0 = c.val; omega
  · show 0 + 1 * r.val = r.val; omega
  · show 0 + 1 * j.val = j.val; omega

/-- A store of the second query's scores is a block of the scratch's content. -/
theorem piece_snd {s : FVec Ideal S256x512 .f32} (S0 S1 : Fin 256 → Fin 8192 → ℝ) (c : Fin 16) (h)
    (hs : ∀ r j, (s (ix2 r j) : EReal) = (S1 r ⟨c.val * 512 + j.val, by omega⟩ : ℝ)) (x : S1x256x512.Idx) :
    shapeCast S1x256x512 s shapeCasts_S256x512_S1x256x512 x
      = scrVal S0 S1 ((Rect.unit (s := S16x512x512) ![c.val, 256, 0] ![1, 256, 512] h).emb x) := by
  obtain ⟨z, r, j, rfl⟩ : ∃ (z : Fin 1) (r : Fin 256) (j : Fin 512), x = ix3 z r j := ⟨x 0, x 1, x 2, eq_ix3 x⟩
  obtain rfl : z = 0 := Subsingleton.elim _ _
  refine (cast_apply s r j).trans ((hs r j).trans (scrVal_snd S0 S1 c r j _ ?_ ?_ ?_).symm)
  · show c.val + 1 * 0 = c.val; omega
  · show 256 + 1 * r.val = 256 + r.val; omega
  · show 0 + 1 * j.val = j.val; omega

section
variable {q0 q1 : FVec Ideal S1x256x128 .bf16} {k : FVec Ideal S1x8192x128 .bf16} {Q0 Q1 : Fin 256 → Fin 128 → ℝ} {K : Fin 8192 → Fin 128 → ℝ}
  (hq0 : ∀ r d, (q0 (ix3 (0 : Fin 1) r d) : EReal) = Q0 r d) (hq1 : ∀ r d, (q1 (ix3 (0 : Fin 1) r d) : EReal) = Q1 r d)
  (hk : ∀ n d, (k (ix3 (0 : Fin 1) n d) : EReal) = K n d)
include hq0 hq1 hk

theorem scratch_pieces : View.PiecesOf (scrVal (sreal Q0 K) (sreal Q1 K)) (scratch q0 q1 k) := by
  unfold scratch
  refine ⟨fun x => piece_snd _ _ 15 inb_S16x512x512_S1x256x512_15_256_0 (fun r j => score_real hq1 hk 7680 inb_S1x8192x128_S1x512x128_0_7680_0 (by decide) r j) x, ?_⟩
  refine ⟨fun x => piece_fst _ _ 15 inb_S16x512x512_S1x256x512_15_0_0 (fun r j => score_real hq0 hk 7680 inb_S1x8192x128_S1x512x128_0_7680_0 (by decide) r j) x, ?_⟩
  refine ⟨fun x => piece_snd _ _ 14 inb_S16x512x512_S1x256x512_14_256_0 (fun r j => score_real hq1 hk 7168 inb_S1x8192x128_S1x512x128_0_7168_0 (by decide) r j) x, ?_⟩
  refine ⟨fun x => piece_fst _ _ 14 inb_S16x512x512_S1x256x512_14_0_0 (fun r j => score_real hq0 hk 7168 inb_S1x8192x128_S1x512x128_0_7168_0 (by decide) r j) x, ?_⟩
  refine ⟨fun x => piece_snd _ _ 13 inb_S16x512x512_S1x256x512_13_256_0 (fun r j => score_real hq1 hk 6656 inb_S1x8192x128_S1x512x128_0_6656_0 (by decide) r j) x, ?_⟩
  refine ⟨fun x => piece_fst _ _ 13 inb_S16x512x512_S1x256x512_13_0_0 (fun r j => score_real hq0 hk 6656 inb_S1x8192x128_S1x512x128_0_6656_0 (by decide) r j) x, ?_⟩
  refine ⟨fun x => piece_snd _ _ 12 inb_S16x512x512_S1x256x512_12_256_0 (fun r j => score_real hq1 hk 6144 inb_S1x8192x128_S1x512x128_0_6144_0 (by decide) r j) x, ?_⟩
  refine ⟨fun x => piece_fst _ _ 12 inb_S16x512x512_S1x256x512_12_0_0 (fun r j => score_real hq0 hk 6144 inb_S1x8192x128_S1x512x128_0_6144_0 (by decide) r j) x, ?_⟩
  refine ⟨fun x => piece_snd _ _ 11 inb_S16x512x512_S1x256x512_11_256_0 (fun r j => score_real hq1 hk 5632 inb_S1x8192x128_S1x512x128_0_5632_0 (by decide) r j) x, ?_⟩
  refine ⟨fun x => piece_fst _ _ 11 inb_S16x512x512_S1x256x512_11_0_0 (fun r j => score_real hq0 hk 5632 inb_S1x8192x128_S1x512x128_0_5632_0 (by decide) r j) x, ?_⟩
  refine ⟨fun x => piece_snd _ _ 10 inb_S16x512x512_S1x256x512_10_256_0 (fun r j => score_real hq1 hk 5120 inb_S1x8192x128_S1x512x128_0_5120_0 (by decide) r j) x, ?_⟩
  refine ⟨fun x => piece_fst _ _ 10 inb_S16x512x512_S1x256x512_10_0_0 (fun r j => score_real hq0 hk 5120 inb_S1x8192x128_S1x512x128_0_5120_0 (by decide) r j) x, ?_⟩
  refine ⟨fun x => piece_snd _ _ 9 inb_S16x512x512_S1x256x512_9_256_0 (fun r j => score_real hq1 hk 4608 inb_S1x8192x128_S1x512x128_0_4608_0 (by decide) r j) x, ?_⟩
  refine ⟨fun x => piece_fst _ _ 9 inb_S16x512x512_S1x256x512_9_0_0 (fun r j => score_real hq0 hk 4608 inb_S1x8192x128_S1x512x128_0_4608_0 (by decide) r j) x, ?_⟩
  refine ⟨fun x => piece_snd _ _ 8 inb_S16x512x512_S1x256x512_8_256_0 (fun r j => score_real hq1 hk 4096 inb_S1x8192x128_S1x512x128_0_4096_0 (by decide) r j) x, ?_⟩
  refine ⟨fun x => piece_fst _ _ 8 inb_S16x512x512_S1x256x512_8_0_0 (fun r j => score_real hq0 hk 4096 inb_S1x8192x128_S1x512x128_0_4096_0 (by decide) r j) x, ?_⟩
  refine ⟨fun x => piece_snd _ _ 7 inb_S16x512x512_S1x256x512_7_256_0 (fun r j => score_real hq1 hk 3584 inb_S1x8192x128_S1x512x128_0_3584_0 (by decide) r j) x, ?_⟩
  refine ⟨fun x => piece_fst _ _ 7 inb_S16x512x512_S1x256x512_7_0_0 (fun r j => score_real hq0 hk 3584 inb_S1x8192x128_S1x512x128_0_3584_0 (by decide) r j) x, ?_⟩
  refine ⟨fun x => piece_snd _ _ 6 inb_S16x512x512_S1x256x512_6_256_0 (fun r j => score_real hq1 hk 3072 inb_S1x8192x128_S1x512x128_0_3072_0 (by decide) r j) x, ?_⟩
  refine ⟨fun x => piece_fst _ _ 6 inb_S16x512x512_S1x256x512_6_0_0 (fun r j => score_real hq0 hk 3072 inb_S1x8192x128_S1x512x128_0_3072_0 (by decide) r j) x, ?_⟩
  refine ⟨fun x => piece_snd _ _ 5 inb_S16x512x512_S1x256x512_5_256_0 (fun r j => score_real hq1 hk 2560 inb_S1x8192x128_S1x512x128_0_2560_0 (by decide) r j) x, ?_⟩
  refine ⟨fun x => piece_fst _ _ 5 inb_S16x512x512_S1x256x512_5_0_0 (fun r j => score_real hq0 hk 2560 inb_S1x8192x128_S1x512x128_0_2560_0 (by decide) r j) x, ?_⟩
  refine ⟨fun x => piece_snd _ _ 4 inb_S16x512x512_S1x256x512_4_256_0 (fun r j => score_real hq1 hk 2048 inb_S1x8192x128_S1x512x128_0_2048_0 (by decide) r j) x, ?_⟩
  refine ⟨fun x => piece_fst _ _ 4 inb_S16x512x512_S1x256x512_4_0_0 (fun r j => score_real hq0 hk 2048 inb_S1x8192x128_S1x512x128_0_2048_0 (by decide) r j) x, ?_⟩
  refine ⟨fun x => piece_snd _ _ 3 inb_S16x512x512_S1x256x512_3_256_0 (fun r j => score_real hq1 hk 1536 inb_S1x8192x128_S1x512x128_0_1536_0 (by decide) r j) x, ?_⟩
  refine ⟨fun x => piece_fst _ _ 3 inb_S16x512x512_S1x256x512_3_0_0 (fun r j => score_real hq0 hk 1536 inb_S1x8192x128_S1x512x128_0_1536_0 (by decide) r j) x, ?_⟩
  refine ⟨fun x => piece_snd _ _ 2 inb_S16x512x512_S1x256x512_2_256_0 (fun r j => score_real hq1 hk 1024 inb_S1x8192x128_S1x512x128_0_1024_0 (by decide) r j) x, ?_⟩
  refine ⟨fun x => piece_fst _ _ 2 inb_S16x512x512_S1x256x512_2_0_0 (fun r j => score_real hq0 hk 1024 inb_S1x8192x128_S1x512x128_0_1024_0 (by decide) r j) x, ?_⟩
  refine ⟨fun x => piece_snd _ _ 1 inb_S16x512x512_S1x256x512_1_256_0 (fun r j => score_real hq1 hk 512 inb_S1x8192x128_S1x512x128_0_512_0 (by decide) r j) x, ?_⟩
  refine ⟨fun x => piece_fst _ _ 1 inb_S16x512x512_S1x256x512_1_0_0 (fun r j => score_real hq0 hk 512 inb_S1x8192x128_S1x512x128_0_512_0 (by decide) r j) x, ?_⟩
  refine ⟨fun x => piece_snd _ _ 0 inb_S16x512x512_S1x256x512_0_256_0 (fun r j => score_real hq1 hk 0 inb_S1x8192x128_S1x512x128_0_0_0 (by decide) r j) x, ?_⟩
  refine ⟨fun x => piece_fst _ _ 0 inb_S16x512x512_S1x256x512_0_0_0 (fun r j => score_real hq0 hk 0 inb_S1x8192x128_S1x512x128_0_0_0 (by decide) r j) x, ?_⟩
  exact trivial

theorem scratch_apply (y : S16x512x512.Idx) : View.canon (scratch q0 q1 k) y = scrVal (sreal Q0 K) (sreal Q1 K) y := by
  have h := View.canon_append_of_piecesOf (scrVal (sreal Q0 K) (sreal Q1 K)) [] (scratch q0 q1 k) (scratch_pieces hq0 hq1 hk) y
    (View.cover_of_tiledL (scratch q0 q1 k) ![1, 256, 512] (by sl_kernel_rfl) y)
  rwa [List.append_nil] at h

theorem reload_fst (c : Fin 16) (h) (r : Fin 256) (j : Fin 512) :
    (reload (scratch q0 q1 k) c.val 0 h (ix3 (0 : Fin 1) r j) : EReal) = (sreal Q0 K r ⟨c.val * 512 + j.val, by omega⟩ : ℝ) := by
  unfold reload
  rw [View.readCov_eq_canon']
  refine (scratch_apply hq0 hq1 hk _).trans (scrVal_fst _ _ c r j _ ?_ ?_ ?_)
  · show c.val + 1 * 0 = c.val; omega
  · show 0 + 1 * r.val = r.val; omega
  · show 0 + 1 * j.val = j.val; omega

theorem reload_snd (c : Fin 16) (h) (r : Fin 256) (j : Fin 512) :
    (reload (scratch q0 q1 k) c.val 256 h (ix3 (0 : Fin 1) r j) : EReal) = (sreal Q1 K r ⟨c.val * 512 + j.val, by omega⟩ : ℝ) := by
  unfold reload
  rw [View.readCov_eq_canon']
  refine (scratch_apply hq0 hq1 hk _).trans (scrVal_snd _ _ c r j _ ?_ ?_ ?_)
  · show c.val + 1 * 0 = c.val; omega
  · show 256 + 1 * r.val = 256 + r.val; omega
  · show 0 + 1 * j.val = j.val; omega

end

/-- The accumulator's columns: the values, then ones. -/
def wreal (Vr : Fin 8192 → Fin 128 → ℝ) (n : Fin 8192) (l : Fin 256) : ℝ := if h : l.val < 128 then Vr n ⟨l.val, h⟩ else 1

theorem vones_real {v : FVec Ideal S1x8192x128 .bf16} {Vr : Fin 8192 → Fin 128 → ℝ} (hv : ∀ n d, (v (ix3 (0 : Fin 1) n d) : EReal) = Vr n d)
    (o : ℕ) (h) (ho : o + 512 ≤ 8192) (j : Fin 512) (l : Fin 256) :
    (vones (ktile v o h) (ix2 j l) : EReal) = (wreal Vr ⟨o + j.val, by omega⟩ l : ℝ) := by
  rw [vones_apply]
  unfold wreal
  by_cases hl : l.val < 128
  · rw [dif_pos hl, dif_pos hl, ktile_apply v o h j _ ho]
    exact hv _ _
  · rw [dif_neg hl, dif_neg hl]
    exact EReal.coe_one.symm

theorem step_real {m : FVec Ideal S256x1 .f32} {acc : FVec Ideal S256x256 .f32} {s : FVec Ideal S1x256x512 .f32} {v : FVec Ideal S1x512x128 .bf16}
    {r l : Fin 256} {A M : ℝ} {S W : Fin 512 → ℝ} (ha : (acc (ix2 r l) : EReal) = A) (hm : (m (ix2 r (0 : Fin 1)) : EReal) = M)
    (hs : ∀ j, (s (ix3 (0 : Fin 1) r j) : EReal) = S j) (hv : ∀ j, (vones v (ix2 j l) : EReal) = W j) :
    (step m acc s v (ix2 r l) : EReal) = ((A + ∑ j, Real.rpow 2 (S j - M) * W j : ℝ) : EReal) := by
  rw [step_apply, ha, EReal.coe_add]
  refine congrArg _ (coe_dot _ _ _ _ (fun j => ?_) hv)
  rw [hs, hm, ← EReal.coe_sub]
  exact Ideal.exp2_coe _

/-- Sixteen numbers, added one after the other. -/
theorem sum_sixteen (g : Fin 16 → ℝ) : ∑ c, g c = (((((((((((((((((0 : ℝ) + g 0) + g 1) + g 2) + g 3) + g 4) + g 5) + g 6) + g 7) + g 8) + g 9) + g 10) + g 11) + g 12) + g 13) + g 14) + g 15) := by
  simp only [Fin.sum_univ_castSucc, Fin.sum_univ_zero]
  rfl

/-- The sixteen tiles' sums, added one after the other. -/
theorem sum_steps (f : Fin 8192 → ℝ) : ∑ n, f n =
    (((((((((((((((((0 : ℝ) + ∑ j : Fin 512, f ⟨((0 : Fin 16).val) * 512 + j.val, by have : (0 : Fin 16).val < 16 := (0 : Fin 16).isLt; omega⟩) + ∑ j : Fin 512, f ⟨((1 : Fin 16).val) * 512 + j.val, by have : (1 : Fin 16).val < 16 := (1 : Fin 16).isLt; omega⟩) + ∑ j : Fin 512, f ⟨((2 : Fin 16).val) * 512 + j.val, by have : (2 : Fin 16).val < 16 := (2 : Fin 16).isLt; omega⟩) + ∑ j : Fin 512, f ⟨((3 : Fin 16).val) * 512 + j.val, by have : (3 : Fin 16).val < 16 := (3 : Fin 16).isLt; omega⟩) + ∑ j : Fin 512, f ⟨((4 : Fin 16).val) * 512 + j.val, by have : (4 : Fin 16).val < 16 := (4 : Fin 16).isLt; omega⟩) + ∑ j : Fin 512, f ⟨((5 : Fin 16).val) * 512 + j.val, by have : (5 : Fin 16).val < 16 := (5 : Fin 16).isLt; omega⟩) + ∑ j : Fin 512, f ⟨((6 : Fin 16).val) * 512 + j.val, by have : (6 : Fin 16).val < 16 := (6 : Fin 16).isLt; omega⟩) + ∑ j : Fin 512, f ⟨((7 : Fin 16).val) * 512 + j.val, by have : (7 : Fin 16).val < 16 := (7 : Fin 16).isLt; omega⟩) + ∑ j : Fin 512, f ⟨((8 : Fin 16).val) * 512 + j.val, by have : (8 : Fin 16).val < 16 := (8 : Fin 16).isLt; omega⟩) + ∑ j : Fin 512, f ⟨((9 : Fin 16).val) * 512 + j.val, by have : (9 : Fin 16).val < 16 := (9 : Fin 16).isLt; omega⟩) + ∑ j : Fin 512, f ⟨((10 : Fin 16).val) * 512 + j.val, by have : (10 : Fin 16).val < 16 := (10 : Fin 16).isLt; omega⟩) + ∑ j : Fin 512, f ⟨((11 : Fin 16).val) * 512 + j.val, by have : (11 : Fin 16).val < 16 := (11 : Fin 16).isLt; omega⟩) + ∑ j : Fin 512, f ⟨((12 : Fin 16).val) * 512 + j.val, by have : (12 : Fin 16).val < 16 := (12 : Fin 16).isLt; omega⟩) + ∑ j : Fin 512, f ⟨((13 : Fin 16).val) * 512 + j.val, by have : (13 : Fin 16).val < 16 := (13 : Fin 16).isLt; omega⟩) + ∑ j : Fin 512, f ⟨((14 : Fin 16).val) * 512 + j.val, by have : (14 : Fin 16).val < 16 := (14 : Fin 16).isLt; omega⟩) + ∑ j : Fin 512, f ⟨((15 : Fin 16).val) * 512 + j.val, by have : (15 : Fin 16).val < 16 := (15 : Fin 16).isLt; omega⟩) := by
  rw [sum_tiles]
  exact sum_sixteen fun c => ∑ j : Fin 512, f ⟨c.val * 512 + j.val, by omega⟩

theorem accTower0_real {q0 q1 : FVec Ideal S1x256x128 .bf16} {k v : FVec Ideal S1x8192x128 .bf16} {Q0 Q1 : Fin 256 → Fin 128 → ℝ} {K Vr : Fin 8192 → Fin 128 → ℝ}
    (hq0 : ∀ r d, (q0 (ix3 (0 : Fin 1) r d) : EReal) = Q0 r d) (hq1 : ∀ r d, (q1 (ix3 (0 : Fin 1) r d) : EReal) = Q1 r d)
    (hk : ∀ n d, (k (ix3 (0 : Fin 1) n d) : EReal) = K n d) (hv : ∀ n d, (v (ix3 (0 : Fin 1) n d) : EReal) = Vr n d)
    {m : FVec Ideal S256x1 .f32} {M : ℝ} (r l : Fin 256) (hm : (m (ix2 r (0 : Fin 1)) : EReal) = M) :
    (accTower0 m (scratch q0 q1 k) v (ix2 r l) : EReal)
      = ((∑ n, Real.rpow 2 (sreal Q0 K r n - M) * wreal Vr n l : ℝ) : EReal) := by
  have hz : Ideal.ofBits .f32 0x00000000#32 = ((0 : ℝ) : EReal) := by simp
  unfold accTower0
  rw [sum_steps (fun n => Real.rpow 2 (sreal Q0 K r n - M) * wreal Vr n l)]
  exact (step_real (step_real (step_real (step_real (step_real (step_real (step_real (step_real (step_real (step_real (step_real (step_real (step_real (step_real (step_real (step_real (show ((broadcast S256x256 (Scalar.ofBits .f32 0x00000000#32 : Ideal .f32) (ix2 r l) : EReal)) = ((0 : ℝ) : EReal) from hz) hm
    (fun j => reload_fst hq0 hq1 hk 0 inb_S16x512x512_S1x256x512_0_0_0 r j) (fun j => vones_real hv 0 inb_S1x8192x128_S1x512x128_0_0_0 (by decide) j l)) hm
    (fun j => reload_fst hq0 hq1 hk 1 inb_S16x512x512_S1x256x512_1_0_0 r j) (fun j => vones_real hv 512 inb_S1x8192x128_S1x512x128_0_512_0 (by decide) j l)) hm
    (fun j => reload_fst hq0 hq1 hk 2 inb_S16x512x512_S1x256x512_2_0_0 r j) (fun j => vones_real hv 1024 inb_S1x8192x128_S1x512x128_0_1024_0 (by decide) j l)) hm
    (fun j => reload_fst hq0 hq1 hk 3 inb_S16x512x512_S1x256x512_3_0_0 r j) (fun j => vones_real hv 1536 inb_S1x8192x128_S1x512x128_0_1536_0 (by decide) j l)) hm
    (fun j => reload_fst hq0 hq1 hk 4 inb_S16x512x512_S1x256x512_4_0_0 r j) (fun j => vones_real hv 2048 inb_S1x8192x128_S1x512x128_0_2048_0 (by decide) j l)) hm
    (fun j => reload_fst hq0 hq1 hk 5 inb_S16x512x512_S1x256x512_5_0_0 r j) (fun j => vones_real hv 2560 inb_S1x8192x128_S1x512x128_0_2560_0 (by decide) j l)) hm
    (fun j => reload_fst hq0 hq1 hk 6 inb_S16x512x512_S1x256x512_6_0_0 r j) (fun j => vones_real hv 3072 inb_S1x8192x128_S1x512x128_0_3072_0 (by decide) j l)) hm
    (fun j => reload_fst hq0 hq1 hk 7 inb_S16x512x512_S1x256x512_7_0_0 r j) (fun j => vones_real hv 3584 inb_S1x8192x128_S1x512x128_0_3584_0 (by decide) j l)) hm
    (fun j => reload_fst hq0 hq1 hk 8 inb_S16x512x512_S1x256x512_8_0_0 r j) (fun j => vones_real hv 4096 inb_S1x8192x128_S1x512x128_0_4096_0 (by decide) j l)) hm
    (fun j => reload_fst hq0 hq1 hk 9 inb_S16x512x512_S1x256x512_9_0_0 r j) (fun j => vones_real hv 4608 inb_S1x8192x128_S1x512x128_0_4608_0 (by decide) j l)) hm
    (fun j => reload_fst hq0 hq1 hk 10 inb_S16x512x512_S1x256x512_10_0_0 r j) (fun j => vones_real hv 5120 inb_S1x8192x128_S1x512x128_0_5120_0 (by decide) j l)) hm
    (fun j => reload_fst hq0 hq1 hk 11 inb_S16x512x512_S1x256x512_11_0_0 r j) (fun j => vones_real hv 5632 inb_S1x8192x128_S1x512x128_0_5632_0 (by decide) j l)) hm
    (fun j => reload_fst hq0 hq1 hk 12 inb_S16x512x512_S1x256x512_12_0_0 r j) (fun j => vones_real hv 6144 inb_S1x8192x128_S1x512x128_0_6144_0 (by decide) j l)) hm
    (fun j => reload_fst hq0 hq1 hk 13 inb_S16x512x512_S1x256x512_13_0_0 r j) (fun j => vones_real hv 6656 inb_S1x8192x128_S1x512x128_0_6656_0 (by decide) j l)) hm
    (fun j => reload_fst hq0 hq1 hk 14 inb_S16x512x512_S1x256x512_14_0_0 r j) (fun j => vones_real hv 7168 inb_S1x8192x128_S1x512x128_0_7168_0 (by decide) j l)) hm
    (fun j => reload_fst hq0 hq1 hk 15 inb_S16x512x512_S1x256x512_15_0_0 r j) (fun j => vones_real hv 7680 inb_S1x8192x128_S1x512x128_0_7680_0 (by decide) j l))

theorem accTower1_real {q0 q1 : FVec Ideal S1x256x128 .bf16} {k v : FVec Ideal S1x8192x128 .bf16} {Q0 Q1 : Fin 256 → Fin 128 → ℝ} {K Vr : Fin 8192 → Fin 128 → ℝ}
    (hq0 : ∀ r d, (q0 (ix3 (0 : Fin 1) r d) : EReal) = Q0 r d) (hq1 : ∀ r d, (q1 (ix3 (0 : Fin 1) r d) : EReal) = Q1 r d)
    (hk : ∀ n d, (k (ix3 (0 : Fin 1) n d) : EReal) = K n d) (hv : ∀ n d, (v (ix3 (0 : Fin 1) n d) : EReal) = Vr n d)
    {m : FVec Ideal S256x1 .f32} {M : ℝ} (r l : Fin 256) (hm : (m (ix2 r (0 : Fin 1)) : EReal) = M) :
    (accTower1 m (scratch q0 q1 k) v (ix2 r l) : EReal)
      = ((∑ n, Real.rpow 2 (sreal Q1 K r n - M) * wreal Vr n l : ℝ) : EReal) := by
  have hz : Ideal.ofBits .f32 0x00000000#32 = ((0 : ℝ) : EReal) := by simp
  unfold accTower1
  rw [sum_steps (fun n => Real.rpow 2 (sreal Q1 K r n - M) * wreal Vr n l)]
  exact (step_real (step_real (step_real (step_real (step_real (step_real (step_real (step_real (step_real (step_real (step_real (step_real (step_real (step_real (step_real (step_real (show ((broadcast S256x256 (Scalar.ofBits .f32 0x00000000#32 : Ideal .f32) (ix2 r l) : EReal)) = ((0 : ℝ) : EReal) from hz) hm
    (fun j => reload_snd hq0 hq1 hk 0 inb_S16x512x512_S1x256x512_0_256_0 r j) (fun j => vones_real hv 0 inb_S1x8192x128_S1x512x128_0_0_0 (by decide) j l)) hm
    (fun j => reload_snd hq0 hq1 hk 1 inb_S16x512x512_S1x256x512_1_256_0 r j) (fun j => vones_real hv 512 inb_S1x8192x128_S1x512x128_0_512_0 (by decide) j l)) hm
    (fun j => reload_snd hq0 hq1 hk 2 inb_S16x512x512_S1x256x512_2_256_0 r j) (fun j => vones_real hv 1024 inb_S1x8192x128_S1x512x128_0_1024_0 (by decide) j l)) hm
    (fun j => reload_snd hq0 hq1 hk 3 inb_S16x512x512_S1x256x512_3_256_0 r j) (fun j => vones_real hv 1536 inb_S1x8192x128_S1x512x128_0_1536_0 (by decide) j l)) hm
    (fun j => reload_snd hq0 hq1 hk 4 inb_S16x512x512_S1x256x512_4_256_0 r j) (fun j => vones_real hv 2048 inb_S1x8192x128_S1x512x128_0_2048_0 (by decide) j l)) hm
    (fun j => reload_snd hq0 hq1 hk 5 inb_S16x512x512_S1x256x512_5_256_0 r j) (fun j => vones_real hv 2560 inb_S1x8192x128_S1x512x128_0_2560_0 (by decide) j l)) hm
    (fun j => reload_snd hq0 hq1 hk 6 inb_S16x512x512_S1x256x512_6_256_0 r j) (fun j => vones_real hv 3072 inb_S1x8192x128_S1x512x128_0_3072_0 (by decide) j l)) hm
    (fun j => reload_snd hq0 hq1 hk 7 inb_S16x512x512_S1x256x512_7_256_0 r j) (fun j => vones_real hv 3584 inb_S1x8192x128_S1x512x128_0_3584_0 (by decide) j l)) hm
    (fun j => reload_snd hq0 hq1 hk 8 inb_S16x512x512_S1x256x512_8_256_0 r j) (fun j => vones_real hv 4096 inb_S1x8192x128_S1x512x128_0_4096_0 (by decide) j l)) hm
    (fun j => reload_snd hq0 hq1 hk 9 inb_S16x512x512_S1x256x512_9_256_0 r j) (fun j => vones_real hv 4608 inb_S1x8192x128_S1x512x128_0_4608_0 (by decide) j l)) hm
    (fun j => reload_snd hq0 hq1 hk 10 inb_S16x512x512_S1x256x512_10_256_0 r j) (fun j => vones_real hv 5120 inb_S1x8192x128_S1x512x128_0_5120_0 (by decide) j l)) hm
    (fun j => reload_snd hq0 hq1 hk 11 inb_S16x512x512_S1x256x512_11_256_0 r j) (fun j => vones_real hv 5632 inb_S1x8192x128_S1x512x128_0_5632_0 (by decide) j l)) hm
    (fun j => reload_snd hq0 hq1 hk 12 inb_S16x512x512_S1x256x512_12_256_0 r j) (fun j => vones_real hv 6144 inb_S1x8192x128_S1x512x128_0_6144_0 (by decide) j l)) hm
    (fun j => reload_snd hq0 hq1 hk 13 inb_S16x512x512_S1x256x512_13_256_0 r j) (fun j => vones_real hv 6656 inb_S1x8192x128_S1x512x128_0_6656_0 (by decide) j l)) hm
    (fun j => reload_snd hq0 hq1 hk 14 inb_S16x512x512_S1x256x512_14_256_0 r j) (fun j => vones_real hv 7168 inb_S1x8192x128_S1x512x128_0_7168_0 (by decide) j l)) hm
    (fun j => reload_snd hq0 hq1 hk 15 inb_S16x512x512_S1x256x512_15_256_0 r j) (fun j => vones_real hv 7680 inb_S1x8192x128_S1x512x128_0_7680_0 (by decide) j l))

end Cert.KernelIdeal.Val

end
-- ==== Proof.Ideal.AttnVal.lean ====
/- The attention tile's result over real inputs, and the array the call leaves. -/
module

public import proofs.«01_k».proof.Proof.Ideal.AttnReal

@[expose] public section

set_option maxRecDepth 16384

noncomputable section

namespace Cert.KernelIdeal.Val

open Cert.KernelIdeal Cert.KernelIdeal.Gen Cert.KernelIdeal.Run Cert.RealKit
open Idealize.ShloMosaic Idealize.ShloMosaic.TcCoe Idealize.ShloMosaic.Tactic Idealize.SL.Sem
open Idealize.ShloMosaic.Pipeline (Dat Cfg Window)

/-- The mixing weight from the four weight vectors. -/
def lamOf (a b c d : Fin 64 → EReal) : EReal :=
  Ideal.exp (∑ x, a x * b x) - Ideal.exp (∑ x, c x * d x) + Ideal.ofBits .f32 0x3E4CCCCD#32

/-- The root-mean-square normalisation of a head's row with its gain and the last factor. -/
def normed (d : Fin 128 → EReal) (g : EReal) (l : Fin 128) : EReal :=
  d l * Ideal.rsqrt (Ideal.div (∑ x, d x * d x) (Ideal.ofBits .f32 0x43000000#32) + Ideal.ofBits .f32 0x358637BD#32) * g
    * Ideal.ofBits .f32 0x3F4CCCCD#32

/-- A softmax-weighted mean of `v` under the scores `s`. -/
def smean (s v : Fin 8192 → ℝ) : ℝ := (∑ n, Real.exp (s n) * v n) / ∑ n, Real.exp (s n)

theorem pay152_apply (a b : FVec Ideal S256x256 .f32) (x4 x5 x6 x7 : FVec Ideal S1x64 .f32) (x8 : FVec Ideal S1x128 .f32) (r : Fin 256) (l : Fin 128) :
    k2_pay1 (k2_pay152 a b (k2_pay151 x4 x5) x6 x7 x8) (ix3 (0 : Fin 1) r l)
      = normed (fun x => (a (ix2 r ⟨x.val, by omega⟩) : EReal) * Ideal.div 1 (a (ix2 r 128))
          - b (ix2 r ⟨x.val, by omega⟩) * Ideal.div (lamOf (fun x => x4 (ix2 (0 : Fin 1) x)) (fun x => x5 (ix2 (0 : Fin 1) x))
              (fun x => x6 (ix2 (0 : Fin 1) x)) (fun x => x7 (ix2 (0 : Fin 1) x))) (b (ix2 r 128)))
          (x8 (ix2 (0 : Fin 1) l)) l := by
  pointwise [k2_pay1, k2_pay152, k2_pay151]
  rfl

theorem sum_pow_pos (S : Fin 8192 → ℝ) (M : ℝ) : 0 < ∑ n, Real.rpow 2 (S n - M) :=
  Finset.sum_pos (fun n _ => Real.rpow_pos_of_pos two_pos _) ⟨0, Finset.mem_univ _⟩

/-- Powers of two shifted by any `M` give the mean under the exponentials: the shift cancels. -/
theorem smean_pow (S v : Fin 8192 → ℝ) (M : ℝ) :
    (∑ n, Real.rpow 2 (S n - M) * v n) / (∑ n, Real.rpow 2 (S n - M)) = smean (fun n => S n * Real.log 2) v := by
  have e : ∀ n, Real.rpow 2 (S n - M) = Real.exp (S n * Real.log 2) * Real.exp (-(M * Real.log 2)) := fun n => by
    rw [← Real.exp_add]
    refine (Real.rpow_def_of_pos two_pos _).trans (congrArg Real.exp ?_)
    ring
  have hM : Real.exp (-(M * Real.log 2)) ≠ 0 := (Real.exp_pos _).ne'
  unfold smean
  simp only [e]
  rw [← Finset.sum_mul, Finset.sum_congr rfl fun n _ => mul_right_comm (Real.exp (S n * Real.log 2)) (Real.exp (-(M * Real.log 2))) (v n),
    ← Finset.sum_mul]
  exact mul_div_mul_right _ _ hM

theorem wreal_lt (Vr : Fin 8192 → Fin 128 → ℝ) (n : Fin 8192) (x : Fin 128) : wreal Vr n ⟨x.val, by omega⟩ = Vr n x := by
  unfold wreal
  exact dif_pos x.isLt

theorem wreal_one (Vr : Fin 8192 → Fin 128 → ℝ) (n : Fin 8192) : wreal Vr n 128 = 1 := by
  unfold wreal
  exact dif_neg (by decide)

theorem one_div_acc {n d : EReal} {N D : ℝ} (hn : n = N) (hd : d = D) (hD : D ≠ 0) : n * Ideal.div 1 d = ((N / D : ℝ) : EReal) := by
  rw [hn, hd, Ideal.div_coe hD, one_mul, ← EReal.coe_mul]
  congr 1
  ring

theorem lam_div_acc {n d L : EReal} {N D R : ℝ} (hn : n = N) (hd : d = D) (hL : L = R) (hD : D ≠ 0) :
    n * Ideal.div L d = ((R * (N / D) : ℝ) : EReal) := by
  rw [hn, hd, hL, Ideal.div_coe hD, ← EReal.coe_mul, ← EReal.coe_mul]
  congr 1
  ring

theorem tower_apply {x0 x1 : FVec Ideal S1x256x128 .bf16} {x2 x3 : FVec Ideal S1x8192x128 .bf16} (x4 x5 x6 x7 : FVec Ideal S1x64 .f32) (x8 : FVec Ideal S1x128 .f32)
    {Q0 Q1 : Fin 256 → Fin 128 → ℝ} {K Vr : Fin 8192 → Fin 128 → ℝ} {L : ℝ}
    (hq0 : ∀ r d, (x0 (ix3 (0 : Fin 1) r d) : EReal) = Q0 r d) (hq1 : ∀ r d, (x1 (ix3 (0 : Fin 1) r d) : EReal) = Q1 r d)
    (hk : ∀ n d, (x2 (ix3 (0 : Fin 1) n d) : EReal) = K n d) (hv : ∀ n d, (x3 (ix3 (0 : Fin 1) n d) : EReal) = Vr n d)
    (hL : lamOf (fun x => x4 (ix2 (0 : Fin 1) x)) (fun x => x5 (ix2 (0 : Fin 1) x)) (fun x => x6 (ix2 (0 : Fin 1) x)) (fun x => x7 (ix2 (0 : Fin 1) x)) = L)
    (r : Fin 256) (l : Fin 128) :
    tower x0 x1 x2 x3 x4 x5 x6 x7 x8 (ix3 (0 : Fin 1) r l)
      = normed (fun x => ((smean (fun n => sreal Q0 K r n * Real.log 2) (fun n => Vr n x)
          - L * smean (fun n => sreal Q1 K r n * Real.log 2) (fun n => Vr n x) : ℝ) : EReal)) (x8 (ix2 (0 : Fin 1) l)) l := by
  obtain ⟨M0, hM0⟩ := (maxTower_bd hq0 hk r).real
  obtain ⟨M1, hM1⟩ := (maxTower_bd hq1 hk r).real
  unfold tower
  rw [pay152_apply]
  refine congrArg (fun d => normed d (x8 (ix2 (0 : Fin 1) l)) l) (funext fun x => ?_)
  have n0 := accTower0_real hq0 hq1 hk hv (m := maxTower x0 x2) r ⟨x.val, by omega⟩ hM0
  have d0 := accTower0_real hq0 hq1 hk hv (m := maxTower x0 x2) r 128 hM0
  have n1 := accTower1_real hq0 hq1 hk hv (m := maxTower x1 x2) r ⟨x.val, by omega⟩ hM1
  have d1 := accTower1_real hq0 hq1 hk hv (m := maxTower x1 x2) r 128 hM1
  simp only [wreal_lt, wreal_one, mul_one] at n0 d0 n1 d1
  rw [one_div_acc n0 d0 (sum_pow_pos _ _).ne', lam_div_acc n1 d1 hL (sum_pow_pos _ _).ne', smean_pow, smean_pow]
  exact (EReal.coe_sub _ _).symm

theorem index2_0 : ∀ t : Fin cfg2.N, win2_0.index t = ![(grid2.coords t 0).val, (grid2.coords t 2).val, (grid2.coords t 1).val] := (by decide +kernel : ∀ t : Fin grid2.N, _)
theorem index2_1 : ∀ t : Fin cfg2.N, win2_1.index t = ![(grid2.coords t 0).val, (grid2.coords t 2).val, (grid2.coords t 1).val] := (by decide +kernel : ∀ t : Fin grid2.N, _)
theorem index2_2 : ∀ t : Fin cfg2.N, win2_2.index t = ![(grid2.coords t 0).val, 0, (grid2.coords t 1).val] := (by decide +kernel : ∀ t : Fin grid2.N, _)
theorem index2_3 : ∀ t : Fin cfg2.N, win2_3.index t = ![(grid2.coords t 0).val, 0, (grid2.coords t 1).val] := (by decide +kernel : ∀ t : Fin grid2.N, _)
theorem index2_4 : ∀ t : Fin cfg2.N, win2_4.index t = ![0, 0] := (by decide +kernel : ∀ t : Fin grid2.N, _)
theorem index2_5 : ∀ t : Fin cfg2.N, win2_5.index t = ![0, 0] := (by decide +kernel : ∀ t : Fin grid2.N, _)
theorem index2_6 : ∀ t : Fin cfg2.N, win2_6.index t = ![0, 0] := (by decide +kernel : ∀ t : Fin grid2.N, _)
theorem index2_7 : ∀ t : Fin cfg2.N, win2_7.index t = ![0, 0] := (by decide +kernel : ∀ t : Fin grid2.N, _)
theorem index2_8 : ∀ t : Fin cfg2.N, win2_8.index t = ![0, 0] := (by decide +kernel : ∀ t : Fin grid2.N, _)
theorem index2_9 : ∀ t : Fin cfg2.N, win2_9.index t = ![(grid2.coords t 0).val, (grid2.coords t 2).val, (grid2.coords t 1).val] := (by decide +kernel : ∀ t : Fin grid2.N, _)

/-- A grid point's batch. -/
def bOf2 (t : Fin cfg2.N) : Fin 10 := grid2.coords t 0
/-- A grid point's head. -/
def hOf2 (t : Fin cfg2.N) : Fin 4 := grid2.coords t 1
/-- A tile's row among all rows. -/
def rowOf2 (t : Fin cfg2.N) (r : Fin 256) : Fin 8192 := ⟨(grid2.coords t 2).val * 256 + r.val, by
  have h : (grid2.coords t 2).val < 32 := (grid2.coords t 2).isLt
  omega⟩
/-- A head's lane among all columns. -/
def lane (h : Fin 4) (l : Fin 128) : Fin 512 := ⟨h.val * 128 + l.val, by omega⟩

variable (V : (c : Dev nD) → (b : Ref sig .tc) → Buf (Elt Ideal) ((c : Thread nD τ).loc b))

theorem b2_0 (c : Dev nD) (t : Fin cfg2.N) (r : Fin 256) (l : Fin 128) :
    iblk2 V c 0 t (ix3 (0 : Fin 1) r l) = V c main_v47_0 (ix3 (bOf2 t) (rowOf2 t r) (lane (hOf2 t) l)) := by
  blk_simp [iblk2]
  refine congrArg (V c main_v47_0) ?_
  unfold bOf2 rowOf2 hOf2 lane
  blk_ext [index2_0 t]
theorem b2_1 (c : Dev nD) (t : Fin cfg2.N) (r : Fin 256) (l : Fin 128) :
    iblk2 V c 1 t (ix3 (0 : Fin 1) r l) = V c main_v47_1 (ix3 (bOf2 t) (rowOf2 t r) (lane (hOf2 t) l)) := by
  blk_simp [iblk2]
  refine congrArg (V c main_v47_1) ?_
  unfold bOf2 rowOf2 hOf2 lane
  blk_ext [index2_1 t]
theorem b2_2 (c : Dev nD) (t : Fin cfg2.N) (n : Fin 8192) (l : Fin 128) :
    iblk2 V c 2 t (ix3 (0 : Fin 1) n l) = V c main_v47_2 (ix3 (bOf2 t) n (lane (hOf2 t) l)) := by
  blk_simp [iblk2]
  refine congrArg (V c main_v47_2) ?_
  unfold bOf2 hOf2 lane
  blk_ext [index2_2 t]
theorem b2_3 (c : Dev nD) (t : Fin cfg2.N) (n : Fin 8192) (l : Fin 128) :
    iblk2 V c 3 t (ix3 (0 : Fin 1) n l) = V c main_v47_3 (ix3 (bOf2 t) n (lane (hOf2 t) l)) := by
  blk_simp [iblk2]
  refine congrArg (V c main_v47_3) ?_
  unfold bOf2 hOf2 lane
  blk_ext [index2_3 t]
theorem b2_4 (c : Dev nD) (t : Fin cfg2.N) (x : Fin 64) : iblk2 V c 4 t (ix2 (0 : Fin 1) x) = V c main_v48 (ix2 (0 : Fin 1) x) := by
  blk_simp [iblk2]
  refine congrArg (V c main_v48) ?_
  blk_ext [index2_4 t]
theorem b2_5 (c : Dev nD) (t : Fin cfg2.N) (x : Fin 64) : iblk2 V c 5 t (ix2 (0 : Fin 1) x) = V c main_v49 (ix2 (0 : Fin 1) x) := by
  blk_simp [iblk2]
  refine congrArg (V c main_v49) ?_
  blk_ext [index2_5 t]
theorem b2_6 (c : Dev nD) (t : Fin cfg2.N) (x : Fin 64) : iblk2 V c 6 t (ix2 (0 : Fin 1) x) = V c main_v50 (ix2 (0 : Fin 1) x) := by
  blk_simp [iblk2]
  refine congrArg (V c main_v50) ?_
  blk_ext [index2_6 t]
theorem b2_7 (c : Dev nD) (t : Fin cfg2.N) (x : Fin 64) : iblk2 V c 7 t (ix2 (0 : Fin 1) x) = V c main_v51 (ix2 (0 : Fin 1) x) := by
  blk_simp [iblk2]
  refine congrArg (V c main_v51) ?_
  blk_ext [index2_7 t]
theorem b2_8 (c : Dev nD) (t : Fin cfg2.N) (x : Fin 128) : iblk2 V c 8 t (ix2 (0 : Fin 1) x) = V c main_v52 (ix2 (0 : Fin 1) x) := by
  blk_simp [iblk2]
  refine congrArg (V c main_v52) ?_
  blk_ext [index2_8 t]

/-- A real array's score of a row against a key within a head. -/
def headScore (Q K : Fin 10 → Fin 8192 → Fin 512 → ℝ) (b : Fin 10) (h : Fin 4) (s n : Fin 8192) : ℝ :=
  ∑ d : Fin 128, Q b s (lane h d) * K b n (lane h d)

/-- The attention branch's array from the four real arrays, the mixing weight and the gain. -/
def attnArr (QA QB K W : Fin 10 → Fin 8192 → Fin 512 → ℝ) (L : ℝ) (g : FVec Ideal S1x128 .f32) : FVec Ideal S10x8192x512 .f32 := fun y =>
  have h : Fin 4 := ⟨(y 2).val / 128, by have h2 : (y 2).val < 512 := (y 2).isLt; omega⟩
  have l : Fin 128 := ⟨(y 2).val % 128, by omega⟩
  normed (fun x => ((smean (fun n => headScore QA K (y 0) h (y 1) n * Real.log 2) (fun n => W (y 0) n (lane h x))
      - L * smean (fun n => headScore QB K (y 0) h (y 1) n * Real.log 2) (fun n => W (y 0) n (lane h x)) : ℝ) : EReal))
    (g (ix2 (0 : Fin 1) l)) l

theorem attnArr_apply (QA QB K W : Fin 10 → Fin 8192 → Fin 512 → ℝ) (L : ℝ) (g : FVec Ideal S1x128 .f32) (b : Fin 10) (s : Fin 8192) (h : Fin 4) (l : Fin 128) :
    attnArr QA QB K W L g (ix3 b s (lane h l))
      = normed (fun x => ((smean (fun n => headScore QA K b h s n * Real.log 2) (fun n => W b n (lane h x))
          - L * smean (fun n => headScore QB K b h s n * Real.log 2) (fun n => W b n (lane h x)) : ℝ) : EReal))
        (g (ix2 (0 : Fin 1) l)) l := by
  have e0 : (⟨(lane h l).val / 128, by omega⟩ : Fin 4) = h := Fin.ext (show (h.val * 128 + l.val) / 128 = h.val by omega)
  have e1 : (⟨(lane h l).val % 128, by omega⟩ : Fin 128) = l := Fin.ext (show (h.val * 128 + l.val) % 128 = l.val by omega)
  show normed (fun x => ((smean (fun n => headScore QA K b ⟨(lane h l).val / 128, by omega⟩ s n * Real.log 2) (fun n => W b n (lane ⟨(lane h l).val / 128, by omega⟩ x))
      - L * smean (fun n => headScore QB K b ⟨(lane h l).val / 128, by omega⟩ s n * Real.log 2) (fun n => W b n (lane ⟨(lane h l).val / 128, by omega⟩ x)) : ℝ) : EReal))
    (g (ix2 (0 : Fin 1) ⟨(lane h l).val % 128, by omega⟩)) ⟨(lane h l).val % 128, by omega⟩ = _
  rw [e0, e1]

theorem emb2_9 (t : Fin cfg2.N) (r : Fin 256) (l : Fin 128) : (win2_9.blk t).view.emb (ix3 (0 : Fin 1) r l) = ix3 (bOf2 t) (rowOf2 t r) (lane (hOf2 t) l) := by
  unfold bOf2 rowOf2 hOf2 lane
  blk_ext [index2_9 t]

/-- The array's entries are the reals `R`. -/
def IsReal (A : FVec Ideal S10x8192x512 .bf16) (R : Fin 10 → Fin 8192 → Fin 512 → ℝ) : Prop :=
  ∀ b s j, (A (ix3 b s j) : EReal) = R b s j

theorem arr2 (c : Dev nD) {QA QB K W : Fin 10 → Fin 8192 → Fin 512 → ℝ} {L : ℝ}
    (h0 : IsReal (V c main_v47_0) QA) (h1 : IsReal (V c main_v47_1) QB)
    (h2 : IsReal (V c main_v47_2) K) (h3 : IsReal (V c main_v47_3) W)
    (hL : lamOf (fun x => V c main_v48 (ix2 (0 : Fin 1) x)) (fun x => V c main_v49 (ix2 (0 : Fin 1) x)) (fun x => V c main_v50 (ix2 (0 : Fin 1) x))
      (fun x => V c main_v51 (ix2 (0 : Fin 1) x)) = L) :
    (dat2 V c).arrAt 9 cfg2.N = attnArr QA QB K W L (V c main_v52) := by
  refine (dat2 V c).arrAt_eq_of_covers 9 (attnArr QA QB K W L (V c main_v52)) (by decide +kernel) fun t hf y => ?_
  blk_simp
  rw [after2_9, outsAt2_eq]
  obtain ⟨z, r, l, rfl⟩ : ∃ (z : Fin 1) (r : Fin 256) (l : Fin 128), y = ix3 z r l := ⟨y 0, y 1, y 2, eq_ix3 y⟩
  obtain rfl : z = 0 := Subsingleton.elim _ _
  refine (tower_apply _ _ _ _ _ (fun r d => (b2_0 V c t r d).trans (h0 _ _ _)) (fun r d => (b2_1 V c t r d).trans (h1 _ _ _))
    (fun n d => (b2_2 V c t n d).trans (h2 _ _ _)) (fun n d => (b2_3 V c t n d).trans (h3 _ _ _)) (L := L) ?_ r l).trans ?_
  · simp only [b2_4, b2_5, b2_6, b2_7]
    exact hL
  · rw [b2_8]
    refine Eq.trans ?_ (congrArg (attnArr QA QB K W L (V c main_v52)) (emb2_9 t r l)).symm
    exact (attnArr_apply QA QB K W L (V c main_v52) _ _ _ _).symm

end Cert.KernelIdeal.Val

end
-- ==== Proof.Ideal.Weight.lean ====
/- The packed input weight: which column of the weight each of its columns is. -/
module

public import proofs.«01_k».proof.Proof.Gen.KernelIdeal.Launch
public import proofs.«01_k».proof.Proof.Gen.KernelIdeal.Skeleton
public import Idealize.ShloMosaic.Lib.Pointwise
public import Idealize.ShloMosaic.Lib.Pipeline.Value
public import Idealize.ShloMosaic.Lib.Pipeline.ValueKit.Geometry
public import Idealize.ShloMosaic.Lib.StableHlo

@[expose] public section

set_option maxRecDepth 16384

noncomputable section

namespace Cert.KernelIdeal.Val

open Cert.KernelIdeal Cert.KernelIdeal.Gen
open Idealize.ShloMosaic Idealize.ShloMosaic.TcCoe Idealize.SL.Sem

/-- The column of the input weight that the packed weight holds at column `n`. -/
def packCol (n : ℕ) : ℕ :=
  if n < 2048 then n else
  if n < 2624 then n + 16 else
  if n < 2688 then n + 208 else
  if n < 2752 then n - 48 else
  if n < 2816 then n + 144 else
  if n < 2880 then n - 112 else
  if n < 2944 then n + 80 else
  if n < 3008 then n - 176 else
  if n < 3136 then n + 16 else
  if n < 3200 then n + 208 else
  if n < 3264 then n - 48 else
  if n < 3328 then n + 144 else
  if n < 3392 then n - 112 else
  if n < 3456 then n + 80 else
  if n < 3520 then n - 176 else
  if n < 7168 then n + 16 else
  n - 5120

/-- The packed weight's columns but the last 128: sixteen runs of the weight's columns, one after the other. -/
def packHead (w : FVec Ideal S1024x7184 .f32) : FVec Ideal S1024x7168 .f32 :=
  concatenate S1024x7168 1
    [ ⟨S1024x2048, extractStridedSlice S1024x2048 ![0, 0] w slices_S1024x7184_S1024x2048_0_0⟩,
      ⟨S1024x576, extractStridedSlice S1024x576 ![0, 2064] w slices_S1024x7184_S1024x576_0_2064⟩,
      ⟨S1024x64, extractStridedSlice S1024x64 ![0, 2832] w slices_S1024x7184_S1024x64_0_2832⟩,
      ⟨S1024x64, extractStridedSlice S1024x64 ![0, 2640] w slices_S1024x7184_S1024x64_0_2640⟩,
      ⟨S1024x64, extractStridedSlice S1024x64 ![0, 2896] w slices_S1024x7184_S1024x64_0_2896⟩,
      ⟨S1024x64, extractStridedSlice S1024x64 ![0, 2704] w slices_S1024x7184_S1024x64_0_2704⟩,
      ⟨S1024x64, extractStridedSlice S1024x64 ![0, 2960] w slices_S1024x7184_S1024x64_0_2960⟩,
      ⟨S1024x64, extractStridedSlice S1024x64 ![0, 2768] w slices_S1024x7184_S1024x64_0_2768⟩,
      ⟨S1024x128, extractStridedSlice S1024x128 ![0, 3024] w slices_S1024x7184_S1024x128_0_3024⟩,
      ⟨S1024x64, extractStridedSlice S1024x64 ![0, 3344] w slices_S1024x7184_S1024x64_0_3344⟩,
      ⟨S1024x64, extractStridedSlice S1024x64 ![0, 3152] w slices_S1024x7184_S1024x64_0_3152⟩,
      ⟨S1024x64, extractStridedSlice S1024x64 ![0, 3408] w slices_S1024x7184_S1024x64_0_3408⟩,
      ⟨S1024x64, extractStridedSlice S1024x64 ![0, 3216] w slices_S1024x7184_S1024x64_0_3216⟩,
      ⟨S1024x64, extractStridedSlice S1024x64 ![0, 3472] w slices_S1024x7184_S1024x64_0_3472⟩,
      ⟨S1024x64, extractStridedSlice S1024x64 ![0, 3280] w slices_S1024x7184_S1024x64_0_3280⟩,
      ⟨S1024x3648, extractStridedSlice S1024x3648 ![0, 3536] w slices_S1024x7184_S1024x3648_0_3536⟩]
    concatenates_S1024x2048_S1024x576_S1024x64_S1024x64_S1024x64_S1024x64_S1024x64_S1024x64_S1024x128_S1024x64_S1024x64_S1024x64_S1024x64_S1024x64_S1024x64_S1024x3648_S1024x7168_d1

/-- The packed weight. -/
def packed (w : FVec Ideal S1024x7184 .f32) : FVec Ideal S1024x7296 .bf16 :=
  truncf .bf16 (concatenate S1024x7296 1
    [⟨S1024x7168, packHead w⟩,
     ⟨S1024x128, concatenate S1024x128 1
       [⟨S1024x16, extractStridedSlice S1024x16 ![0, 2048] w slices_S1024x7184_S1024x16_0_2048⟩,
        ⟨S1024x112, broadcastInDim S1024x112 ![] bcast_S_S1024x112 (constant S_ .f32 0x00000000#32)⟩]
       concatenates_S1024x16_S1024x112_S1024x128_d1⟩]
    concatenates_S1024x7168_S1024x128_S1024x7296_d1) bitsLt_bf16_f32

/-- A run of columns, at an index. -/
theorem slice_apply {L src : ℕ} (w : FVec Ideal S1024x7184 .f32) (h : S1024x7184.Slices ![0, src] (⟨2, ![1024, L]⟩ : Shape))
    (k : Fin 1024) (i : Fin L) (hc : src + i.val < 7184) :
    extractStridedSlice (⟨2, ![1024, L]⟩ : Shape) ![0, src] w h (ix2 k i) = w (ix2 k ⟨src + i.val, hc⟩) := by
  refine congrArg w (funext fun b => Fin.ext ?_)
  fin_cases b
  · show 0 + k.val = k.val; omega
  · show src + i.val = src + i.val; rfl

/-- The shapes of the sixteen runs. -/
def runShapes : List Shape :=
  [S1024x2048, S1024x576, S1024x64, S1024x64, S1024x64, S1024x64, S1024x64, S1024x64, S1024x128, S1024x64, S1024x64, S1024x64,
    S1024x64, S1024x64, S1024x64, S1024x3648]

/-- The run that holds a column, read there. -/
theorem head_piece (xs : List ((s : Shape) × (s.Idx → Ideal .f32))) (h : Shape.Concatenates (xs.map (·.1)) S1024x7168 1)
    (w : FVec Ideal S1024x7184 .f32) (k : Fin 1024) (n : Fin 7168) (p : ℕ) (hp : p < xs.length) (L src pre : ℕ)
    (hs : S1024x7184.Slices ![0, src] (⟨2, ![1024, L]⟩ : Shape))
    (hx : xs[p] = ⟨(⟨2, ![1024, L]⟩ : Shape), extractStridedSlice (⟨2, ![1024, L]⟩ : Shape) ![0, src] w hs⟩)
    (hsh : xs.map (·.1) = runShapes) (hpre : ((runShapes.take p).map fun s => if h : s.rank = S1024x7168.rank then s.size ((1 : Fin S1024x7168.rank).cast h.symm) else 0).sum = pre)
    (h1 : pre ≤ n.val) (h2 : n.val < pre + L) (hc : src + (n.val - pre) < 7184) :
    concatenate S1024x7168 1 xs h (ix2 k n) = w (ix2 k ⟨src + (n.val - pre), hc⟩) := by
  refine (concatenate_apply_piece (t := S1024x7168) 1 xs h (ix2 k n) p hp _ _ hx rfl pre
    (by rw [List.map_take, hsh]; exact hpre)
    (ix2 k (⟨n.val - pre, by omega⟩ : Fin L)) ?_ ?_).trans (slice_apply w hs k _ hc)
  · intro b hb
    fin_cases b
    · rfl
    · exact absurd rfl hb
  · show pre + (n.val - pre) = n.val
    omega

theorem ite_lt {P : Prop} [Decidable P] {a b c : ℕ} (h1 : P → a < c) (h2 : ¬ P → b < c) : (if P then a else b) < c := by
  by_cases h : P
  · rw [if_pos h]; exact h1 h
  · rw [if_neg h]; exact h2 h

theorem packCol_lt {n : ℕ} (h : n < 7184) : packCol n < 7184 := by
  unfold packCol
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  refine ite_lt (fun _ => by omega) fun _ => ?_
  omega

set_option maxHeartbeats 400000 in
/-- The packed weight's first 7168 columns. -/
theorem packHead_apply (w : FVec Ideal S1024x7184 .f32) (k : Fin 1024) (n : Fin 7168) :
    packHead w (ix2 k n) = w (ix2 k ⟨packCol n.val, packCol_lt (by omega)⟩) := by
  have hn := n.isLt
  have key : ∀ (src pre : ℕ) (hc : src + (n.val - pre) < 7184), packCol n.val = src + (n.val - pre) →
      packHead w (ix2 k n) = w (ix2 k ⟨src + (n.val - pre), hc⟩) →
      packHead w (ix2 k n) = w (ix2 k ⟨packCol n.val, packCol_lt (by omega)⟩) := by
    intro src pre hc e h
    rw [h]
    exact congrArg (fun z => w (ix2 k z)) (Fin.ext e.symm)
  by_cases h0 : n.val < 2048
  · exact key 0 0 (by omega) (by unfold packCol; rw [if_pos h0]; omega)
      (head_piece _ _ w k n 0 (by show 0 < 16; omega) 2048 0 0 _ rfl rfl (by decide +kernel) (by omega) (by omega) _)
  by_cases h1 : n.val < 2624
  · exact key 2064 2048 (by omega) (by unfold packCol; rw [if_neg h0, if_pos h1]; omega)
      (head_piece _ _ w k n 1 (by show 1 < 16; omega) 576 2064 2048 _ rfl rfl (by decide +kernel) (by omega) (by omega) _)
  by_cases h2 : n.val < 2688
  · exact key 2832 2624 (by omega) (by unfold packCol; rw [if_neg h0, if_neg h1, if_pos h2]; omega)
      (head_piece _ _ w k n 2 (by show 2 < 16; omega) 64 2832 2624 _ rfl rfl (by decide +kernel) (by omega) (by omega) _)
  by_cases h3 : n.val < 2752
  · exact key 2640 2688 (by omega) (by unfold packCol; rw [if_neg h0, if_neg h1, if_neg h2, if_pos h3]; omega)
      (head_piece _ _ w k n 3 (by show 3 < 16; omega) 64 2640 2688 _ rfl rfl (by decide +kernel) (by omega) (by omega) _)
  by_cases h4 : n.val < 2816
  · exact key 2896 2752 (by omega) (by unfold packCol; rw [if_neg h0, if_neg h1, if_neg h2, if_neg h3, if_pos h4]; omega)
      (head_piece _ _ w k n 4 (by show 4 < 16; omega) 64 2896 2752 _ rfl rfl (by decide +kernel) (by omega) (by omega) _)
  by_cases h5 : n.val < 2880
  · exact key 2704 2816 (by omega) (by unfold packCol; rw [if_neg h0, if_neg h1, if_neg h2, if_neg h3, if_neg h4, if_pos h5]; omega)
      (head_piece _ _ w k n 5 (by show 5 < 16; omega) 64 2704 2816 _ rfl rfl (by decide +kernel) (by omega) (by omega) _)
  by_cases h6 : n.val < 2944
  · exact key 2960 2880 (by omega) (by unfold packCol; rw [if_neg h0, if_neg h1, if_neg h2, if_neg h3, if_neg h4, if_neg h5, if_pos h6]; omega)
      (head_piece _ _ w k n 6 (by show 6 < 16; omega) 64 2960 2880 _ rfl rfl (by decide +kernel) (by omega) (by omega) _)
  by_cases h7 : n.val < 3008
  · exact key 2768 2944 (by omega) (by unfold packCol; rw [if_neg h0, if_neg h1, if_neg h2, if_neg h3, if_neg h4, if_neg h5, if_neg h6, if_pos h7]; omega)
      (head_piece _ _ w k n 7 (by show 7 < 16; omega) 64 2768 2944 _ rfl rfl (by decide +kernel) (by omega) (by omega) _)
  by_cases h8 : n.val < 3136
  · exact key 3024 3008 (by omega) (by unfold packCol; rw [if_neg h0, if_neg h1, if_neg h2, if_neg h3, if_neg h4, if_neg h5, if_neg h6, if_neg h7, if_pos h8]; omega)
      (head_piece _ _ w k n 8 (by show 8 < 16; omega) 128 3024 3008 _ rfl rfl (by decide +kernel) (by omega) (by omega) _)
  by_cases h9 : n.val < 3200
  · exact key 3344 3136 (by omega) (by unfold packCol; rw [if_neg h0, if_neg h1, if_neg h2, if_neg h3, if_neg h4, if_neg h5, if_neg h6, if_neg h7, if_neg h8, if_pos h9]; omega)
      (head_piece _ _ w k n 9 (by show 9 < 16; omega) 64 3344 3136 _ rfl rfl (by decide +kernel) (by omega) (by omega) _)
  by_cases h10 : n.val < 3264
  · exact key 3152 3200 (by omega) (by unfold packCol; rw [if_neg h0, if_neg h1, if_neg h2, if_neg h3, if_neg h4, if_neg h5, if_neg h6, if_neg h7, if_neg h8, if_neg h9, if_pos h10]; omega)
      (head_piece _ _ w k n 10 (by show 10 < 16; omega) 64 3152 3200 _ rfl rfl (by decide +kernel) (by omega) (by omega) _)
  by_cases h11 : n.val < 3328
  · exact key 3408 3264 (by omega) (by unfold packCol; rw [if_neg h0, if_neg h1, if_neg h2, if_neg h3, if_neg h4, if_neg h5, if_neg h6, if_neg h7, if_neg h8, if_neg h9, if_neg h10, if_pos h11]; omega)
      (head_piece _ _ w k n 11 (by show 11 < 16; omega) 64 3408 3264 _ rfl rfl (by decide +kernel) (by omega) (by omega) _)
  by_cases h12 : n.val < 3392
  · exact key 3216 3328 (by omega) (by unfold packCol; rw [if_neg h0, if_neg h1, if_neg h2, if_neg h3, if_neg h4, if_neg h5, if_neg h6, if_neg h7, if_neg h8, if_neg h9, if_neg h10, if_neg h11, if_pos h12]; omega)
      (head_piece _ _ w k n 12 (by show 12 < 16; omega) 64 3216 3328 _ rfl rfl (by decide +kernel) (by omega) (by omega) _)
  by_cases h13 : n.val < 3456
  · exact key 3472 3392 (by omega) (by unfold packCol; rw [if_neg h0, if_neg h1, if_neg h2, if_neg h3, if_neg h4, if_neg h5, if_neg h6, if_neg h7, if_neg h8, if_neg h9, if_neg h10, if_neg h11, if_neg h12, if_pos h13]; omega)
      (head_piece _ _ w k n 13 (by show 13 < 16; omega) 64 3472 3392 _ rfl rfl (by decide +kernel) (by omega) (by omega) _)
  by_cases h14 : n.val < 3520
  · exact key 3280 3456 (by omega) (by unfold packCol; rw [if_neg h0, if_neg h1, if_neg h2, if_neg h3, if_neg h4, if_neg h5, if_neg h6, if_neg h7, if_neg h8, if_neg h9, if_neg h10, if_neg h11, if_neg h12, if_neg h13, if_pos h14]; omega)
      (head_piece _ _ w k n 14 (by show 14 < 16; omega) 64 3280 3456 _ rfl rfl (by decide +kernel) (by omega) (by omega) _)
  by_cases h15 : n.val < 7168
  · exact key 3536 3520 (by omega) (by unfold packCol; rw [if_neg h0, if_neg h1, if_neg h2, if_neg h3, if_neg h4, if_neg h5, if_neg h6, if_neg h7, if_neg h8, if_neg h9, if_neg h10, if_neg h11, if_neg h12, if_neg h13, if_neg h14, if_pos h15]; omega)
      (head_piece _ _ w k n 15 (by show 15 < 16; omega) 3648 3536 3520 _ rfl rfl (by decide +kernel) (by omega) (by omega) _)
  omega

/-- The packed weight at an index: a column of the input weight, for the columns the program uses. -/
theorem packed_apply (w : FVec Ideal S1024x7184 .f32) (k : Fin 1024) (n : Fin 7296) (hn : n.val < 7184) :
    packed w (ix2 k n) = w (ix2 k ⟨packCol n.val, packCol_lt hn⟩) := by
  by_cases h : n.val < 7168
  · refine (concatenate_pair_apply_left (t := S1024x7296) 1 (packHead w) _ concatenates_S1024x7168_S1024x128_S1024x7296_d1 (ix2 k n) rfl (ix2 k (⟨n.val, h⟩ : Fin 7168)) ?_).trans
      (packHead_apply w k ⟨n.val, h⟩)
    intro b
    fin_cases b <;> rfl
  · refine (concatenate_pair_apply_right (t := S1024x7296) 1 (packHead w) _ concatenates_S1024x7168_S1024x128_S1024x7296_d1 (ix2 k n) rfl rfl
      (ix2 k (⟨n.val - 7168, by omega⟩ : Fin 128)) ?_ ?_).trans ?_
    · intro b hb
      fin_cases b
      · rfl
      · exact absurd rfl hb
    · show n.val - 7168 + 7168 = n.val
      omega
    refine (concatenate_pair_apply_left (t := S1024x128) 1 _ _ concatenates_S1024x16_S1024x112_S1024x128_d1 (ix2 k (⟨n.val - 7168, by omega⟩ : Fin 128)) rfl
      (ix2 k (⟨n.val - 7168, by omega⟩ : Fin 16)) ?_).trans ?_
    · intro b
      fin_cases b <;> rfl
    refine (slice_apply w _ k _ (by show 2048 + (n.val - 7168) < 7184; omega)).trans ?_
    refine congrArg (fun z => w (ix2 k z)) (Fin.ext ?_)
    show 2048 + (n.val - 7168) = packCol n.val
    unfold packCol
    rw [if_neg (show ¬ n.val < 2048 by omega), if_neg (show ¬ n.val < 2624 by omega), if_neg (show ¬ n.val < 2688 by omega), if_neg (show ¬ n.val < 2752 by omega), if_neg (show ¬ n.val < 2816 by omega), if_neg (show ¬ n.val < 2880 by omega), if_neg (show ¬ n.val < 2944 by omega), if_neg (show ¬ n.val < 3008 by omega), if_neg (show ¬ n.val < 3136 by omega), if_neg (show ¬ n.val < 3200 by omega), if_neg (show ¬ n.val < 3264 by omega), if_neg (show ¬ n.val < 3328 by omega), if_neg (show ¬ n.val < 3392 by omega), if_neg (show ¬ n.val < 3456 by omega), if_neg (show ¬ n.val < 3520 by omega), if_neg (show ¬ n.val < 7168 by omega)]
    omega

/-- The buffer the host operations before the matmul leave the packed weight in. -/
theorem v21_eq (V : Valuation τ sig (Elt Ideal)) :
    StableHlo.after hostOps0 V (Proc.devRef .tc main_v21) = packed (V (Proc.devRef .tc main_arg1)) := by
  rfl

end Cert.KernelIdeal.Val

end
-- ==== Proof.Ideal.Angle.lean ====
/- The rotation's angles are real, and so are their cosines and sines. -/
module

public import Idealize.ShloMosaic.PureOps.Ideal
public import Idealize.ShloMosaic.Lib.Tactic
public import proofs.«01_k».proof.Proof.Ideal.RealKit

@[expose] public section

noncomputable section

namespace Cert.RealKit

open Idealize.ShloMosaic

/-- Position `s`'s angle at frequency `i`, as both programs write it. -/
def angE (s i : ℕ) : EReal :=
  FloatOps.sitofp (F := Ideal) FTy.f32 (BitVec.ofNat 32 s) *
    Ideal.pow (Ideal.ofBits FTy.f32 0x461C4000#32)
      (Ideal.div (-FloatOps.sitofp (F := Ideal) FTy.f32 (BitVec.ofNat 32 i)) (Ideal.ofBits FTy.f32 0x42000000#32))

theorem base_real : Ideal.ofBits FTy.f32 0x461C4000#32 = ((10000 : ℝ) : EReal) := by
  norm_num [Ideal.ofBits, Ideal.ieee, Nat.shiftRight_eq_div_pow, BitVec.extractLsb', BitVec.ofNat_eq_ofNat]

theorem count_real : Ideal.ofBits FTy.f32 0x42000000#32 = ((32 : ℝ) : EReal) := by
  norm_num [Ideal.ofBits, Ideal.ieee, Nat.shiftRight_eq_div_pow, BitVec.extractLsb', BitVec.ofNat_eq_ofNat]

theorem angE_real (s i : ℕ) : ∃ r : ℝ, angE s i = r := by
  unfold angE
  rw [base_real, count_real]
  refine ⟨((BitVec.ofNat 32 s).toInt : ℝ) * Real.rpow 10000 (-((BitVec.ofNat 32 i).toInt : ℝ) * (1 / 32)), ?_⟩
  show (((BitVec.ofNat 32 s).toInt : ℝ) : EReal) * Ideal.pow ((10000 : ℝ) : EReal) (Ideal.div (-(((BitVec.ofNat 32 i).toInt : ℝ) : EReal)) ((32 : ℝ) : EReal)) = _
  rw [Ideal.div_coe (by norm_num), ← EReal.coe_neg, ← EReal.coe_mul, Ideal.pow_coe_coe, ← EReal.coe_mul]

/-- The cosine of position `s`'s angle at frequency `i`. -/
def cosR (s i : ℕ) : ℝ := (Ideal.cos (angE s i)).toReal
/-- The sine of position `s`'s angle at frequency `i`. -/
def sinR (s i : ℕ) : ℝ := (Ideal.sin (angE s i)).toReal

theorem cos_ang (s i : ℕ) : Ideal.cos (angE s i) = (cosR s i : EReal) := by
  obtain ⟨r, hr⟩ := angE_real s i
  unfold cosR
  rw [hr, Ideal.cos_coe, EReal.toReal_coe]

theorem sin_ang (s i : ℕ) : Ideal.sin (angE s i) = (sinR s i : EReal) := by
  obtain ⟨r, hr⟩ := angE_real s i
  unfold sinR
  rw [hr, Ideal.sin_coe, EReal.toReal_coe]

/-- A head's rotated entry `d` of the row `P` from column `base` on: each entry of the lower half is mixed with the
    one 32 places above it, each entry of the upper half with the one 32 places below it. -/
def rotR (P : ℕ → ℝ) (s base d : ℕ) : ℝ :=
  if d < 32 then P (base + d) * cosR s (d % 32) - P (base + (32 + d)) * sinR s (d % 32)
  else P (base + d) * cosR s (d % 32) + P (base + (d - 32)) * sinR s (d % 32)

end Cert.RealKit

end
-- ==== Proof.Ideal.RotReal.lean ====
/- The rotary call's arrays over a real projection, and the attention call's scores from them: the dot product of 128
   lanes with one half of the query zeroed is the 64-lane dot product of one query with its key. -/
module

public import proofs.«01_k».proof.Proof.Ideal.RopeVal
public import proofs.«01_k».proof.Proof.Ideal.AttnVal
public import proofs.«01_k».proof.Proof.Ideal.Weight
public import proofs.«01_k».proof.Proof.Ideal.Angle

@[expose] public section

set_option maxRecDepth 16384

noncomputable section

namespace Cert.KernelIdeal.Val

open Cert.KernelIdeal Cert.KernelIdeal.Gen Cert.KernelIdeal.Run Cert.RealKit
open Idealize.ShloMosaic Idealize.ShloMosaic.TcCoe Idealize.SL.Sem

/-- The packed projection's entries are the reals `R` at the columns the packing takes them from. -/
def ProjReal (P : FVec Ideal S10x8192x7296 .f32) (R : Fin 10 → Fin 8192 → ℕ → ℝ) : Prop :=
  ∀ (b : Fin 10) (s : Fin 8192) (n : Fin 7296), n.val < 7184 → (P (ix3 b s n) : EReal) = R b s (packCol n.val)

/-- The table of cosines, four copies of the 32 frequencies side by side. -/
def CosReal (cs : FVec Ideal S8192x128 .f32) : Prop :=
  ∀ (s : Fin 8192) (l : Fin 128), (cs (ix2 s l) : EReal) = cosR s.val (l.val % 32)

/-- The table of signed sines: the lower half of each 64 lanes is negated. -/
def SinReal (sn : FVec Ideal S8192x128 .f32) : Prop :=
  ∀ (s : Fin 8192) (l : Fin 128), (sn (ix2 s l) : EReal) = ((if l.val % 64 < 32 then -sinR s.val (l.val % 32) else sinR s.val (l.val % 32) : ℝ) : EReal)

theorem col_q1 : ∀ (h : Fin 4) (d : Fin 64), packCol (5 * 512 + (h.val * 128 + d.val)) = 2576 + h.val * 64 + d.val := by decide +kernel
theorem col_q2 : ∀ (h : Fin 4) (d : Fin 64), packCol (5 * 512 + (h.val * 128 + 64 + d.val)) = 2832 + h.val * 64 + d.val := by decide +kernel
theorem col_k1 : ∀ (h : Fin 4) (d : Fin 64), packCol (6 * 512 + (h.val * 128 + d.val)) = 3088 + h.val * 64 + d.val := by decide +kernel
theorem col_k2 : ∀ (h : Fin 4) (d : Fin 64), packCol (6 * 512 + (h.val * 128 + 64 + d.val)) = 3344 + h.val * 64 + d.val := by decide +kernel
theorem col_v : ∀ j : Fin 512, packCol (7 * 512 + j.val) = 3600 + j.val := by decide +kernel

/-- A rotated entry, from the columns the packing put a head's 64 entries in. -/
theorem rot_real {P : FVec Ideal S10x8192x7296 .f32} {cs sn : FVec Ideal S8192x128 .f32} {R : Fin 10 → Fin 8192 → ℕ → ℝ}
    (hP : ProjReal P R) (hc : CosReal cs) (hs : SinReal sn) (k : ℕ) (hk : k * 512 + 512 ≤ 7296) (hk' : k * 512 + 512 ≤ 7184) (off base : ℕ) (hoff : off % 64 = 0)
    (hcol : ∀ d : Fin 64, packCol (k * 512 + (off + d.val)) = base + d.val) (b : Fin 10) (s : Fin 8192) (j : Fin 512) (d : Fin 64)
    (hj : j.val = off + d.val) : rotArr P cs sn k hk b s j = rotR (R b s) s.val base d.val := by
  have hm : j.val % 64 = d.val := by omega
  have hm2 : j.val % 128 % 64 = d.val := by omega
  have hm3 : j.val % 128 % 32 = d.val % 32 := by omega
  have hp0 : (P (ix3 b s (colOf k j hk)) : EReal) = R b s (base + d.val) := by
    refine (hP b s (colOf k j hk) (by show k * 512 + j.val < 7184; omega)).trans ?_
    show ((R b s (packCol (k * 512 + j.val)) : ℝ) : EReal) = _
    rw [hj, hcol]
  have hcos : (cs (ix2 s (tcol j)) : EReal) = cosR s.val (d.val % 32) := by
    refine (hc s (tcol j)).trans ?_
    show ((cosR s.val (j.val % 128 % 32) : ℝ) : EReal) = _
    rw [hm3]
  have hsin : (sn (ix2 s (tcol j)) : EReal) = ((if d.val < 32 then -sinR s.val (d.val % 32) else sinR s.val (d.val % 32) : ℝ) : EReal) := by
    refine (hs s (tcol j)).trans ?_
    show ((if j.val % 128 % 64 < 32 then -sinR s.val (j.val % 128 % 32) else sinR s.val (j.val % 128 % 32) : ℝ) : EReal) = _
    rw [hm2, hm3]
  unfold rotArr rotR
  by_cases hd : d.val < 32
  · have hpar : (partner j).val = off + (32 + d.val) := by
      unfold partner
      rw [dif_pos (show j.val % 64 < 32 by omega)]
      show j.val + 32 = _
      omega
    have hp1 : (P (ix3 b s (colOf k (partner j) hk)) : EReal) = R b s (base + (32 + d.val)) := by
      refine (hP b s (colOf k (partner j) hk) (by show k * 512 + (partner j).val < 7184; omega)).trans ?_
      show ((R b s (packCol (k * 512 + (partner j).val)) : ℝ) : EReal) = _
      rw [hpar]
      have := hcol ⟨32 + d.val, by omega⟩
      exact congrArg (fun z => ((R b s z : ℝ) : EReal)) this
    rw [hp0, hp1, hcos, hsin, if_pos hd, if_pos hd, ← EReal.coe_mul, ← EReal.coe_mul, ← EReal.coe_add, mul_neg, sub_eq_add_neg]
  · have hpar : (partner j).val = off + (d.val - 32) := by
      unfold partner
      rw [dif_neg (show ¬ j.val % 64 < 32 by omega)]
      show j.val - 32 = _
      omega
    have hp1 : (P (ix3 b s (colOf k (partner j) hk)) : EReal) = R b s (base + (d.val - 32)) := by
      refine (hP b s (colOf k (partner j) hk) (by show k * 512 + (partner j).val < 7184; omega)).trans ?_
      show ((R b s (packCol (k * 512 + (partner j).val)) : ℝ) : EReal) = _
      rw [hpar]
      have := hcol ⟨d.val - 32, by omega⟩
      exact congrArg (fun z => ((R b s z : ℝ) : EReal)) this
    rw [hp0, hp1, hcos, hsin, if_neg hd, if_neg hd, ← EReal.coe_mul, ← EReal.coe_mul, ← EReal.coe_add]

/-- The reals of the first queries' array. -/
def qaR (R : Fin 10 → Fin 8192 → ℕ → ℝ) (b : Fin 10) (s : Fin 8192) (j : Fin 512) : ℝ :=
  if j.val % 128 < 64 then rotR (R b s) s.val (2576 + j.val / 128 * 64) (j.val % 128) * (8 * Real.log 2)⁻¹ else 0
/-- The reals of the second queries' array. -/
def qbR (R : Fin 10 → Fin 8192 → ℕ → ℝ) (b : Fin 10) (s : Fin 8192) (j : Fin 512) : ℝ :=
  if j.val % 128 < 64 then 0 else rotR (R b s) s.val (2832 + j.val / 128 * 64) (j.val % 128 - 64) * (8 * Real.log 2)⁻¹
/-- The reals of the keys' array. -/
def kkR (R : Fin 10 → Fin 8192 → ℕ → ℝ) (b : Fin 10) (s : Fin 8192) (j : Fin 512) : ℝ :=
  if j.val % 128 < 64 then rotR (R b s) s.val (3088 + j.val / 128 * 64) (j.val % 128)
  else rotR (R b s) s.val (3344 + j.val / 128 * 64) (j.val % 128 - 64)
/-- The reals of the values' array. -/
def vvR (R : Fin 10 → Fin 8192 → ℕ → ℝ) (b : Fin 10) (s : Fin 8192) (j : Fin 512) : ℝ := R b s (3600 + j.val)

section
variable {P : FVec Ideal S10x8192x7296 .f32} {cs sn : FVec Ideal S8192x128 .f32} {R : Fin 10 → Fin 8192 → ℕ → ℝ}
variable (hP : ProjReal P R) (hc : CosReal cs) (hs : SinReal sn)
include hP

include hc hs in
theorem qa_real : IsReal (qaArr P cs sn) (qaR R) := fun b s j => by
  show (if j.val % 128 < 64 then rotArr P cs sn 5 (by decide) b s j * qs else (0 : EReal)) = ((qaR R b s j : ℝ) : EReal)
  unfold qaR
  by_cases hj : j.val % 128 < 64
  · rw [if_pos hj, if_pos hj, rot_real hP hc hs 5 (by decide) (by decide) (j.val / 128 * 128) (2576 + j.val / 128 * 64) (by omega)
      (fun d => col_q1 ⟨j.val / 128, by omega⟩ d) b s j ⟨j.val % 128, hj⟩ (by show j.val = j.val / 128 * 128 + j.val % 128; omega), EReal.coe_mul]
    rfl
  · rw [if_neg hj, if_neg hj, EReal.coe_zero]

include hc hs in
theorem qb_real : IsReal (qbArr P cs sn) (qbR R) := fun b s j => by
  show (if j.val % 128 < 64 then (0 : EReal) else rotArr P cs sn 5 (by decide) b s j * qs) = ((qbR R b s j : ℝ) : EReal)
  unfold qbR
  by_cases hj : j.val % 128 < 64
  · rw [if_pos hj, if_pos hj, EReal.coe_zero]
  · rw [if_neg hj, if_neg hj, rot_real hP hc hs 5 (by decide) (by decide) (j.val / 128 * 128 + 64) (2832 + j.val / 128 * 64) (by omega)
      (fun d => col_q2 ⟨j.val / 128, by omega⟩ d) b s j ⟨j.val % 128 - 64, by omega⟩ (by show j.val = j.val / 128 * 128 + 64 + (j.val % 128 - 64); omega), EReal.coe_mul]
    rfl

include hc hs in
theorem kk_real : IsReal (kkArr P cs sn) (kkR R) := fun b s j => by
  show rotArr P cs sn 6 (by decide) b s j = ((kkR R b s j : ℝ) : EReal)
  unfold kkR
  by_cases hj : j.val % 128 < 64
  · rw [if_pos hj, rot_real hP hc hs 6 (by decide) (by decide) (j.val / 128 * 128) (3088 + j.val / 128 * 64) (by omega)
      (fun d => col_k1 ⟨j.val / 128, by omega⟩ d) b s j ⟨j.val % 128, hj⟩ (by show j.val = j.val / 128 * 128 + j.val % 128; omega)]
  · rw [if_neg hj, rot_real hP hc hs 6 (by decide) (by decide) (j.val / 128 * 128 + 64) (3344 + j.val / 128 * 64) (by omega)
      (fun d => col_k2 ⟨j.val / 128, by omega⟩ d) b s j ⟨j.val % 128 - 64, by omega⟩ (by show j.val = j.val / 128 * 128 + 64 + (j.val % 128 - 64); omega)]

theorem vv_real : IsReal (vvArr P) (vvR R) := fun b s j => by
  refine (hP b s (colOf 7 j (by decide)) (by show 7 * 512 + j.val < 7184; omega)).trans ?_
  show ((R b s (packCol (7 * 512 + j.val)) : ℝ) : EReal) = _
  rw [col_v]
  rfl

end

/-- A sum over 128 lanes as one over the lower 64 and one over the upper 64. -/
theorem sum_halves (f : Fin 128 → ℝ) :
    ∑ d, f d = (∑ d : Fin 64, f ⟨d.val, by omega⟩) + ∑ d : Fin 64, f ⟨64 + d.val, by omega⟩ :=
  Fin.sum_univ_add (a := 64) (b := 64) f

/-- The scores of the real programs, as the reference writes them. -/
def scoreOf (R : Fin 10 → Fin 8192 → ℕ → ℝ) (qb kb : ℕ) (b : Fin 10) (h : Fin 4) (s n : Fin 8192) : ℝ :=
  (∑ d : Fin 64, rotR (R b s) s.val (qb + h.val * 64) d.val * rotR (R b n) n.val (kb + h.val * 64) d.val) * (1 / 8)

theorem lane_lo (h : Fin 4) (d : Fin 64) : (lane h ⟨d.val, by omega⟩).val % 128 = d.val ∧ (lane h ⟨d.val, by omega⟩).val / 128 = h.val := by
  show (h.val * 128 + d.val) % 128 = d.val ∧ (h.val * 128 + d.val) / 128 = h.val
  omega

theorem lane_hi (h : Fin 4) (d : Fin 64) : (lane h ⟨64 + d.val, by omega⟩).val % 128 = 64 + d.val ∧ (lane h ⟨64 + d.val, by omega⟩).val / 128 = h.val := by
  show (h.val * 128 + (64 + d.val)) % 128 = 64 + d.val ∧ (h.val * 128 + (64 + d.val)) / 128 = h.val
  omega

theorem log_two_ne : Real.log 2 ≠ 0 := (Real.log_pos one_lt_two).ne'

theorem score_qa (R : Fin 10 → Fin 8192 → ℕ → ℝ) (b : Fin 10) (h : Fin 4) (s n : Fin 8192) :
    headScore (qaR R) (kkR R) b h s n * Real.log 2 = scoreOf R 2576 3088 b h s n := by
  unfold headScore scoreOf
  rw [sum_halves]
  have hi : (∑ d : Fin 64, qaR R b s (lane h ⟨64 + d.val, by omega⟩) * kkR R b n (lane h ⟨64 + d.val, by omega⟩)) = 0 :=
    Finset.sum_eq_zero fun d _ => by
      unfold qaR
      rw [(lane_hi h d).1, if_neg (by omega), zero_mul]
  have lo : ∀ d : Fin 64, qaR R b s (lane h ⟨d.val, by omega⟩) * kkR R b n (lane h ⟨d.val, by omega⟩)
      = rotR (R b s) s.val (2576 + h.val * 64) d.val * rotR (R b n) n.val (3088 + h.val * 64) d.val * (8 * Real.log 2)⁻¹ := fun d => by
    unfold qaR kkR
    rw [(lane_lo h d).1, (lane_lo h d).2, if_pos d.isLt, if_pos d.isLt]
    ring
  rw [hi, add_zero, Finset.sum_congr rfl fun d _ => lo d, ← Finset.sum_mul, mul_assoc]
  congr 1
  have := log_two_ne
  field_simp

theorem score_qb (R : Fin 10 → Fin 8192 → ℕ → ℝ) (b : Fin 10) (h : Fin 4) (s n : Fin 8192) :
    headScore (qbR R) (kkR R) b h s n * Real.log 2 = scoreOf R 2832 3344 b h s n := by
  unfold headScore scoreOf
  rw [sum_halves]
  have lo : (∑ d : Fin 64, qbR R b s (lane h ⟨d.val, by omega⟩) * kkR R b n (lane h ⟨d.val, by omega⟩)) = 0 :=
    Finset.sum_eq_zero fun d _ => by
      unfold qbR
      rw [(lane_lo h d).1, if_pos d.isLt, zero_mul]
  have hi : ∀ d : Fin 64, qbR R b s (lane h ⟨64 + d.val, by omega⟩) * kkR R b n (lane h ⟨64 + d.val, by omega⟩)
      = rotR (R b s) s.val (2832 + h.val * 64) d.val * rotR (R b n) n.val (3344 + h.val * 64) d.val * (8 * Real.log 2)⁻¹ := fun d => by
    unfold qbR kkR
    rw [(lane_hi h d).1, (lane_hi h d).2, if_neg (by omega), if_neg (by omega), Nat.add_sub_cancel_left]
    ring
  rw [lo, zero_add, Finset.sum_congr rfl fun d _ => hi d, ← Finset.sum_mul, mul_assoc]
  congr 1
  have := log_two_ne
  field_simp

end Cert.KernelIdeal.Val

end
-- ==== Proof.Ideal.Tables.lean ====
/- The host's tables of cosines and signed sines, read at an index. -/
module

public import proofs.«01_k».proof.Proof.Ideal.RotReal
public import Idealize.ShloMosaic.Lib.Tactic
public import Idealize.ShloMosaic.Lib.Pointwise

@[expose] public section

set_option maxRecDepth 16384

noncomputable section

namespace Cert.KernelIdeal.Val

open Cert.KernelIdeal Cert.KernelIdeal.Gen Cert.KernelIdeal.Run Cert.RealKit
open Idealize.ShloMosaic Idealize.ShloMosaic.TcCoe Idealize.ShloMosaic.Tactic Idealize.SL.Sem

/-- The angles, as the host multiplies them. -/
def angTab : FVec Ideal S8192x32 .f32 :=
  mulf
    (broadcastInDim S8192x32 ![0, 1] bcast_S8192x1_S8192x32_0_1
      (broadcastInDim S8192x1 ![0] bcast_S8192_S8192x1_0 (sitofp (F := Ideal) .f32 (iotaInDim S8192 32 0))))
    (broadcastInDim S8192x32 ![0, 1] bcast_S1x32_S8192x32_0_1
      (broadcastInDim S1x32 ![1] bcast_S32_S1x32_1
        (Host.powf (broadcastInDim S32 ![] bcast_S_S32 (constant (F := Ideal) S_ .f32 0x461C4000#32))
          (Host.divf (Host.negf (sitofp (F := Ideal) .f32 (iotaInDim S32 32 0)))
            (broadcastInDim S32 ![] bcast_S_S32 (constant (F := Ideal) S_ .f32 0x42000000#32))))))

/-- Four tables of 32 columns side by side. -/
def sideBySide (a b c d : FVec Ideal S8192x32 .f32) : FVec Ideal S8192x128 .f32 :=
  concatenate S8192x128 1 [⟨S8192x32, a⟩, ⟨S8192x32, b⟩, ⟨S8192x32, c⟩, ⟨S8192x32, d⟩]
    concatenates_S8192x32_S8192x32_S8192x32_S8192x32_S8192x128_d1

/-- The table of cosines. -/
def cosTab : FVec Ideal S8192x128 .f32 := sideBySide (Host.cos angTab) (Host.cos angTab) (Host.cos angTab) (Host.cos angTab)
/-- The table of signed sines. -/
def sinTab : FVec Ideal S8192x128 .f32 :=
  sideBySide (Host.negf (Host.sin angTab)) (Host.sin angTab) (Host.negf (Host.sin angTab)) (Host.sin angTab)

theorem ang_at (s : Fin 8192) (i : Fin 32) : (angTab (ix2 s i) : EReal) = angE s.val i.val := by
  pointwise [angTab]
  rfl

theorem cos_at (s : Fin 8192) (i : Fin 32) : ((Host.cos angTab : FVec Ideal S8192x32 .f32) (ix2 s i) : EReal) = cosR s.val i.val := by
  pointwise
  exact (congrArg Ideal.cos (ang_at s i)).trans (cos_ang _ _)

theorem sin_at (s : Fin 8192) (i : Fin 32) : ((Host.sin angTab : FVec Ideal S8192x32 .f32) (ix2 s i) : EReal) = sinR s.val i.val := by
  pointwise
  exact (congrArg Ideal.sin (ang_at s i)).trans (sin_ang _ _)

theorem neg_at (x : FVec Ideal S8192x32 .f32) (s : Fin 8192) (i : Fin 32) :
    ((Host.negf x : FVec Ideal S8192x32 .f32) (ix2 s i) : EReal) = -x (ix2 s i) := by
  pointwise

theorem side_at (a b c d : FVec Ideal S8192x32 .f32) (s : Fin 8192) (l : Fin 128) :
    (sideBySide a b c d (ix2 s l) : EReal)
      = if l.val / 32 = 0 then a (ix2 s ⟨l.val % 32, by omega⟩)
        else if l.val / 32 = 1 then b (ix2 s ⟨l.val % 32, by omega⟩)
        else if l.val / 32 = 2 then c (ix2 s ⟨l.val % 32, by omega⟩)
        else d (ix2 s ⟨l.val % 32, by omega⟩) := by
  have hl := l.isLt
  have key : ∀ (f : FVec Ideal S8192x32 .f32) (i j : Fin 32), i.val = j.val → (f (ix2 s i) : EReal) = f (ix2 s j) :=
    fun f i j h => by rw [Fin.ext h]
  pointwise [sideBySide]
  by_cases h0 : l.val < 32
  · rw [dif_pos h0, if_pos (show l.val / 32 = 0 by omega)]
    exact key a _ _ (by dsimp only; omega)
  · rw [dif_neg h0, if_neg (show ¬ l.val / 32 = 0 by omega)]
    by_cases h1 : l.val - 32 < 32
    · rw [dif_pos h1, if_pos (show l.val / 32 = 1 by omega)]
      exact key b _ _ (by dsimp only; omega)
    · rw [dif_neg h1, if_neg (show ¬ l.val / 32 = 1 by omega)]
      by_cases h2 : l.val - 32 - 32 < 32
      · rw [dif_pos h2, if_pos (show l.val / 32 = 2 by omega)]
        exact key c _ _ (by dsimp only; omega)
      · rw [dif_neg h2, if_neg (show ¬ l.val / 32 = 2 by omega)]
        exact key d _ _ (by dsimp only; omega)

theorem cos_real : CosReal cosTab := fun s l => by
  unfold cosTab
  rw [side_at, cos_at]
  split_ifs <;> rfl

theorem sin_real : SinReal sinTab := fun s l => by
  have hl := l.isLt
  unfold sinTab
  rw [side_at, neg_at, sin_at, ← EReal.coe_neg]
  dsimp only
  split_ifs <;> first | rfl | omega

end Cert.KernelIdeal.Val

end
-- ==== Proof.Ideal.ProjVal.lean ====
/- The array the projection matmul leaves: the product of the two arrays it finds. -/
module

public import proofs.«01_k».proof.Proof.Ideal.Proj
public import Idealize.ShloMosaic.Lib.Pointwise
public import Idealize.ShloMosaic.Lib.Pipeline.ValueKit.Geometry
public import Idealize.ShloMosaic.Lib.Pipeline.ValueKit.Acc

@[expose] public section

set_option maxRecDepth 16384

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat Cfg Window)

/-- The matmul's payload at an index. -/
theorem pay0 (x0 : FVec Ideal S1024x1024 .f32) (x1 : FVec Ideal S1024x2432 .bf16) (r : Fin 1024) (n : Fin 2432) :
    k0_pay1 x0 x1 (ix2 r n) = ∑ k : Fin 1024, (x0 (ix2 r k) : EReal) * x1 (ix2 k n) := by
  pointwise [k0_pay1]

theorem index0_0 : ∀ t : Fin cfg0.N, win0_0.index t = ![(grid0.coords t 0).val, 0] := (by decide +kernel : ∀ t : Fin grid0.N, _)
theorem index0_1 : ∀ t : Fin cfg0.N, win0_1.index t = ![0, (grid0.coords t 1).val] := (by decide +kernel : ∀ t : Fin grid0.N, _)
theorem index0_2 : ∀ t : Fin cfg0.N, win0_2.index t = ![(grid0.coords t 0).val, (grid0.coords t 1).val] :=
  (by decide +kernel : ∀ t : Fin grid0.N, _)

variable (V : (c : Dev nD) → (b : Ref sig .tc) → Buf (Elt Ideal) ((c : Thread nD τ).loc b))

/-- The product of two arrays. -/
def prod (x : FVec Ideal S81920x1024 .f32) (w : FVec Ideal S1024x7296 .bf16) : FVec Ideal S81920x7296 .f32 := fun y =>
  ∑ k : Fin 1024, (x (ix2 (y 0) k) : EReal) * w (ix2 k (y 1))

/-- The matmul's result array: the product of the arrays it found. -/
theorem arr0 (c : Dev nD) : (dat0 V c).arrAt 2 cfg0.N = prod (V c main_v22) (V c main_v21) := by
  refine (dat0 V c).arrAt_eq_of_covers 2 (prod (V c main_v22) (V c main_v21)) (by decide +kernel) fun t hf y => ?_
  blk_simp
  rw [after0_2]
  unfold out0_2
  rw [View.canon_cons_unit_lit inb_S1024x2432_S1024x2432_0_0 _ _ (by decide), View.ld_unit_lit _ _ (by decide), View.ld_unit_lit _ _ (by decide)]
  obtain ⟨r, n, rfl⟩ : ∃ (r : Fin 1024) (n : Fin 2432), y = ix2 r n := ⟨y 0, y 1, eq_ix2 y⟩
  refine (pay0 _ _ r n).trans ?_
  unfold prod
  refine @Finset.sum_congr (Fin 1024) EReal _ _ _ _ _ rfl fun k _ => ?_
  refine congrArg₂ (fun a b : EReal => a * b) ?_ ?_
  · blk_simp [iblk0]
    refine congrArg (V c main_v22) ?_
    blk_ext [index0_0 t, index0_2 t]
  · blk_simp [iblk0]
    refine congrArg (V c main_v21) ?_
    blk_ext [index0_1 t, index0_2 t]

end Cert.KernelIdeal.Val

end
-- ==== Proof.Ideal.HostVal.lean ====
/- What the kernel's host operations leave: the packed projection over batches, its columns as results, the tables and
   the rows the attention call takes. -/
module

public import proofs.«01_k».proof.Proof.Ideal.Tables
public import proofs.«01_k».proof.Proof.Ideal.ProjVal
public import proofs.«01_k».proof.Proof.Ideal.Whole

@[expose] public section

set_option maxRecDepth 16384

noncomputable section

namespace Cert.KernelIdeal.Val

open Cert.KernelIdeal Cert.KernelIdeal.Gen Cert.KernelIdeal.Run Cert.RealKit
open Idealize.ShloMosaic Idealize.ShloMosaic.TcCoe Idealize.ShloMosaic.Tactic Idealize.SL.Sem

section
variable (V : Valuation τ sig (Elt Ideal))

/-- The projection's rows by batch and position. -/
def byBatch (P : FVec Ideal S81920x7296 .f32) : FVec Ideal S10x8192x7296 .f32 := shapeCast S10x8192x7296 P shapeCasts_S81920x7296_S10x8192x7296
/-- The layer's input, its rows one after another. -/
def flatX (x : FVec Ideal S10x8192x1024 .f32) : FVec Ideal S81920x1024 .f32 := shapeCast S81920x1024 x shapeCasts_S10x8192x1024_S81920x1024

theorem v22_eq : StableHlo.after hostOps0 V (Proc.devRef .tc main_v22) = flatX (V (Proc.devRef .tc main_arg0)) := rfl
theorem v24_eq : StableHlo.after hostOps1 V (Proc.devRef .tc main_v24) = byBatch (V (Proc.devRef .tc main_v23)) := rfl
theorem v25_eq : StableHlo.after hostOps1 V (Proc.devRef .tc main_v25)
    = extractStridedSlice S10x8192x2048 ![0, 0, 0] (byBatch (V (Proc.devRef .tc main_v23))) slices_S10x8192x7296_S10x8192x2048_0_0_0 := rfl
theorem v26_eq : StableHlo.after hostOps1 V (Proc.devRef .tc main_v26)
    = extractStridedSlice S10x8192x16 ![0, 0, 7168] (byBatch (V (Proc.devRef .tc main_v23))) slices_S10x8192x7296_S10x8192x16_0_0_7168 := rfl
theorem v27_eq : StableHlo.after hostOps1 V (Proc.devRef .tc main_v27)
    = extractStridedSlice S10x8192x512 ![0, 0, 2048] (byBatch (V (Proc.devRef .tc main_v23))) slices_S10x8192x7296_S10x8192x512_0_0_2048 := rfl
theorem v28_eq : StableHlo.after hostOps1 V (Proc.devRef .tc main_v28)
    = extractStridedSlice S10x8192x3072 ![0, 0, 4096] (byBatch (V (Proc.devRef .tc main_v23))) slices_S10x8192x7296_S10x8192x3072_0_0_4096 := rfl
theorem v43_eq : StableHlo.after hostOps1 V (Proc.devRef .tc main_v43) = cosTab := rfl
theorem v46_eq : StableHlo.after hostOps1 V (Proc.devRef .tc main_v46) = sinTab := rfl
theorem v48_eq : StableHlo.after hostOps2 V (Proc.devRef .tc main_v48) = shapeCast S1x64 (V (Proc.devRef .tc main_arg2)) shapeCasts_S64_S1x64 := rfl
theorem v49_eq : StableHlo.after hostOps2 V (Proc.devRef .tc main_v49) = shapeCast S1x64 (V (Proc.devRef .tc main_arg3)) shapeCasts_S64_S1x64 := rfl
theorem v50_eq : StableHlo.after hostOps2 V (Proc.devRef .tc main_v50) = shapeCast S1x64 (V (Proc.devRef .tc main_arg4)) shapeCasts_S64_S1x64 := rfl
theorem v51_eq : StableHlo.after hostOps2 V (Proc.devRef .tc main_v51) = shapeCast S1x64 (V (Proc.devRef .tc main_arg5)) shapeCasts_S64_S1x64 := rfl
theorem v52_eq : StableHlo.after hostOps2 V (Proc.devRef .tc main_v52) = shapeCast S1x128 (V (Proc.devRef .tc main_arg6)) shapeCasts_S128_S1x128 := rfl

end

theorem byBatch_apply (P : FVec Ideal S81920x7296 .f32) (b : Fin 10) (s : Fin 8192) (n : Fin 7296) :
    (byBatch P (ix3 b s n) : EReal) = P (ix2 ⟨b.val * 8192 + s.val, by omega⟩ n) := by
  pointwise [byBatch]

theorem flatX_apply (x : FVec Ideal S10x8192x1024 .f32) (b : Fin 10) (s : Fin 8192) (k : Fin 1024) :
    (flatX x (ix2 ⟨b.val * 8192 + s.val, by omega⟩ k) : EReal) = x (ix3 b s k) := by
  have hb := b.isLt
  have hs := s.isLt
  pointwise [flatX]

theorem row64_apply (x : FVec Ideal S64 .f32) (k : Fin 64) : (shapeCast S1x64 x shapeCasts_S64_S1x64 (ix2 (0 : Fin 1) k) : EReal) = x (ix1 k) := by
  pointwise

theorem row128_apply (x : FVec Ideal S128 .f32) (k : Fin 128) : (shapeCast S1x128 x shapeCasts_S128_S1x128 (ix2 (0 : Fin 1) k) : EReal) = x (ix1 k) := by
  pointwise

end Cert.KernelIdeal.Val

end
-- ==== Proof.Ideal.KernVal.lean ====
/- The kernel's results in the launch memory's terms: the projection's columns, and the attention branch over real inputs. -/
module

public import proofs.«01_k».proof.Proof.Ideal.HostVal

@[expose] public section

set_option maxRecDepth 16384

noncomputable section

namespace Cert.KernelIdeal.Val

open Cert.KernelIdeal Cert.KernelIdeal.Gen Cert.KernelIdeal.Run Cert.RealKit
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The launch memory's arrays. -/
def kX : FVec Ideal S10x8192x1024 .f32 := m ((c : Thread nD τ).loc main_arg0)
/-- The projection's weight. -/
def kW : FVec Ideal S1024x7184 .f32 := m ((c : Thread nD τ).loc main_arg1)
/-- The first vector of the mixing weight. -/
def k2 : FVec Ideal S64 .f32 := m ((c : Thread nD τ).loc main_arg2)
/-- The second. -/
def k3 : FVec Ideal S64 .f32 := m ((c : Thread nD τ).loc main_arg3)
/-- The third. -/
def k4 : FVec Ideal S64 .f32 := m ((c : Thread nD τ).loc main_arg4)
/-- The fourth. -/
def k5 : FVec Ideal S64 .f32 := m ((c : Thread nD τ).loc main_arg5)
/-- The normalisation's gain. -/
def k6 : FVec Ideal S128 .f32 := m ((c : Thread nD τ).loc main_arg6)

/-- The packed projection by batch and position. -/
def kP : FVec Ideal S10x8192x7296 .f32 := byBatch (prod (flatX (kX m c)) (packed (kW m c)))

theorem W2_v23 : W2 m ρ c (Proc.devRef .tc main_v23) = prod (flatX (kX m c)) (packed (kW m c)) := by
  refine (W2_arr m ρ c 2).trans ((arr0 (V1 m ρ) c).trans ?_)
  exact congrArg₂ prod ((v22_eq (W0 m ρ c)).trans rfl) ((v21_eq (W0 m ρ c)).trans rfl)

theorem W3_v24 : W3 m ρ c (Proc.devRef .tc main_v24) = kP m c :=
  (v24_eq (W2 m ρ c)).trans (congrArg byBatch (W2_v23 m ρ c))

theorem W6_of3 (r : Ref sig .tc) (h2 : ∀ w : Fin cfg2.W, Pipeline.arrRef spec2 w = r → (cfg2.win w).isOut = false) (h1 : r ∉ hostOps2_W)
    (h0 : ∀ w : Fin cfg1.W, Pipeline.arrRef spec1 w = r → (cfg1.win w).isOut = false) :
    W6 m ρ c (Proc.devRef .tc r) = W3 m ρ c (Proc.devRef .tc r) :=
  (W6_of m ρ c r h2).trans ((W5_of m ρ c r h1).trans (W4_of m ρ c r h0))

/-- 2048 of the packed columns from 0 on. -/
def cols25 (P : FVec Ideal S10x8192x7296 .f32) : FVec Ideal S10x8192x2048 .f32 :=
  extractStridedSlice S10x8192x2048 ![0, 0, 0] P slices_S10x8192x7296_S10x8192x2048_0_0_0

theorem out25 : ∀ w : Fin cfg2.W, Pipeline.arrRef spec2 w = main_v25 → (cfg2.win w).isOut = false := by decide +kernel
theorem mid25 : ∀ w : Fin cfg1.W, Pipeline.arrRef spec1 w = main_v25 → (cfg1.win w).isOut = false := by decide +kernel
theorem row25 : main_v25 ∉ hostOps2_W := by decide +kernel

theorem W3_v25 : W3 m ρ c (Proc.devRef .tc main_v25) = cols25 (kP m c) :=
  (v25_eq (W2 m ρ c)).trans (congrArg (fun P => cols25 (byBatch P)) (W2_v23 m ρ c))

theorem W6_v25 : W6 m ρ c (Proc.devRef .tc main_v25) = cols25 (kP m c) :=
  (W6_of3 m ρ c main_v25 out25 row25 mid25).trans (W3_v25 m ρ c)

/-- 16 of the packed columns from 7168 on. -/
def cols26 (P : FVec Ideal S10x8192x7296 .f32) : FVec Ideal S10x8192x16 .f32 :=
  extractStridedSlice S10x8192x16 ![0, 0, 7168] P slices_S10x8192x7296_S10x8192x16_0_0_7168

theorem out26 : ∀ w : Fin cfg2.W, Pipeline.arrRef spec2 w = main_v26 → (cfg2.win w).isOut = false := by decide +kernel
theorem mid26 : ∀ w : Fin cfg1.W, Pipeline.arrRef spec1 w = main_v26 → (cfg1.win w).isOut = false := by decide +kernel
theorem row26 : main_v26 ∉ hostOps2_W := by decide +kernel

theorem W3_v26 : W3 m ρ c (Proc.devRef .tc main_v26) = cols26 (kP m c) :=
  (v26_eq (W2 m ρ c)).trans (congrArg (fun P => cols26 (byBatch P)) (W2_v23 m ρ c))

theorem W6_v26 : W6 m ρ c (Proc.devRef .tc main_v26) = cols26 (kP m c) :=
  (W6_of3 m ρ c main_v26 out26 row26 mid26).trans (W3_v26 m ρ c)

/-- 512 of the packed columns from 2048 on. -/
def cols27 (P : FVec Ideal S10x8192x7296 .f32) : FVec Ideal S10x8192x512 .f32 :=
  extractStridedSlice S10x8192x512 ![0, 0, 2048] P slices_S10x8192x7296_S10x8192x512_0_0_2048

theorem out27 : ∀ w : Fin cfg2.W, Pipeline.arrRef spec2 w = main_v27 → (cfg2.win w).isOut = false := by decide +kernel
theorem mid27 : ∀ w : Fin cfg1.W, Pipeline.arrRef spec1 w = main_v27 → (cfg1.win w).isOut = false := by decide +kernel
theorem row27 : main_v27 ∉ hostOps2_W := by decide +kernel

theorem W3_v27 : W3 m ρ c (Proc.devRef .tc main_v27) = cols27 (kP m c) :=
  (v27_eq (W2 m ρ c)).trans (congrArg (fun P => cols27 (byBatch P)) (W2_v23 m ρ c))

theorem W6_v27 : W6 m ρ c (Proc.devRef .tc main_v27) = cols27 (kP m c) :=
  (W6_of3 m ρ c main_v27 out27 row27 mid27).trans (W3_v27 m ρ c)

/-- 3072 of the packed columns from 4096 on. -/
def cols28 (P : FVec Ideal S10x8192x7296 .f32) : FVec Ideal S10x8192x3072 .f32 :=
  extractStridedSlice S10x8192x3072 ![0, 0, 4096] P slices_S10x8192x7296_S10x8192x3072_0_0_4096

theorem out28 : ∀ w : Fin cfg2.W, Pipeline.arrRef spec2 w = main_v28 → (cfg2.win w).isOut = false := by decide +kernel
theorem mid28 : ∀ w : Fin cfg1.W, Pipeline.arrRef spec1 w = main_v28 → (cfg1.win w).isOut = false := by decide +kernel
theorem row28 : main_v28 ∉ hostOps2_W := by decide +kernel

theorem W3_v28 : W3 m ρ c (Proc.devRef .tc main_v28) = cols28 (kP m c) :=
  (v28_eq (W2 m ρ c)).trans (congrArg (fun P => cols28 (byBatch P)) (W2_v23 m ρ c))

theorem W6_v28 : W6 m ρ c (Proc.devRef .tc main_v28) = cols28 (kP m c) :=
  (W6_of3 m ρ c main_v28 out28 row28 mid28).trans (W3_v28 m ρ c)

/-- An entry of the packed projection is the projection at the column the packing takes it from. -/
theorem kP_apply (b : Fin 10) (s : Fin 8192) (n : Fin 7296) (h : n.val < 7184) :
    (kP m c (ix3 b s n) : EReal) = ∑ k : Fin 1024, (kX m c (ix3 b s k) : EReal) * kW m c (ix2 k ⟨packCol n.val, packCol_lt h⟩) := by
  refine (byBatch_apply _ b s n).trans ?_
  refine @Finset.sum_congr (Fin 1024) EReal _ _ _ _ _ rfl fun k _ => ?_
  exact congrArg₂ (fun x y : EReal => x * y) (flatX_apply (kX m c) b s k) (packed_apply (kW m c) k n h)

theorem kP_real {R : Fin 10 → Fin 8192 → ℕ → ℝ}
    (hR : ∀ b s n (h : n < 7184), ∑ k : Fin 1024, (kX m c (ix3 b s k) : EReal) * kW m c (ix2 k ⟨n, h⟩) = R b s n) : ProjReal (kP m c) R :=
  fun b s n h => (kP_apply m c b s n h).trans (hR b s (packCol n.val) (packCol_lt h))

/-- The attention branch's array over a real projection and a real mixing weight. -/
theorem W6_v53 {R : Fin 10 → Fin 8192 → ℕ → ℝ} {L : ℝ}
    (hR : ∀ b s n (h : n < 7184), ∑ k : Fin 1024, (kX m c (ix3 b s k) : EReal) * kW m c (ix2 k ⟨n, h⟩) = R b s n)
    (hL : lamOf (fun x => k2 m c (ix1 x)) (fun x => k3 m c (ix1 x)) (fun x => k4 m c (ix1 x)) (fun x => k5 m c (ix1 x)) = L) :
    W6 m ρ c (Proc.devRef .tc main_v53) = attnArr (qaR R) (qbR R) (kkR R) (vvR R) L (shapeCast S1x128 (k6 m c) shapeCasts_S128_S1x128) := by
  have hP := kP_real m c hR
  have e24 : V3 m ρ c main_v24 = kP m c := W3_v24 m ρ c
  have e43 : V3 m ρ c main_v43 = cosTab := v43_eq (W2 m ρ c)
  have e46 : V3 m ρ c main_v46 = sinTab := v46_eq (W2 m ρ c)
  have a0 : V5 m ρ c main_v47_0 = qaArr (kP m c) cosTab sinTab :=
    (W5_of m ρ c main_v47_0 (by decide +kernel)).trans ((W4_arr m ρ c 5).trans ((arr1_5 (V3 m ρ) c).trans (by rw [e24, e43, e46])))
  have a1 : V5 m ρ c main_v47_1 = qbArr (kP m c) cosTab sinTab :=
    (W5_of m ρ c main_v47_1 (by decide +kernel)).trans ((W4_arr m ρ c 6).trans ((arr1_6 (V3 m ρ) c).trans (by rw [e24, e43, e46])))
  have a2 : V5 m ρ c main_v47_2 = kkArr (kP m c) cosTab sinTab :=
    (W5_of m ρ c main_v47_2 (by decide +kernel)).trans ((W4_arr m ρ c 7).trans ((arr1_7 (V3 m ρ) c).trans (by rw [e24, e43, e46])))
  have a3 : V5 m ρ c main_v47_3 = vvArr (kP m c) :=
    (W5_of m ρ c main_v47_3 (by decide +kernel)).trans ((W4_arr m ρ c 8).trans ((arr1_8 (V3 m ρ) c).trans (by rw [e24])))
  have r2 : V5 m ρ c main_v48 = shapeCast S1x64 (k2 m c) shapeCasts_S64_S1x64 :=
    (v48_eq (W4 m ρ c)).trans (congrArg (fun x : FVec Ideal S64 .f32 => shapeCast S1x64 x shapeCasts_S64_S1x64) (W4_args m ρ c main_arg2 (by decide)))
  have r3 : V5 m ρ c main_v49 = shapeCast S1x64 (k3 m c) shapeCasts_S64_S1x64 :=
    (v49_eq (W4 m ρ c)).trans (congrArg (fun x : FVec Ideal S64 .f32 => shapeCast S1x64 x shapeCasts_S64_S1x64) (W4_args m ρ c main_arg3 (by decide)))
  have r4 : V5 m ρ c main_v50 = shapeCast S1x64 (k4 m c) shapeCasts_S64_S1x64 :=
    (v50_eq (W4 m ρ c)).trans (congrArg (fun x : FVec Ideal S64 .f32 => shapeCast S1x64 x shapeCasts_S64_S1x64) (W4_args m ρ c main_arg4 (by decide)))
  have r5 : V5 m ρ c main_v51 = shapeCast S1x64 (k5 m c) shapeCasts_S64_S1x64 :=
    (v51_eq (W4 m ρ c)).trans (congrArg (fun x : FVec Ideal S64 .f32 => shapeCast S1x64 x shapeCasts_S64_S1x64) (W4_args m ρ c main_arg5 (by decide)))
  have r6 : V5 m ρ c main_v52 = shapeCast S1x128 (k6 m c) shapeCasts_S128_S1x128 :=
    (v52_eq (W4 m ρ c)).trans (congrArg (fun x : FVec Ideal S128 .f32 => shapeCast S1x128 x shapeCasts_S128_S1x128) (W4_args m ρ c main_arg6 (by decide)))
  refine (W6_arr m ρ c 9).trans ((arr2 (V5 m ρ) c (QA := qaR R) (QB := qbR R) (K := kkR R) (W := vvR R) (L := L) ?_ ?_ ?_ ?_ ?_).trans (by rw [r6]))
  · rw [a0]; exact qa_real hP cos_real sin_real
  · rw [a1]; exact qb_real hP cos_real sin_real
  · rw [a2]; exact kk_real hP cos_real sin_real
  · rw [a3]; exact vv_real hP
  · rw [r2, r3, r4, r5]
    refine Eq.trans ?_ hL
    simp only [row64_apply]

/-- The branch at an index, in the reference's reals. -/
theorem W6_v53_apply {R : Fin 10 → Fin 8192 → ℕ → ℝ} {L : ℝ} (b : Fin 10) (s : Fin 8192) (h : Fin 4) (l : Fin 128) :
    (attnArr (qaR R) (qbR R) (kkR R) (vvR R) L (shapeCast S1x128 (k6 m c) shapeCasts_S128_S1x128) (ix3 b s (lane h l)) : EReal)
      = normed (fun x : Fin 128 => ((smean (scoreOf R 2576 3088 b h s) (fun n => R b n (3600 + (h.val * 128 + x.val)))
          - L * smean (scoreOf R 2832 3344 b h s) (fun n => R b n (3600 + (h.val * 128 + x.val))) : ℝ) : EReal)) (k6 m c (ix1 l)) l := by
  rw [attnArr_apply, row128_apply]
  simp only [score_qa, score_qb]
  rfl

end Cert.KernelIdeal.Val

end
-- ==== Proof.Ref.Terms.lean ====
/- The reference's terms read at an index: the projection, the rotated heads, the scores, the weights and the output. -/
module

public import proofs.«01_k».proof.Proof.Gen.ReferenceIdeal.Run
public import proofs.«01_k».proof.Proof.Ideal.Angle
public import Idealize.ShloMosaic.Lib.Tactic
public import Idealize.ShloMosaic.Lib.Pointwise

@[expose] public section

set_option maxRecDepth 16384

noncomputable section

namespace Cert.ReferenceIdeal.Val

open Cert.ReferenceIdeal Cert.ReferenceIdeal.Gen Cert.ReferenceIdeal.Value Cert.RealKit
open Idealize.ShloMosaic Idealize.ShloMosaic.TcCoe Idealize.ShloMosaic.Tactic Idealize.SL.Sem Idealize.ShloMosaic.StableHlo

variable (V0 : Valuation τ sig (Elt Ideal))

/-- The rotation of a head from its two halves and the tables. -/
def ropeT (x1 x2 : FVec Ideal S10x8192x4x32 .f32) (cs sn : FVec Ideal S1x8192x1x32 .f32) : FVec Ideal S10x8192x4x64 .f32 :=
  concatenate S10x8192x4x64 3
    [⟨S10x8192x4x32, subf (mulf x1 (broadcastInDim S10x8192x4x32 ![0, 1, 2, 3] bcast_S1x8192x1x32_S10x8192x4x32_0_1_2_3 cs))
      (mulf x2 (broadcastInDim S10x8192x4x32 ![0, 1, 2, 3] bcast_S1x8192x1x32_S10x8192x4x32_0_1_2_3 sn))⟩,
     ⟨S10x8192x4x32, addf (mulf x2 (broadcastInDim S10x8192x4x32 ![0, 1, 2, 3] bcast_S1x8192x1x32_S10x8192x4x32_0_1_2_3 cs))
      (mulf x1 (broadcastInDim S10x8192x4x32 ![0, 1, 2, 3] bcast_S1x8192x1x32_S10x8192x4x32_0_1_2_3 sn))⟩]
    concatenates_S10x8192x4x32_S10x8192x4x32_S10x8192x4x64_d3

/-- The scaled scores of rotated queries against rotated keys. -/
def scoreT (q k : FVec Ideal S10x8192x4x64 .f32) : FVec Ideal S10x4x8192x8192 .f32 :=
  mulf (Host.dotGeneral dot_S10x8192x4x64_S10x8192x4x64_S10x4x8192x8192_3_3_1_1_02_02 none q k)
    (broadcastInDim S10x4x8192x8192 ![] bcast_S_S10x4x8192x8192 (constant S_ .f32 0x3E000000#32))

/-- A row's largest score, from minus infinity. -/
def redT (s : FVec Ideal S10x4x8192x8192 .f32) : FVec Ideal S10x4x8192 .f32 :=
  Host.reduce FloatOps.maximumf s (constant S_ .f32 0xFF800000#32) reducesTo_S10x4x8192x8192_S10x4x8192_d3 h_S_

/-- A row's largest score. -/
def maxT (s : FVec Ideal S10x4x8192x8192 .f32) : FVec Ideal S10x4x8192 .f32 :=
  maximumf (broadcastInDim S10x4x8192 ![] bcast_S_S10x4x8192 (constant S_ .f32 0xFF800000#32))
    (redT s)

/-- The exponentials of the scores less a row's number. -/
def expT (s : FVec Ideal S10x4x8192x8192 .f32) (m : FVec Ideal S10x4x8192 .f32) : FVec Ideal S10x4x8192x8192 .f32 :=
  Host.exp (subf s (broadcastInDim S10x4x8192x8192 ![0, 1, 2, 3] bcast_S10x4x8192x1_S10x4x8192x8192_0_1_2_3
    (broadcastInDim S10x4x8192x1 ![0, 1, 2] bcast_S10x4x8192_S10x4x8192x1_0_1_2 m)))

/-- The rows divided by their sums. -/
def partT (p : FVec Ideal S10x4x8192x8192 .f32) : FVec Ideal S10x4x8192x8192 .f32 :=
  Host.divf p (broadcastInDim S10x4x8192x8192 ![0, 1, 2, 3] bcast_S10x4x8192x1_S10x4x8192x8192_0_1_2_3
    (broadcastInDim S10x4x8192x1 ![0, 1, 2] bcast_S10x4x8192_S10x4x8192x1_0_1_2
      (Host.reduceAdd p (constant S_ .f32 0x00000000#32) reducesTo_S10x4x8192x8192_S10x4x8192_d3 h_S_)))

/-- The values weighted by the difference of the two maps. -/
def outT (v : FVec Ideal S10x8192x4x128 .f32) (p1 p2 : FVec Ideal S10x4x8192x8192 .f32) (L : FVec Ideal S_ .f32) : FVec Ideal S10x8192x4x128 .f32 :=
  transpose S10x8192x4x128 [0, 3, 1, 2]
    (Host.dotGeneral dot_S10x8192x4x128_S10x4x8192x8192_S10x4x128x8192_1_3_3_2_02_01 none v
      (subf (partT p1) (mulf (broadcastInDim S10x4x8192x8192 ![] bcast_S_S10x4x8192x8192 L) (partT p2))))
    transposes_S10x4x128x8192_S10x8192x4x128_0_3_1_2

/-- The mixing weight. -/
def lamT (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The heads' normalisation and their joining. -/
def normT (o : FVec Ideal S10x8192x4x128 .f32) (g : FVec Ideal S128 .f32) : FVec Ideal S10x8192x512 .f32 :=
  shapeCast _ (mulf (mulf (mulf o (broadcastInDim S10x8192x4x128 ![0, 1, 2, 3] bcast_S10x8192x4x1_S10x8192x4x128_0_1_2_3
      (Host.rsqrt (addf (Host.divf (broadcastInDim S10x8192x4x1 ![0, 1, 2] bcast_S10x8192x4_S10x8192x4x1_0_1_2
          (Host.reduceAdd (mulf o o) (constant S_ .f32 0x00000000#32) reducesTo_S10x8192x4x128_S10x8192x4_d3 h_S_))
        (broadcastInDim S10x8192x4x1 ![] bcast_S_S10x8192x4x1 (constant S_ .f32 0x43000000#32)))
        (broadcastInDim S10x8192x4x1 ![] bcast_S_S10x8192x4x1 (constant S_ .f32 0x358637BD#32))))))
      (broadcastInDim S10x8192x4x128 ![0, 1, 2, 3] bcast_S1x1x1x128_S10x8192x4x128_0_1_2_3 (broadcastInDim S1x1x1x128 ![3] bcast_S128_S1x1x1x128_3 g)))
    (broadcastInDim S10x8192x4x128 ![] bcast_S_S10x8192x4x128 (constant S_ .f32 0x3F4CCCCD#32))) shapeCasts_S10x8192x4x128_S10x8192x512

/-- The values of the projection, a head at a time. -/
def valT : FVec Ideal S10x8192x4x128 .f32 :=
  shapeCast _ (extractStridedSlice S10x8192x512 ![0, 0, 1024] (res_main_v2 V0) slices_S10x8192x1536_S10x8192x512_0_0_1024)
    shapeCasts_S10x8192x512_S10x8192x4x128

theorem v135_eq : res_main_v135 V0 = scoreT (ropeT (res_main_v24 V0) (res_main_v25 V0) (res_main_v21 V0) (res_main_v23 V0))
    (ropeT (res_main_v82 V0) (res_main_v83 V0) (res_main_v79 V0) (res_main_v81 V0)) := rfl

theorem v149_eq : res_main_v149 V0 = scoreT (ropeT (res_main_v53 V0) (res_main_v54 V0) (res_main_v50 V0) (res_main_v52 V0))
    (ropeT (res_main_v111 V0) (res_main_v112 V0) (res_main_v108 V0) (res_main_v110 V0)) := rfl

theorem v165_eq : res_main_v165 V0 = outT (valT V0) (expT (res_main_v135 V0) (maxT (res_main_v135 V0)))
    (expT (res_main_v149 V0) (maxT (res_main_v149 V0)))
    (lamT (V0 (Proc.devRef .tc main_arg2)) (V0 (Proc.devRef .tc main_arg3)) (V0 (Proc.devRef .tc main_arg4)) (V0 (Proc.devRef .tc main_arg5))) := rfl

/-- The layer's input. -/
def argX : FVec Ideal S10x8192x1024 .f32 := V0 (Proc.devRef .tc main_arg0)
/-- The projection's weight. -/
def argW : FVec Ideal S1024x7184 .f32 := V0 (Proc.devRef .tc main_arg1)
/-- The projection. -/
def projT : FVec Ideal S10x8192x7184 .f32 := res_main_v1 V0
/-- The table of cosines. -/
def cosT : FVec Ideal S1x8192x1x32 .f32 := res_main_v21 V0
/-- The table of sines. -/
def sinT : FVec Ideal S1x8192x1x32 .f32 := res_main_v23 V0

theorem proj_apply (b : Fin 10) (s : Fin 8192) (n : Fin 7184) : (projT V0 (ix3 b s n) : EReal)
    = ∑ x : Fin 1024, argX V0 (ix3 b s x) * argW V0 (ix2 x n) := by
  pointwise [projT, res_main_v1]
  rfl

theorem angle_apply (s : Fin 8192) (i : Fin 32) : (res_main_v19 V0 (ix2 s i) : EReal) = angE s.val i.val := by
  pointwise [res_main_v19, res_main_v0]
  rfl

theorem cos_apply (s : Fin 8192) (i : Fin 32) : (cosT V0 (ix4 (0 : Fin 1) s (0 : Fin 1) i) : EReal) = cosR s.val i.val := by
  pointwise [cosT, res_main_v21]
  exact (congrArg Ideal.cos (angle_apply V0 s i)).trans (cos_ang _ _)

theorem sin_apply (s : Fin 8192) (i : Fin 32) : (sinT V0 (ix4 (0 : Fin 1) s (0 : Fin 1) i) : EReal) = sinR s.val i.val := by
  pointwise [sinT, res_main_v23]
  exact (congrArg Ideal.sin (angle_apply V0 s i)).trans (sin_ang _ _)

theorem v50_eq : res_main_v50 V0 = res_main_v21 V0 := rfl
theorem v52_eq : res_main_v52 V0 = res_main_v23 V0 := rfl
theorem v79_eq : res_main_v79 V0 = res_main_v21 V0 := rfl
theorem v81_eq : res_main_v81 V0 = res_main_v23 V0 := rfl
theorem v108_eq : res_main_v108 V0 = res_main_v21 V0 := rfl
theorem v110_eq : res_main_v110 V0 = res_main_v23 V0 := rfl

theorem ropeT_apply (x1 x2 : FVec Ideal S10x8192x4x32 .f32) (cs sn : FVec Ideal S1x8192x1x32 .f32) (b : Fin 10) (s : Fin 8192) (h : Fin 4) (d : Fin 64) :
    (ropeT x1 x2 cs sn (ix4 b s h d) : EReal)
      = if hd : d.val < 32 then
          x1 (ix4 b s h ⟨d.val, hd⟩) * cs (ix4 (0 : Fin 1) s (0 : Fin 1) ⟨d.val, hd⟩) - x2 (ix4 b s h ⟨d.val, hd⟩) * sn (ix4 (0 : Fin 1) s (0 : Fin 1) ⟨d.val, hd⟩)
        else
          x2 (ix4 b s h ⟨d.val - 32, by omega⟩) * cs (ix4 (0 : Fin 1) s (0 : Fin 1) ⟨d.val - 32, by omega⟩)
            + x1 (ix4 b s h ⟨d.val - 32, by omega⟩) * sn (ix4 (0 : Fin 1) s (0 : Fin 1) ⟨d.val - 32, by omega⟩) := by
  pointwise [ropeT]

theorem scoreT_apply (q k : FVec Ideal S10x8192x4x64 .f32) (b : Fin 10) (h : Fin 4) (s n : Fin 8192) :
    (scoreT q k (ix4 b h s n) : EReal) = (∑ x : Fin 64, q (ix4 b s h x) * k (ix4 b n h x)) * Ideal.ofBits .f32 0x3E000000#32 := by
  pointwise [scoreT]

theorem expT_apply (s : FVec Ideal S10x4x8192x8192 .f32) (m : FVec Ideal S10x4x8192 .f32) (b : Fin 10) (h : Fin 4) (r n : Fin 8192) :
    (expT s m (ix4 b h r n) : EReal) = Ideal.exp (s (ix4 b h r n) - m (ix3 b h r)) := by
  pointwise [expT]

theorem partT_apply (p : FVec Ideal S10x4x8192x8192 .f32) (b : Fin 10) (h : Fin 4) (r n : Fin 8192) :
    (partT p (ix4 b h r n) : EReal) = Ideal.div (p (ix4 b h r n)) (∑ x, p (ix4 b h r x)) := by
  pointwise [partT]

theorem outT_apply (v : FVec Ideal S10x8192x4x128 .f32) (p1 p2 : FVec Ideal S10x4x8192x8192 .f32) (L : FVec Ideal S_ .f32) (b : Fin 10) (s : Fin 8192) (h : Fin 4) (l : Fin 128) :
    (outT v p1 p2 L (ix4 b s h l) : EReal)
      = ∑ x : Fin 8192, v (ix4 b x h l) * (partT p1 (ix4 b h s x) - L ix0 * partT p2 (ix4 b h s x)) := by
  pointwise [outT]

theorem lamT_apply (a b c d : FVec Ideal S64 .f32) : (lamT a b c d ix0 : EReal)
    = Ideal.exp (∑ x : Fin 64, a (ix1 x) * b (ix1 x)) - Ideal.exp (∑ x : Fin 64, c (ix1 x) * d (ix1 x)) + Ideal.ofBits .f32 0x3E4CCCCD#32 := by
  pointwise [lamT]

theorem normT_apply (o : FVec Ideal S10x8192x4x128 .f32) (g : FVec Ideal S128 .f32) (b : Fin 10) (s : Fin 8192) (j : Fin 512) :
    (normT o g (ix3 b s j) : EReal)
      = o (ix4 b s ⟨j.val / 128, by omega⟩ ⟨j.val % 128, by omega⟩)
          * Ideal.rsqrt (Ideal.div (∑ x : Fin 128, o (ix4 b s ⟨j.val / 128, by omega⟩ x) * o (ix4 b s ⟨j.val / 128, by omega⟩ x)) (Ideal.ofBits .f32 0x43000000#32)
            + Ideal.ofBits .f32 0x358637BD#32)
          * g (ix1 ⟨j.val % 128, by omega⟩) * Ideal.ofBits .f32 0x3F4CCCCD#32 := by
  pointwise [normT]

theorem valT_apply (b : Fin 10) (s : Fin 8192) (h : Fin 4) (l : Fin 128) :
    (valT V0 (ix4 b s h l) : EReal) = projT V0 (ix3 b s ⟨2576 + (1024 + (h.val * 128 + l.val)), by omega⟩) := by
  pointwise [valT, res_main_v2]
  rfl

end Cert.ReferenceIdeal.Val

end
-- ==== Proof.Ref.Halves.lean ====
/- The halves of the reference's heads as columns of the projection. -/
module

public import proofs.«01_k».proof.Proof.Gen.ReferenceIdeal.Run
public import proofs.«01_k».proof.Proof.Ideal.Angle
public import Idealize.ShloMosaic.Lib.Tactic
public import Idealize.ShloMosaic.Lib.Pointwise
public import proofs.«01_k».proof.Proof.Ref.Terms

@[expose] public section

set_option maxRecDepth 16384

noncomputable section

namespace Cert.ReferenceIdeal.Val

open Cert.ReferenceIdeal Cert.ReferenceIdeal.Gen Cert.ReferenceIdeal.Value Cert.RealKit
open Idealize.ShloMosaic Idealize.ShloMosaic.TcCoe Idealize.ShloMosaic.Tactic Idealize.SL.Sem Idealize.ShloMosaic.StableHlo

variable (V0 : Valuation τ sig (Elt Ideal))

/-- One half of a head's columns, `off` columns into the attention branch's part of the projection. -/
theorem half_apply (b : Fin 10) (s : Fin 8192) (h : Fin 4) (i : Fin 32) :
    (res_main_v24 V0 (ix4 b s h i) = projT V0 (ix3 b s ⟨2576 + (h.val * 64 + i.val), by omega⟩)
      ∧ res_main_v25 V0 (ix4 b s h i) = projT V0 (ix3 b s ⟨2576 + (h.val * 64 + (32 + i.val)), by omega⟩))
    ∧ (res_main_v53 V0 (ix4 b s h i) = projT V0 (ix3 b s ⟨2576 + (256 + (h.val * 64 + i.val)), by omega⟩)
      ∧ res_main_v54 V0 (ix4 b s h i) = projT V0 (ix3 b s ⟨2576 + (256 + (h.val * 64 + (32 + i.val))), by omega⟩))
    ∧ (res_main_v82 V0 (ix4 b s h i) = projT V0 (ix3 b s ⟨2576 + (512 + (h.val * 64 + i.val)), by omega⟩)
      ∧ res_main_v83 V0 (ix4 b s h i) = projT V0 (ix3 b s ⟨2576 + (512 + (h.val * 64 + (32 + i.val))), by omega⟩))
    ∧ (res_main_v111 V0 (ix4 b s h i) = projT V0 (ix3 b s ⟨2576 + (768 + (h.val * 64 + i.val)), by omega⟩)
      ∧ res_main_v112 V0 (ix4 b s h i) = projT V0 (ix3 b s ⟨2576 + (768 + (h.val * 64 + (32 + i.val))), by omega⟩)) := by
  refine ⟨⟨?_, ?_⟩, ⟨?_, ?_⟩, ⟨?_, ?_⟩, ?_, ?_⟩
  · pointwise [res_main_v24, res_main_v8, res_main_v2]
    rfl
  · pointwise [res_main_v25, res_main_v8, res_main_v2]
    rfl
  · pointwise [res_main_v53, res_main_v37, res_main_v2]
    rfl
  · pointwise [res_main_v54, res_main_v37, res_main_v2]
    rfl
  · pointwise [res_main_v82, res_main_v66, res_main_v2]
    rfl
  · pointwise [res_main_v83, res_main_v66, res_main_v2]
    rfl
  · pointwise [res_main_v111, res_main_v95, res_main_v2]
    rfl
  · pointwise [res_main_v112, res_main_v95, res_main_v2]
    rfl

end Cert.ReferenceIdeal.Val

end
-- ==== Proof.Ref.Largest.lean ====
/- The reference's largest score of a row is real. -/
module

public import proofs.«01_k».proof.Proof.Gen.ReferenceIdeal.Run
public import proofs.«01_k».proof.Proof.Ideal.Angle
public import Idealize.ShloMosaic.Lib.Tactic
public import Idealize.ShloMosaic.Lib.Pointwise
public import proofs.«01_k».proof.Proof.Ref.Terms

@[expose] public section

set_option maxRecDepth 16384

noncomputable section

namespace Cert.ReferenceIdeal.Val

open Cert.ReferenceIdeal Cert.ReferenceIdeal.Gen Cert.ReferenceIdeal.Value Cert.RealKit
open Idealize.ShloMosaic Idealize.ShloMosaic.TcCoe Idealize.ShloMosaic.Tactic Idealize.SL.Sem Idealize.ShloMosaic.StableHlo

variable (V0 : Valuation τ sig (Elt Ideal))

theorem drop_last (b : Fin 10) (h : Fin 4) (r : Fin 8192) :
    reducesTo_S10x4x8192x8192_S10x4x8192_d3.drop (ix4 b h r (0 : Fin 8192)) = ix3 b h r := by
  unfold Shape.ReducesTo.drop
  funext k
  fin_cases k
  · rfl
  · rfl
  · rfl

/-- The maximum over a set holding a given index, of real numbers and from minus infinity, is real. -/
theorem bd_fold_set {ι : Type} [DecidableEq ι] (S : Finset ι) (f : ι → EReal) (i : ι) (hi : i ∈ S) (hf : ∀ i, Bd (f i)) :
    Bd (S.fold max ⊥ f) :=
  ⟨(Finset.lt_fold_max _).2 (.inr ⟨i, hi, (hf i).1⟩), (Finset.fold_max_lt _).2 ⟨bot_lt_top, fun i _ => (hf i).2⟩⟩

theorem redT_eq (s : FVec Ideal S10x4x8192x8192 .f32) (j : S10x4x8192.Idx) :
    (redT s j : EReal) = (Finset.univ.filter fun i => reducesTo_S10x4x8192x8192_S10x4x8192_d3.drop i = j).fold max ⊥ s := by
  unfold redT
  rw [Host.reduce_eq_fold]
  rfl

theorem larger_apply (x y : FVec Ideal S10x4x8192 .f32) (j : S10x4x8192.Idx) : (maximumf x y j : EReal) = max (x j : EReal) (y j) := rfl

theorem low_apply (j : S10x4x8192.Idx) :
    (broadcastInDim S10x4x8192 ![] bcast_S_S10x4x8192 (constant (F := Ideal) S_ .f32 0xFF800000#32) j : EReal) = Ideal.ofBits .f32 0xFF800000#32 := rfl

theorem maxT_apply (s : FVec Ideal S10x4x8192x8192 .f32) (b : Fin 10) (h : Fin 4) (r : Fin 8192) :
    (maxT s (ix3 b h r) : EReal) = max (Ideal.ofBits .f32 0xFF800000#32) (redT s (ix3 b h r)) := by
  unfold maxT
  rw [larger_apply, low_apply]

theorem low_word : Ideal.ofBits .f32 0xFF800000#32 = ⊥ := rfl

/-- A row's largest score is real where the scores are. -/
theorem maxT_bd {s : FVec Ideal S10x4x8192x8192 .f32} (hs : ∀ i, Bd (s i)) (b : Fin 10) (h : Fin 4) (r : Fin 8192) : Bd (maxT s (ix3 b h r)) := by
  rw [maxT_apply, low_word, max_eq_right bot_le, redT_eq]
  exact bd_fold_set _ s (ix4 b h r (0 : Fin 8192)) (Finset.mem_filter.2 ⟨Finset.mem_univ _, drop_last b h r⟩) hs

end Cert.ReferenceIdeal.Val

end
-- ==== Proof.Ref.Real.lean ====
/- The reference over real inputs: rotated heads, scores, weights and the branch's result. -/
module

public import proofs.«01_k».proof.Proof.Gen.ReferenceIdeal.Run
public import proofs.«01_k».proof.Proof.Ideal.Angle
public import Idealize.ShloMosaic.Lib.Tactic
public import Idealize.ShloMosaic.Lib.Pointwise
public import proofs.«01_k».proof.Proof.Ref.Halves
public import proofs.«01_k».proof.Proof.Ref.Largest
public import proofs.«01_k».proof.Proof.Ideal.AttnVal

@[expose] public section

set_option maxRecDepth 16384

noncomputable section

namespace Cert.ReferenceIdeal.Val

open Cert.ReferenceIdeal Cert.ReferenceIdeal.Gen Cert.ReferenceIdeal.Value Cert.RealKit
open Idealize.ShloMosaic Idealize.ShloMosaic.TcCoe Idealize.ShloMosaic.Tactic Idealize.SL.Sem Idealize.ShloMosaic.StableHlo

variable (V0 : Valuation τ sig (Elt Ideal))

open Cert.KernelIdeal.Val (normed smean lamOf)

theorem rope_real {x1 x2 : FVec Ideal S10x8192x4x32 .f32} {R : Fin 10 → Fin 8192 → ℕ → ℝ} (base : ℕ)
    (h1 : ∀ (b : Fin 10) (s : Fin 8192) (h : Fin 4) (i : Fin 32), (x1 (ix4 b s h i) : EReal) = R b s (base + (h.val * 64 + i.val)))
    (h2 : ∀ (b : Fin 10) (s : Fin 8192) (h : Fin 4) (i : Fin 32), (x2 (ix4 b s h i) : EReal) = R b s (base + (h.val * 64 + (32 + i.val))))
    (b : Fin 10) (s : Fin 8192) (h : Fin 4) (d : Fin 64) :
    (ropeT x1 x2 (cosT V0) (sinT V0) (ix4 b s h d) : EReal) = rotR (R b s) s.val (base + h.val * 64) d.val := by
  rw [ropeT_apply]
  unfold rotR
  by_cases hd : d.val < 32
  · rw [dif_pos hd, if_pos hd, h1, h2, cos_apply, sin_apply, ← EReal.coe_mul, ← EReal.coe_mul, ← EReal.coe_sub]
    have e1 : base + (h.val * 64 + d.val) = base + h.val * 64 + d.val := by omega
    have e2 : base + (h.val * 64 + (32 + d.val)) = base + h.val * 64 + (32 + d.val) := by omega
    show (((R b s (base + (h.val * 64 + d.val)) * cosR s.val d.val - R b s (base + (h.val * 64 + (32 + d.val))) * sinR s.val d.val : ℝ)) : EReal) = _
    rw [e1, e2, Nat.mod_eq_of_lt hd]
  · rw [dif_neg hd, if_neg hd, h1, h2, cos_apply, sin_apply, ← EReal.coe_mul, ← EReal.coe_mul, ← EReal.coe_add]
    have e1 : base + (h.val * 64 + (32 + (d.val - 32))) = base + h.val * 64 + d.val := by omega
    have e2 : base + (h.val * 64 + (d.val - 32)) = base + h.val * 64 + (d.val - 32) := by omega
    have e3 : d.val % 32 = d.val - 32 := by omega
    show (((R b s (base + (h.val * 64 + (32 + (d.val - 32)))) * cosR s.val (d.val - 32) + R b s (base + (h.val * 64 + (d.val - 32))) * sinR s.val (d.val - 32) : ℝ)) : EReal) = _
    rw [e1, e2, e3]

theorem eighth_word : Ideal.ofBits .f32 0x3E000000#32 = ((1 / 8 : ℝ) : EReal) := by
  norm_num [Ideal.ofBits, Ideal.ieee, Nat.shiftRight_eq_div_pow, BitVec.extractLsb', BitVec.ofNat_eq_ofNat]

theorem score_of {q k : FVec Ideal S10x8192x4x64 .f32} {Q K : Fin 10 → Fin 8192 → Fin 4 → Fin 64 → ℝ}
    (hq : ∀ b s h d, (q (ix4 b s h d) : EReal) = Q b s h d) (hk : ∀ b s h d, (k (ix4 b s h d) : EReal) = K b s h d)
    (b : Fin 10) (h : Fin 4) (s n : Fin 8192) :
    (scoreT q k (ix4 b h s n) : EReal) = (((∑ d, Q b s h d * K b n h d) * (1 / 8) : ℝ) : EReal) := by
  rw [scoreT_apply, eighth_word, coe_dot _ _ _ _ (fun d => hq b s h d) (fun d => hk b n h d), ← EReal.coe_mul]

theorem exp_sum_pos (S : Fin 8192 → ℝ) : 0 < ∑ n, Real.exp (S n) :=
  Finset.sum_pos (fun n _ => Real.exp_pos _) ⟨0, Finset.mem_univ _⟩

theorem cancel_div (a c m : ℝ) (hc : c ≠ 0) (hm : m ≠ 0) : Ideal.div ((a * m : ℝ) : EReal) ((c * m : ℝ) : EReal) = ((a / c : ℝ) : EReal) := by
  rw [Ideal.div_coe (mul_ne_zero hc hm), ← EReal.coe_mul, mul_one_div, mul_div_mul_right _ _ hm]

/-- The softmax of real scores: the subtracted number cancels. -/
theorem part_real {s : FVec Ideal S10x4x8192x8192 .f32} {S : Fin 10 → Fin 4 → Fin 8192 → Fin 8192 → ℝ}
    (hs : ∀ b h r n, (s (ix4 b h r n) : EReal) = S b h r n) (b : Fin 10) (h : Fin 4) (r n : Fin 8192) :
    (partT (expT s (maxT s)) (ix4 b h r n) : EReal) = ((Real.exp (S b h r n) / ∑ x, Real.exp (S b h r x) : ℝ) : EReal) := by
  have hb : ∀ i, Bd (s i) := fun i => by
    rw [eq_ix4 i]
    exact (hs (i 0) (i 1) (i 2) (i 3)).symm ▸ bd_coe _
  obtain ⟨M, hM⟩ := (maxT_bd hb b h r).real
  have e : ∀ x, (expT s (maxT s) (ix4 b h r x) : EReal) = ((Real.exp (S b h r x) * Real.exp (-M) : ℝ) : EReal) := fun x => by
    rw [expT_apply, hs, hM, ← EReal.coe_sub, Ideal.exp_coe, ← Real.exp_add, sub_eq_add_neg]
  have hpos := exp_sum_pos (S b h r)
  have hsum : (∑ x, expT s (maxT s) (ix4 b h r x) : EReal) = (((∑ x, Real.exp (S b h r x)) * Real.exp (-M) : ℝ) : EReal) := by
    rw [Finset.sum_mul]
    exact (Finset.sum_congr rfl fun x _ => e x).trans (coe_sum _ _)
  rw [partT_apply]
  exact (congrArg₂ Ideal.div (e n) hsum).trans (cancel_div _ _ _ hpos.ne' (Real.exp_pos _).ne')

theorem out_real {v : FVec Ideal S10x8192x4x128 .f32} {s1 s2 : FVec Ideal S10x4x8192x8192 .f32} {l0 : FVec Ideal S_ .f32}
    {W : Fin 10 → Fin 8192 → Fin 4 → Fin 128 → ℝ} {S1 S2 : Fin 10 → Fin 4 → Fin 8192 → Fin 8192 → ℝ} {L : ℝ}
    (hv : ∀ b n h l, (v (ix4 b n h l) : EReal) = W b n h l)
    (h1 : ∀ b h r n, (s1 (ix4 b h r n) : EReal) = S1 b h r n) (h2 : ∀ b h r n, (s2 (ix4 b h r n) : EReal) = S2 b h r n)
    (hl : (l0 ix0 : EReal) = L) (b : Fin 10) (s : Fin 8192) (h : Fin 4) (l : Fin 128) :
    (outT v (expT s1 (maxT s1)) (expT s2 (maxT s2)) l0 (ix4 b s h l) : EReal)
      = ((smean (S1 b h s) (fun n => W b n h l) - L * smean (S2 b h s) (fun n => W b n h l) : ℝ) : EReal) := by
  have e : ∀ x : Fin 8192, (v (ix4 b x h l) * (partT (expT s1 (maxT s1)) (ix4 b h s x) - l0 ix0 * partT (expT s2 (maxT s2)) (ix4 b h s x)) : EReal)
      = ((Real.exp (S1 b h s x) * W b x h l / (∑ x, Real.exp (S1 b h s x)) - L * (Real.exp (S2 b h s x) * W b x h l / ∑ x, Real.exp (S2 b h s x)) : ℝ) : EReal) := fun x => by
    rw [hv, part_real h1, part_real h2, hl, ← EReal.coe_mul, ← EReal.coe_sub, ← EReal.coe_mul]
    congr 1
    ring
  rw [outT_apply, Finset.sum_congr rfl fun x _ => e x, coe_sum, Finset.sum_sub_distrib, ← Finset.mul_sum, ← Finset.sum_div, ← Finset.sum_div]
  rfl

/-- The scores of the queries from column `qb` against the keys from column `kb`. -/
def scoreR (R : Fin 10 → Fin 8192 → ℕ → ℝ) (qb kb : ℕ) (b : Fin 10) (h : Fin 4) (s n : Fin 8192) : ℝ :=
  (∑ d : Fin 64, rotR (R b s) s.val (qb + h.val * 64) d.val * rotR (R b n) n.val (kb + h.val * 64) d.val) * (1 / 8)

/-- The first map's scores. -/
def s1T : FVec Ideal S10x4x8192x8192 .f32 := res_main_v135 V0
/-- The second map's scores. -/
def s2T : FVec Ideal S10x4x8192x8192 .f32 := res_main_v149 V0
/-- The weighted values. -/
def oT : FVec Ideal S10x8192x4x128 .f32 := res_main_v165 V0
/-- The four weight vectors of the mixing weight. -/
def arg2T : FVec Ideal S64 .f32 := V0 (Proc.devRef .tc main_arg2)
/-- The second. -/
def arg3T : FVec Ideal S64 .f32 := V0 (Proc.devRef .tc main_arg3)
/-- The third. -/
def arg4T : FVec Ideal S64 .f32 := V0 (Proc.devRef .tc main_arg4)
/-- The fourth. -/
def arg5T : FVec Ideal S64 .f32 := V0 (Proc.devRef .tc main_arg5)

theorem s1T_eq : s1T V0 = scoreT (ropeT (res_main_v24 V0) (res_main_v25 V0) (cosT V0) (sinT V0))
    (ropeT (res_main_v82 V0) (res_main_v83 V0) (cosT V0) (sinT V0)) := v135_eq V0

theorem s2T_eq : s2T V0 = scoreT (ropeT (res_main_v53 V0) (res_main_v54 V0) (cosT V0) (sinT V0))
    (ropeT (res_main_v111 V0) (res_main_v112 V0) (cosT V0) (sinT V0)) := v149_eq V0

theorem oT_eq : oT V0 = outT (valT V0) (expT (s1T V0) (maxT (s1T V0))) (expT (s2T V0) (maxT (s2T V0)))
    (lamT (arg2T V0) (arg3T V0) (arg4T V0) (arg5T V0)) := v165_eq V0

variable {V0}

theorem scores1 {R : Fin 10 → Fin 8192 → ℕ → ℝ} (hR : ∀ b s n (h : n < 7184), (projT V0 (ix3 b s ⟨n, h⟩) : EReal) = R b s n)
    (b : Fin 10) (h : Fin 4) (s n : Fin 8192) : (s1T V0 (ix4 b h s n) : EReal) = scoreR R 2576 3088 b h s n := by
  rw [s1T_eq]
  exact score_of
    (rope_real V0 2576 (fun b s h i => (half_apply V0 b s h i).1.1.trans (hR _ _ _ _)) (fun b s h i => (half_apply V0 b s h i).1.2.trans (hR _ _ _ _)))
    (rope_real V0 3088 (fun b s h i => (half_apply V0 b s h i).2.2.1.1.trans ((hR _ _ _ _).trans (by rw [← add_assoc])))
      (fun b s h i => (half_apply V0 b s h i).2.2.1.2.trans ((hR _ _ _ _).trans (by rw [← add_assoc])))) b h s n

theorem scores2 {R : Fin 10 → Fin 8192 → ℕ → ℝ} (hR : ∀ b s n (h : n < 7184), (projT V0 (ix3 b s ⟨n, h⟩) : EReal) = R b s n)
    (b : Fin 10) (h : Fin 4) (s n : Fin 8192) : (s2T V0 (ix4 b h s n) : EReal) = scoreR R 2832 3344 b h s n := by
  rw [s2T_eq]
  exact score_of
    (rope_real V0 2832 (fun b s h i => (half_apply V0 b s h i).2.1.1.trans ((hR _ _ _ _).trans (by rw [← add_assoc])))
      (fun b s h i => (half_apply V0 b s h i).2.1.2.trans ((hR _ _ _ _).trans (by rw [← add_assoc]))))
    (rope_real V0 3344 (fun b s h i => (half_apply V0 b s h i).2.2.2.1.trans ((hR _ _ _ _).trans (by rw [← add_assoc])))
      (fun b s h i => (half_apply V0 b s h i).2.2.2.2.trans ((hR _ _ _ _).trans (by rw [← add_assoc])))) b h s n

/-- The branch's weighted values over a real projection and a real mixing weight. -/
theorem oT_real {R : Fin 10 → Fin 8192 → ℕ → ℝ} {L : ℝ} (hR : ∀ b s n (h : n < 7184), (projT V0 (ix3 b s ⟨n, h⟩) : EReal) = R b s n)
    (hL : lamOf (fun x => arg2T V0 (ix1 x)) (fun x => arg3T V0 (ix1 x)) (fun x => arg4T V0 (ix1 x)) (fun x => arg5T V0 (ix1 x)) = L)
    (b : Fin 10) (s : Fin 8192) (h : Fin 4) (l : Fin 128) :
    (oT V0 (ix4 b s h l) : EReal)
      = ((smean (scoreR R 2576 3088 b h s) (fun n => R b n (3600 + (h.val * 128 + l.val)))
          - L * smean (scoreR R 2832 3344 b h s) (fun n => R b n (3600 + (h.val * 128 + l.val))) : ℝ) : EReal) := by
  rw [oT_eq]
  exact out_real (W := fun b n h l => R b n (3600 + (h.val * 128 + l.val)))
    (fun b n h l => (valT_apply V0 b n h l).trans ((hR _ _ _ _).trans (by rw [← add_assoc])))
    (scores1 hR) (scores2 hR) ((lamT_apply _ _ _ _).trans hL) b s h l

/-- The attention branch's result over a real projection and a real mixing weight. -/
theorem branch_real {R : Fin 10 → Fin 8192 → ℕ → ℝ} {L : ℝ} (g : FVec Ideal S128 .f32)
    (hR : ∀ b s n (h : n < 7184), (projT V0 (ix3 b s ⟨n, h⟩) : EReal) = R b s n)
    (hL : lamOf (fun x => arg2T V0 (ix1 x)) (fun x => arg3T V0 (ix1 x)) (fun x => arg4T V0 (ix1 x)) (fun x => arg5T V0 (ix1 x)) = L)
    (b : Fin 10) (s : Fin 8192) (j : Fin 512) :
    (normT (oT V0) g (ix3 b s j) : EReal)
      = normed (fun x : Fin 128 => ((smean (scoreR R 2576 3088 b ⟨j.val / 128, by omega⟩ s) (fun n => R b n (3600 + (j.val / 128 * 128 + x.val)))
          - L * smean (scoreR R 2832 3344 b ⟨j.val / 128, by omega⟩ s) (fun n => R b n (3600 + (j.val / 128 * 128 + x.val))) : ℝ) : EReal))
        (g (ix1 ⟨j.val % 128, by omega⟩)) ⟨j.val % 128, by omega⟩ := by
  rw [normT_apply]
  simp only [oT_real hR hL]
  rfl

end Cert.ReferenceIdeal.Val

end
-- ==== Proof.Equation.lean ====
/- The kernel's results are the reference's: the projection's columns outside the attention branch, and the branch. -/
module

public import proofs.«01_k».proof.Proof.Ideal.KernVal
public import proofs.«01_k».proof.Proof.Ref.Real

@[expose] public section

set_option maxRecDepth 16384

noncomputable section

namespace Cert.Proof.Equation

open Idealize.ShloMosaic Idealize.ShloMosaic.TcCoe Idealize.ShloMosaic.Tactic Idealize.SL.Sem
open Cert.KernelIdeal (S10x8192x2048 S10x8192x16 S10x8192x512 S10x8192x3072 S10x8192x1024 S1024x7184 S64 S128 S10x8192x7296 S1x128)
open Cert.KernelIdeal.Val (cols25 cols26 cols27 cols28 kX kW k2 k3 k4 k5 k6 kP kP_apply packCol packCol_lt lamOf attnArr qaR qbR kkR vvR lane W6_v53_apply)
open Cert.ReferenceIdeal.Val (argX argW arg2T arg3T arg4T arg5T projT proj_apply normT oT branch_real)
open Cert.RealKit

/-- 2048 of the reference's projection columns. -/
def ref25 (P : FVec Ideal Cert.ReferenceIdeal.S10x8192x7184 .f32) : FVec Ideal S10x8192x2048 .f32 :=
  extractStridedSlice Cert.ReferenceIdeal.S10x8192x2048 ![0, 0, 0] P Cert.ReferenceIdeal.Gen.slices_S10x8192x7184_S10x8192x2048_0_0_0
/-- 16 of them. -/
def ref26 (P : FVec Ideal Cert.ReferenceIdeal.S10x8192x7184 .f32) : FVec Ideal S10x8192x16 .f32 :=
  extractStridedSlice Cert.ReferenceIdeal.S10x8192x16 ![0, 0, 2048] P Cert.ReferenceIdeal.Gen.slices_S10x8192x7184_S10x8192x16_0_0_2048
/-- 512 of them. -/
def ref27 (P : FVec Ideal Cert.ReferenceIdeal.S10x8192x7184 .f32) : FVec Ideal S10x8192x512 .f32 :=
  extractStridedSlice Cert.ReferenceIdeal.S10x8192x512 ![0, 0, 2064] P Cert.ReferenceIdeal.Gen.slices_S10x8192x7184_S10x8192x512_0_0_2064
/-- The last 3072. -/
def ref28 (P : FVec Ideal Cert.ReferenceIdeal.S10x8192x7184 .f32) : FVec Ideal S10x8192x3072 .f32 :=
  extractStridedSlice Cert.ReferenceIdeal.S10x8192x3072 ![0, 0, 4112] P Cert.ReferenceIdeal.Gen.slices_S10x8192x7184_S10x8192x3072_0_0_4112

theorem pack25 : ∀ j : Fin 2048, packCol (0 + j.val) = 0 + j.val := by decide +kernel
theorem pack26 : ∀ j : Fin 16, packCol (7168 + j.val) = 2048 + j.val := by decide +kernel
theorem pack27 : ∀ j : Fin 512, packCol (2048 + j.val) = 2064 + j.val := by decide +kernel
theorem pack28 : ∀ j : Fin 3072, packCol (4096 + j.val) = 4112 + j.val := by decide +kernel

theorem cols25_at (P : FVec Ideal S10x8192x7296 .f32) (b : Fin 10) (s : Fin 8192) (j : Fin 2048) :
    (cols25 P (ix3 b s j) : EReal) = P (ix3 b s ⟨0 + j.val, by omega⟩) := by pointwise [cols25]
theorem cols26_at (P : FVec Ideal S10x8192x7296 .f32) (b : Fin 10) (s : Fin 8192) (j : Fin 16) :
    (cols26 P (ix3 b s j) : EReal) = P (ix3 b s ⟨7168 + j.val, by omega⟩) := by pointwise [cols26]
theorem cols27_at (P : FVec Ideal S10x8192x7296 .f32) (b : Fin 10) (s : Fin 8192) (j : Fin 512) :
    (cols27 P (ix3 b s j) : EReal) = P (ix3 b s ⟨2048 + j.val, by omega⟩) := by pointwise [cols27]
theorem cols28_at (P : FVec Ideal S10x8192x7296 .f32) (b : Fin 10) (s : Fin 8192) (j : Fin 3072) :
    (cols28 P (ix3 b s j) : EReal) = P (ix3 b s ⟨4096 + j.val, by omega⟩) := by pointwise [cols28]

theorem ref25_at (P : FVec Ideal Cert.ReferenceIdeal.S10x8192x7184 .f32) (b : Fin 10) (s : Fin 8192) (j : Fin 2048) :
    (ref25 P (ix3 b s j) : EReal) = P (ix3 b s ⟨0 + j.val, by omega⟩) := by pointwise [ref25]
theorem ref26_at (P : FVec Ideal Cert.ReferenceIdeal.S10x8192x7184 .f32) (b : Fin 10) (s : Fin 8192) (j : Fin 16) :
    (ref26 P (ix3 b s j) : EReal) = P (ix3 b s ⟨2048 + j.val, by omega⟩) := by pointwise [ref26]
theorem ref27_at (P : FVec Ideal Cert.ReferenceIdeal.S10x8192x7184 .f32) (b : Fin 10) (s : Fin 8192) (j : Fin 512) :
    (ref27 P (ix3 b s j) : EReal) = P (ix3 b s ⟨2064 + j.val, by omega⟩) := by pointwise [ref27]
theorem ref28_at (P : FVec Ideal Cert.ReferenceIdeal.S10x8192x7184 .f32) (b : Fin 10) (s : Fin 8192) (j : Fin 3072) :
    (ref28 P (ix3 b s j) : EReal) = P (ix3 b s ⟨4112 + j.val, by omega⟩) := by pointwise [ref28]

section
variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))
variable (hx : argX V0 = kX m c) (hw : argW V0 = kW m c)
include hx hw

/-- The packed projection and the reference's, at one column. -/
theorem proj_eq (b : Fin 10) (s : Fin 8192) (n : Fin 7296) (k : Fin 7184) (hn : n.val < 7184) (h : packCol n.val = k.val) :
    (kP m c (ix3 b s n) : EReal) = projT V0 (ix3 b s k) := by
  rw [kP_apply m c b s n hn, proj_apply, hx, hw]
  have : (⟨packCol n.val, packCol_lt hn⟩ : Fin 7184) = k := Fin.ext h
  rw [this]

theorem eq25 : cols25 (kP m c) = ref25 (projT V0) := funext fun y => by
  obtain ⟨b, s, j, rfl⟩ : ∃ (b : Fin 10) (s : Fin 8192) (j : Fin 2048), y = ix3 b s j := ⟨_, _, _, eq_ix3 y⟩
  exact (cols25_at _ b s j).trans ((proj_eq m c V0 hx hw b s _ _ (by show 0 + j.val < 7184; omega) (pack25 j)).trans (ref25_at _ b s j).symm)
theorem eq26 : cols26 (kP m c) = ref26 (projT V0) := funext fun y => by
  obtain ⟨b, s, j, rfl⟩ : ∃ (b : Fin 10) (s : Fin 8192) (j : Fin 16), y = ix3 b s j := ⟨_, _, _, eq_ix3 y⟩
  exact (cols26_at _ b s j).trans ((proj_eq m c V0 hx hw b s _ _ (by show 7168 + j.val < 7184; omega) (pack26 j)).trans (ref26_at _ b s j).symm)
theorem eq27 : cols27 (kP m c) = ref27 (projT V0) := funext fun y => by
  obtain ⟨b, s, j, rfl⟩ : ∃ (b : Fin 10) (s : Fin 8192) (j : Fin 512), y = ix3 b s j := ⟨_, _, _, eq_ix3 y⟩
  exact (cols27_at _ b s j).trans ((proj_eq m c V0 hx hw b s _ _ (by show 2048 + j.val < 7184; omega) (pack27 j)).trans (ref27_at _ b s j).symm)
theorem eq28 : cols28 (kP m c) = ref28 (projT V0) := funext fun y => by
  obtain ⟨b, s, j, rfl⟩ : ∃ (b : Fin 10) (s : Fin 8192) (j : Fin 3072), y = ix3 b s j := ⟨_, _, _, eq_ix3 y⟩
  exact (cols28_at _ b s j).trans ((proj_eq m c V0 hx hw b s _ _ (by show 4096 + j.val < 7184; omega) (pack28 j)).trans (ref28_at _ b s j).symm)

/-- The attention branch over real inputs. -/
theorem eq53 {R : Fin 10 → Fin 8192 → ℕ → ℝ} {L : ℝ}
    (hR : ∀ b s n (h : n < 7184), ∑ k : Fin 1024, (kX m c (ix3 b s k) : EReal) * kW m c (ix2 k ⟨n, h⟩) = R b s n)
    (hL : lamOf (fun x => k2 m c (ix1 x)) (fun x => k3 m c (ix1 x)) (fun x => k4 m c (ix1 x)) (fun x => k5 m c (ix1 x)) = L)
    (h2 : arg2T V0 = k2 m c) (h3 : arg3T V0 = k3 m c) (h4 : arg4T V0 = k4 m c) (h5 : arg5T V0 = k5 m c) :
    attnArr (qaR R) (qbR R) (kkR R) (vvR R) L (shapeCast S1x128 (k6 m c) Cert.KernelIdeal.Gen.shapeCasts_S128_S1x128) = normT (oT V0) (k6 m c) :=
  funext fun y => by
    obtain ⟨b, s, j, rfl⟩ : ∃ (b : Fin 10) (s : Fin 8192) (j : Fin 512), y = ix3 b s j := ⟨_, _, _, eq_ix3 y⟩
    have hl : j = lane ⟨j.val / 128, by omega⟩ ⟨j.val % 128, by omega⟩ :=
      Fin.ext (by show j.val = j.val / 128 * 128 + j.val % 128; omega)
    have hP : ∀ b s n (h : n < 7184), (projT V0 (ix3 b s ⟨n, h⟩) : EReal) = R b s n := fun b s n h => by
      rw [proj_apply, hx, hw]
      exact hR b s n h
    refine Eq.trans (congrArg (fun j => attnArr (qaR R) (qbR R) (kkR R) (vvR R) L
      (shapeCast S1x128 (k6 m c) Cert.KernelIdeal.Gen.shapeCasts_S128_S1x128) (ix3 b s j)) hl) ?_
    refine (W6_v53_apply m c b s _ _).trans ?_
    exact (branch_real (V0 := V0) (k6 m c) hP (by rw [h2, h3, h4, h5]; exact hL) b s j).symm

end

/-- Over real inputs the projection is real. -/
theorem proj_reals (x : FVec Ideal S10x8192x1024 .f32) (w : FVec Ideal S1024x7184 .f32) (hx : ∀ i, ∃ r : ℝ, (x i : EReal) = r)
    (hw : ∀ i, ∃ r : ℝ, (w i : EReal) = r) :
    ∃ R : Fin 10 → Fin 8192 → ℕ → ℝ, ∀ b s n (h : n < 7184), ∑ k : Fin 1024, (x (ix3 b s k) : EReal) * w (ix2 k ⟨n, h⟩) = R b s n := by
  choose f hf using hx
  choose g hg using hw
  refine ⟨fun b s n => if h : n < 7184 then ∑ k : Fin 1024, f (ix3 b s k) * g (ix2 k ⟨n, h⟩) else 0, fun b s n h => ?_⟩
  dsimp only
  rw [dif_pos h]
  exact coe_dot _ _ _ _ (fun _ => hf _) (fun _ => hg _)

theorem init_real : ∃ r : ℝ, Ideal.ofBits .f32 0x3E4CCCCD#32 = r :=
  ⟨_, by norm_num [Ideal.ofBits, Ideal.ieee, Nat.shiftRight_eq_div_pow, BitVec.extractLsb', BitVec.ofNat_eq_ofNat]; rfl⟩

/-- Over real vectors the mixing weight is real. -/
theorem lam_real (a b c d : FVec Ideal S64 .f32) (ha : ∀ i, ∃ r : ℝ, (a i : EReal) = r) (hb : ∀ i, ∃ r : ℝ, (b i : EReal) = r)
    (hc : ∀ i, ∃ r : ℝ, (c i : EReal) = r) (hd : ∀ i, ∃ r : ℝ, (d i : EReal) = r) :
    ∃ L : ℝ, lamOf (fun x => a (ix1 x)) (fun x => b (ix1 x)) (fun x => c (ix1 x)) (fun x => d (ix1 x)) = L := by
  choose fa ha using ha
  choose fb hb using hb
  choose fc hc using hc
  choose fd hd using hd
  obtain ⟨r, hr⟩ := init_real
  refine ⟨Real.exp (∑ x : Fin 64, fa (ix1 x) * fb (ix1 x)) - Real.exp (∑ x : Fin 64, fc (ix1 x) * fd (ix1 x)) + r, ?_⟩
  unfold lamOf
  rw [coe_dot _ _ (fun x => fa (ix1 x)) (fun x => fb (ix1 x)) (fun _ => ha _) (fun _ => hb _),
    coe_dot _ _ (fun x => fc (ix1 x)) (fun x => fd (ix1 x)) (fun _ => hc _) (fun _ => hd _), hr, Ideal.exp_coe, Ideal.exp_coe,
    EReal.coe_add, EReal.coe_sub]

end Cert.Proof.Equation

end
-- ==== Proof.Algebraic.lean ====
/- The claims with the precondition: the two runs, and the equation of the results. -/
module

public import proofs.«01_k».proof.Proof.Frames
public import proofs.«01_k».proof.Proof.Finite
public import proofs.«01_k».proof.Proof.Equation

@[expose] public section

set_option maxRecDepth 16384

noncomputable section

namespace Cert.Proof

open Idealize.ShloMosaic Idealize.SL.Sem
open Cert.Proof.Equation
open Cert.KernelIdeal.Val (cols25 cols26 cols27 cols28 kX kW k2 k3 k4 k5 k6 kP W6_v25 W6_v26 W6_v27 W6_v28 W6_v53)
open Cert.ReferenceIdeal.Val (argX argW arg2T arg3T arg4T arg5T projT normT oT)

/-- The idealized kernel's run, where the inputs are finite. -/
theorem frame_kernelIdeal_finite : Cert.quiescent_KernelIdeal_pre_finite := fun m ρ _ => Cert.KernelIdeal.Run.frame_all m ρ

/-- The reference's run, where the inputs are finite. -/
theorem frame_referenceIdeal_finite : Cert.quiescent_ReferenceIdeal_pre_finite := fun m ρ _ => frame_referenceIdeal m ρ trivial

section
variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)

/-- Over finite inputs the kernel's branch is the reference's. -/
theorem branch_eq (V0 : Valuation Cert.ReferenceIdeal.τ Cert.ReferenceIdeal.sig (Elt Ideal)) (hpre : Cert.Pre_KernelIdeal_finite m)
    (hx : argX V0 = kX m c) (hw : argW V0 = kW m c)
    (h2 : arg2T V0 = k2 m c) (h3 : arg3T V0 = k3 m c) (h4 : arg4T V0 = k4 m c) (h5 : arg5T V0 = k5 m c) :
    Cert.KernelIdeal.Run.W6 m ρ c (Proc.devRef .tc Cert.KernelIdeal.main_v53) = normT (oT V0) (k6 m c) := by
  obtain ⟨rx, rw', ra, rb, rc, rd⟩ := Finite.reals (kX m c) (kW m c) (k2 m c) (k3 m c) (k4 m c) (k5 m c) (k6 m c) (hpre c)
  obtain ⟨R, hR⟩ := proj_reals _ _ rx rw'
  obtain ⟨L, hL⟩ := lam_real _ _ _ _ ra rb rc rd
  exact (W6_v53 m ρ c hR hL).trans (eq53 m c V0 hx hw hR hL h2 h3 h4 h5)

end

/-- The results of the two programs are equal. -/
theorem algebraic_kernel : Cert.algebraic_KernelIdeal_ReferenceIdeal_pre_finite := fun m g m' g' hpre hargs => by
  refine ⟨fun c => Cert.KernelIdeal.Run.W6 m g c (Proc.devRef .tc Cert.KernelIdeal.main_v53),
    fun c => Cert.KernelIdeal.Run.W6 m g c (Proc.devRef .tc Cert.KernelIdeal.main_v25),
    fun c => Cert.KernelIdeal.Run.W6 m g c (Proc.devRef .tc Cert.KernelIdeal.main_v26),
    fun c => Cert.KernelIdeal.Run.W6 m g c (Proc.devRef .tc Cert.KernelIdeal.main_v27),
    fun c => Cert.KernelIdeal.Run.W6 m g c (Proc.devRef .tc Cert.KernelIdeal.main_v28), ?_, ?_⟩
  · exact (θ_run Cert.KernelIdeal.defs _ _).mono (fun _ h c =>
      ⟨h.1 c _ (Cert.KernelIdeal.Run.mem_uc _ (by decide)), h.1 c _ (Cert.KernelIdeal.Run.mem_uc _ (by decide)),
        h.1 c _ (Cert.KernelIdeal.Run.mem_uc _ (by decide)), h.1 c _ (Cert.KernelIdeal.Run.mem_uc _ (by decide)),
        h.1 c _ (Cert.KernelIdeal.Run.mem_uc _ (by decide)),
        (h.1 c _ (Cert.KernelIdeal.Run.mem_uc _ (by decide))).trans (Cert.KernelIdeal.Run.W6_main_arg0 m g c),
        (h.1 c _ (Cert.KernelIdeal.Run.mem_uc _ (by decide))).trans (Cert.KernelIdeal.Run.W6_main_arg1 m g c),
        (h.1 c _ (Cert.KernelIdeal.Run.mem_uc _ (by decide))).trans (Cert.KernelIdeal.Run.W6_main_arg2 m g c),
        (h.1 c _ (Cert.KernelIdeal.Run.mem_uc _ (by decide))).trans (Cert.KernelIdeal.Run.W6_main_arg3 m g c),
        (h.1 c _ (Cert.KernelIdeal.Run.mem_uc _ (by decide))).trans (Cert.KernelIdeal.Run.W6_main_arg4 m g c),
        (h.1 c _ (Cert.KernelIdeal.Run.mem_uc _ (by decide))).trans (Cert.KernelIdeal.Run.W6_main_arg5 m g c),
        (h.1 c _ (Cert.KernelIdeal.Run.mem_uc _ (by decide))).trans (Cert.KernelIdeal.Run.W6_main_arg6 m g c)⟩)
      (Cert.KernelIdeal.Run.run_all m g)
  · refine (θ_run Cert.ReferenceIdeal.defs _ _).mono (fun r h c => ?_) (Cert.ReferenceIdeal.Value.run (F := Ideal) m' g')
    obtain ⟨a0, a1, a2, a3, a4, a5, a6⟩ := hargs c
    obtain ⟨r0, r1, r2, r3, r4, hrest⟩ := h c
    have hx : argX (StableHlo.launchContents m' c) = kX m c := a0
    have hw : argW (StableHlo.launchContents m' c) = kW m c := a1
    have e0 : r.2.mem ((c.tc : Thread Cert.ReferenceIdeal.nD Cert.ReferenceIdeal.τ).loc Cert.ReferenceIdeal.main_v185)
        = normT (oT (StableHlo.launchContents m' c)) (k6 m c) :=
      r0.trans (congrArg (normT (oT (StableHlo.launchContents m' c))) a6)
    refine ⟨e0.trans (branch_eq m g c (StableHlo.launchContents m' c) hpre hx hw a2 a3 a4 a5).symm, ?_, ?_, ?_, ?_, hrest⟩
    · exact (r1.trans (eq25 m c _ hx hw).symm).trans (W6_v25 m g c).symm
    · exact (r2.trans (eq26 m c _ hx hw).symm).trans (W6_v26 m g c).symm
    · exact (r3.trans (eq27 m c _ hx hw).symm).trans (W6_v27 m g c).symm
    · exact (r4.trans (eq28 m c _ hx hw).symm).trans (W6_v28 m g c).symm

end Cert.Proof

end
-- ==== Proof.Expert.Body.lean ====
/- The experts' call: what one point of its grid leaves, on any whole staging buffers. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S512x1024 := Rect.unit (s := S512x1024) ![0, 0] S512x1024.size inb_S512x1024_S512x1024_0_0
abbrev rW : Rect S1x1024x1024 := Rect.unit (s := S1x1024x1024) ![0, 0, 0] S1x1024x1024.size inb_S1x1024x1024_S1x1024x1024_0_0_0
abbrev rB : Rect S1x1x1024 := Rect.unit (s := S1x1x1024) ![0, 0, 0] S1x1x1024.size inb_S1x1x1024_S1x1x1024_0_0_0
abbrev rD : Rect S1x1x1024x1024 := Rect.unit (s := S1x1x1024x1024) ![0, 0, 0, 0] S1x1x1024x1024.size inb_S1x1x1024x1024_S1x1x1024x1024_0_0_0_0
abbrev rS : Rect S1024x1024 := Rect.unit (s := S1024x1024) ![0, 0] S1024x1024.size inb_S1024x1024_S1024x1024_0_0

/-- The block table's word at the grid's point, and at the point before it; whether the weight is fetched anew. -/
abbrev word1 (i : grid0.Coords) (T : S352.Idx → Elt F .i32) : Elt F .i32 :=
  T ((Rect.unit (s := S352) (k0_off1 i) S1.size (k0_off1_inb i)).point numel1_S1)
abbrev word2 (i : grid0.Coords) (T : S352.Idx → Elt F .i32) : Elt F .i32 :=
  T ((Rect.unit (s := S352) (k0_off2 i) S1.size (k0_off2_inb i)).point numel1_S1)
def anew (i : grid0.Coords) (T : S352.Idx → Elt F .i32) : BitVec 1 :=
  Scalar.cmpi .ne (Scalar.extui (Scalar.ori (Scalar.cmpi .eq (BitVec.ofNat 32 (i 0).val) 0#32) (Scalar.cmpi .ne (word1 i T) (word2 i T))) : BitVec 32) 0#32

theorem cover_S (p0 : Vec F S1024x1024 .bf16) (y : S1024x1024.Idx) :
    ∃ pc ∈ ([⟨rS, p0⟩] : List (View.Piece (Elt F) S1024x1024 .bf16)), y ∈ pc.1.set :=
  View.cover_of_tiled [⟨rS, p0⟩] S1024x1024.size (by rfl) y
theorem cover_X (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-- The down weight as the scratch holds it. -/
def scr (x5 : Vec F S1x1x1024x1024 .f32) : Vec F S1024x1024 .bf16 :=
  View.canon [⟨rS, k0_pay1 (View.ld x5 rD)⟩]

/-- The output tile of a block that is on, from the scratch `s`. -/
def outOn (x0 : Vec F S512x1024 .bf16) (x1 x2 : Vec F S1x1024x1024 .bf16) (x3 x4 : Vec F S1x1x1024 .f32) (s : Vec F S1024x1024 .bf16)
    (x6 : Vec F S1x1x1024 .f32) : Vec F S512x1024 .bf16 :=
  View.canon [⟨rX, k0_pay2 (k0_pay4 (View.ld x0 rX) (View.ld x1 rW) (View.ld x3 rB) (View.ld x2 rW) (View.ld x4 rB)) (View.ld s rS) (View.ld x6 rB)⟩]
/-- The output tile of a block that is off. -/
def outOff : Vec F S512x1024 .bf16 := View.canon [⟨rX, k0_pay3 (F := F)⟩]

/-- The output tile. -/
def out (o : Elt F .i32) (x0 : Vec F S512x1024 .bf16) (x1 x2 : Vec F S1x1024x1024 .bf16) (x3 x4 : Vec F S1x1x1024 .f32)
    (x5 : Vec F S1x1x1024x1024 .f32) (x6 : Vec F S1x1x1024 .f32) : Vec F S512x1024 .bf16 :=
  if k0_cond2 o = 1#1 then outOn x0 x1 x2 x3 x4 (scr x5) x6 else outOff

theorem cmp_one (o : BitVec 32) (h : o ≠ 0#32) : Scalar.cmpi .ne o 0#32 = 1#1 := by
  have e : (o != 0#32) = true := by simpa using h
  exact congrArg BitVec.ofBool e
theorem cond_on (o : BitVec 32) : k0_cond2 o = 1#1 ↔ o ≠ 0#32 := by
  by_cases h : o = 0#32
  · subst h; decide +kernel
  · exact iff_of_true ((congrArg (fun x : BitVec 1 => Scalar.cmpi .ne (Scalar.extui x : BitVec 32) 0#32) (cmp_one o h)).trans (by decide)) h
theorem cond_off (o : BitVec 32) : k0_cond3 o = 1#1 ↔ ¬ k0_cond2 o = 1#1 := by
  by_cases h : o = 0#32
  · subst h; decide +kernel
  · exact iff_of_false (fun e => absurd (((congrArg (fun x : BitVec 1 => Scalar.cmpi .ne (Scalar.extui (Scalar.xori x 1#1) : BitVec 32) 0#32) (cmp_one o h)).symm.trans e)) (by decide))
      (fun e => e ((cond_on o).2 h))

set_option maxHeartbeats 4000000 in
/-- The experts' body on any whole staging buffers: the inputs and the tables stay, the scratch ends at the point's down
    weight, the output at `out`. -/
theorem sound_kernel (c : Dev nD) (E : Set ℕ) (i : grid0.Coords) (q : PosShare TreeShare) (arg1 : Memref sig .tc .smem S352 .i32) (harg1 : arg1.IsWhole) (arg2 : Memref sig .tc .smem S352 .i32) (harg2 : arg2.IsWhole) (T0 T1 : S352.Idx → Elt F .i32) (arg3 : Memref sig .tc .vmem S512x1024 .bf16) (harg3 : arg3.IsWhole) (arg4 : Memref sig .tc .vmem S1x1024x1024 .bf16) (harg4 : arg4.IsWhole) (arg5 : Memref sig .tc .vmem S1x1024x1024 .bf16) (harg5 : arg5.IsWhole)
    (arg6 : Memref sig .tc .vmem S1x1x1024 .f32) (harg6 : arg6.IsWhole) (arg7 : Memref sig .tc .vmem S1x1x1024 .f32) (harg7 : arg7.IsWhole) (arg8 : Memref sig .tc .vmem S1x1x1024x1024 .f32) (harg8 : arg8.IsWhole) (arg9 : Memref sig .tc .vmem S1x1x1024 .f32) (harg9 : arg9.IsWhole)
    (arg10 : Memref sig .tc .vmem S512x1024 .bf16) (harg10 : arg10.IsWhole) (arg11 : Memref sig .tc .vmem S1024x1024 .bf16) (harg11 : arg11.IsWhole)
    (x0 : Vec F S512x1024 .bf16) (x1 x2 : Vec F S1x1024x1024 .bf16) (x3 x4 : Vec F S1x1x1024 .f32) (x5 : Vec F S1x1x1024x1024 .f32) (x6 : Vec F S1x1x1024 .f32)
    (s : Vec F S1024x1024 .bf16) (hs : ¬ anew i T0 = 1#1 → s = scr x5) (K : PUnit → sProp 𝕄) :
    iprop(owns (c : Thread nD τ) arg1 q T0 ∗ owns (c : Thread nD τ) arg2 q T1
        ∗ owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ (∃ d, owns (c : Thread nD τ) arg10 fullShare d) ∗ owns (c : Thread nD τ) arg11 fullShare s
        ∗ (iprop(owns (c : Thread nD τ) arg1 q T0 ∗ owns (c : Thread nD τ) arg2 q T1
        ∗ owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare (out (word1 i T1) x0 x1 x2 x3 x4 x5 x6) ∗ owns (c : Thread nD τ) arg11 fullShare (scr x5)) -∗ K ⟨⟩))
      ⊢ wp frame (wpE (defs₀ (F := F)) Variants.none c none) E (cc0_moe_experts i arg1 harg1 arg2 harg2 arg3 harg3 arg4 harg4 arg5 harg5 arg6 harg6 arg7 harg7 arg8 harg8 arg9 harg9 arg10 harg10 arg11 harg11) K := by
  simp only [cc0_moe_experts_eq_skeleton]; unfold cc0_moe_experts_skel
  unfold owns
  iintro ⟨⟨%t0, %ht0, HT0⟩, ⟨%t1, %ht1, HT1⟩, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst ht0 ht1 hf0 hf1 hf2 hf3 hf4 hf5 hf6 hfs
  sl_exec
  sl_step
  iapply Hk
  isplitl [HT0]
  · iexists t0; isplitr; · ipureintro; rfl
    iexact HT0
  isplitl [HT1]
  · iexists t1; isplitr; · ipureintro; rfl
    iexact HT1
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  have hS : ∀ g, (g = if hc : anew i (View.read (Elt F) arg1.view t0) = 1#1 then arg11.view.writes (Elt F) fs
        [⟨rS, k0_pay1 (View.ld (View.read (Elt F) arg8.view f5) rD)⟩] else fs) → View.read (Elt F) arg11.view g = scr (View.read (Elt F) arg8.view f5) := by
    rintro g rfl
    by_cases hc : anew i (View.read (Elt F) arg1.view t0) = 1#1
    · rw [dif_pos hc]; exact View.read_writes_eq_canon _ _ _ (cover_S _)
    · rw [dif_neg hc]; exact hs hc
  isplitl [H7]
  · iexists _; isplitr
    swap; · iexact H7
    ipureintro
    by_cases h2 : k0_cond2 (word1 i (View.read (Elt F) arg2.view t1)) = 1#1
    · have h3 : ¬ k0_cond3 (word1 i (View.read (Elt F) arg2.view t1)) = 1#1 := fun h => (cond_off _).1 h h2
      rw [out, if_pos h2]
      refine (congrArg (View.read (Elt F) arg10.view) ((dif_neg h3).trans (dif_pos h2))).trans ?_
      refine (View.read_writes_eq_canon _ _ _ (cover_X _)).trans ?_
      exact congrArg (fun s => outOn (View.read (Elt F) arg3.view f0) (View.read (Elt F) arg4.view f1) (View.read (Elt F) arg5.view f2)
        (View.read (Elt F) arg6.view f3) (View.read (Elt F) arg7.view f4) s (View.read (Elt F) arg9.view f6)) (hS _ rfl)
    · have h3 : k0_cond3 (word1 i (View.read (Elt F) arg2.view t1)) = 1#1 := (cond_off _).2 h2
      rw [out, if_neg h2]
      refine (congrArg (View.read (Elt F) arg10.view) (dif_pos h3)).trans ?_
      exact View.read_writes_eq_canon _ _ _ (cover_X _)
  iexists _; isplitr
  swap; · iexact HS
  ipureintro; exact hS _ rfl

end Cert.Kernel2Ideal.Run

end
-- ==== Proof.Expert.Run.lean ====
/- The experts' call run over its whole grid: every argument array ends as it was, the output array holds each tile of
   rows at the value its point computes. Over any kind of float. -/
module

public import proofs.«01_k».proof.Proof.Expert.Body

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The words the tables hold -/

theorem or_one : ∀ a b : BitVec 1, Scalar.cmpi .ne (Scalar.extui (Scalar.ori a b) : BitVec 32) 0#32 = 1#1 ↔ a = 1#1 ∨ b = 1#1 := by
  decide +kernel
theorem at_zero : ∀ t : Fin grid0.N, t.val = 0 → Scalar.cmpi .eq (BitVec.ofNat 32 (grid0.coords t 0).val) 0#32 = 1#1 := by decide +kernel
theorem off_before : ∀ (t : Fin grid0.N) (h : t.val ≠ 0), k0_off2 (grid0.coords t) = k0_off1 (grid0.coords ⟨t.val - 1, by omega⟩) := by
  decide +kernel

/-- A table's word by its offset. -/
theorem word_congr (T : S352.Idx → Elt F .i32) (o o' : Fin 1 → Nat) (h h') (e : o = o') :
    T ((Rect.unit (s := S352) o S1.size h).point numel1_S1) = T ((Rect.unit (s := S352) o' S1.size h').point numel1_S1) := by
  subst e; rfl

theorem cmp_ne_one (x y : BitVec 32) : Scalar.cmpi .ne x y = 1#1 ↔ x ≠ y := by
  constructor
  · rintro h rfl; revert h; simp [Scalar.cmpi, IntOp.cmpi]
  · intro h; have e : (x != y) = true := by simpa using h
    exact congrArg BitVec.ofBool e

/-- Where the weight is not fetched anew the point is not the first and its table word is the one before. -/
theorem same_word (t : Fin grid0.N) (T : S352.Idx → Elt F .i32) (h : ¬ anew (grid0.coords t) T = 1#1) :
    ∃ h0 : t.val ≠ 0, word1 (grid0.coords t) T = word1 (grid0.coords ⟨t.val - 1, by omega⟩) T := by
  unfold anew at h
  rw [or_one] at h
  push Not at h
  have h0 : t.val ≠ 0 := fun e => h.1 (at_zero t e)
  refine ⟨h0, ?_⟩
  by_contra hne
  refine h.2 ((cmp_ne_one _ _).2 ?_)
  intro e
  exact hne (e.trans (word_congr T _ _ _ _ (off_before t h0)))

/-! ## The proof data -/

variable (V : (c : Dev nD) → (b : Ref sig .tc) → Buf (Elt F) ((c : Thread nD τ).loc b)) (a : (pcfg0 (F := F)).Adm)

/-- The two tables. -/
abbrev T0 : S352.Idx → Elt F .i32 := a.1 0
abbrev T1 : S352.Idx → Elt F .i32 := a.1 1

/-- Window `w`'s block at point `t`, read off the array the call finds. -/
def iblk (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- What the body leaves of the output at point `t`. -/
def tileOut (c : Dev nD) (t : Fin (cfg0 a).N) : Vec F S512x1024 .bf16 :=
  out (word1 (grid0.coords t) (T1 a)) (iblk V a c 0 t) (iblk V a c 1 t) (iblk V a c 2 t) (iblk V a c 3 t) (iblk V a c 4 t) (iblk V a c 5 t) (iblk V a c 6 t)

/-- What the scratch holds before point `k`: after the first, the point before's down weight. -/
def ScrAt (c : Dev nD) (k : Fin ((cfg0 a).N + 1)) (s : Vec F S1024x1024 .bf16) : Prop :=
  ∀ h : k.val ≠ 0, s = scr (iblk V a c 5 ⟨k.val - 1, by omega⟩)

def inv (c : Dev nD) (k : Fin ((cfg0 a).N + 1)) : sProp 𝕄 :=
  iprop(∃ s, ⌜ScrAt V a c k s⌝ ∗ owns (c : Thread nD τ) (Memref.whole cc0_scratch0) fullShare s ∗ (∃ r, prngReg c r)
    ∗ owns (c : Thread nD τ) (Memref.whole main_arg1) fullShare.right (T0 a) ∗ owns (c : Thread nD τ) (Memref.whole main_arg2) fullShare.right (T1 a))

/-- What the experts' pipeline holds. -/
def dat (c : Dev nD) : Dat τ (Elt F) Unit ℕ (UR sig nD τ) ℕ (cfg0 a) c where
  A w := V c (Pipeline.arrRef spec0 w)
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => iblk V a c 5 t
    | ⟨6, _⟩ => iblk V a c 6 t
    | ⟨7, _⟩ => tileOut V a c t
  Φ k := inv V a c k
  q _ := fullShare
  owed _ := 0

theorem A_eq (c : Dev nD) (w : Fin (cfg0 a).W) : (dat V a c).A w = V c (Pipeline.arrRef spec0 w) := by
  dsimp only [dat]

theorem after_0 (c : Dev nD) (t : Fin (cfg0 a).N) : (dat V a c).after 0 t = iblk V a c 0 t := rfl
theorem after_1 (c : Dev nD) (t : Fin (cfg0 a).N) : (dat V a c).after 1 t = iblk V a c 1 t := rfl
theorem after_2 (c : Dev nD) (t : Fin (cfg0 a).N) : (dat V a c).after 2 t = iblk V a c 2 t := rfl
theorem after_3 (c : Dev nD) (t : Fin (cfg0 a).N) : (dat V a c).after 3 t = iblk V a c 3 t := rfl
theorem after_4 (c : Dev nD) (t : Fin (cfg0 a).N) : (dat V a c).after 4 t = iblk V a c 4 t := rfl
theorem after_5 (c : Dev nD) (t : Fin (cfg0 a).N) : (dat V a c).after 5 t = iblk V a c 5 t := rfl
theorem after_6 (c : Dev nD) (t : Fin (cfg0 a).N) : (dat V a c).after 6 t = iblk V a c 6 t := rfl
theorem after_7 (c : Dev nD) (t : Fin (cfg0 a).N) : (dat V a c).after 7 t = tileOut V a c t := rfl

theorem before_0 (c : Dev nD) (t : Fin (cfg0 a).N) (d) : (dat V a c).before 0 t d = iblk V a c 0 t :=
  ((dat V a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg0 a).N) (d) : (dat V a c).before 1 t d = iblk V a c 1 t :=
  ((dat V a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg0 a).N) (d) : (dat V a c).before 2 t d = iblk V a c 2 t :=
  ((dat V a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg0 a).N) (d) : (dat V a c).before 3 t d = iblk V a c 3 t :=
  ((dat V a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg0 a).N) (d) : (dat V a c).before 4 t d = iblk V a c 4 t :=
  ((dat V a c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfg0 a).N) (d) : (dat V a c).before 5 t d = iblk V a c 5 t :=
  ((dat V a c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfg0 a).N) (d) : (dat V a c).before 6 t d = iblk V a c 6 t :=
  ((dat V a c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- Two points of one expert have one down weight. -/
theorem iblk5_congr (c : Dev nD) (t t' : Fin (cfg0 a).N) (h : word1 (grid0.coords t) (T0 a) = word1 (grid0.coords t') (T0 a)) :
    iblk V a c 5 t = iblk V a c 5 t' := by
  have hix : ((cfg0 a).win 5).index t = ((cfg0 a).win 5).index t' :=
    congrArg (fun v : BitVec 32 => (![0, v.toNat, 0, 0] : Fin 4 → Nat)) h
  have e : ∀ d t, (dat V a c).fetched 5 t d = iblk V a c 5 t := fun d t => by
    unfold Dat.fetched Dat.blockOf iblk; rw [A_eq]; try rfl
  exact ((e (iblk V a c 5 t) t).symm.trans ((dat V a c).fetched_congr 5 hix rfl _)).trans (e _ t')

theorem scr_at (c : Dev nD) (t : Fin (cfg0 a).N) (s : Vec F S1024x1024 .bf16) (hs : ScrAt V a c t.castSucc s)
    (h : ¬ anew (grid0.coords t) (T0 a) = 1#1) : s = scr (iblk V a c 5 t) := by
  obtain ⟨h0, e⟩ := same_word t (T0 a) h
  exact (hs h0).trans (congrArg scr (iblk5_congr V a c _ _ e.symm))

abbrev st_0 (t : Fin (cfg0 a).N) := ((cfg0 a).win 0).stage ((cfg0 a).slots t 0)
abbrev st_1 (t : Fin (cfg0 a).N) := ((cfg0 a).win 1).stage ((cfg0 a).slots t 1)
abbrev st_2 (t : Fin (cfg0 a).N) := ((cfg0 a).win 2).stage ((cfg0 a).slots t 2)
abbrev st_3 (t : Fin (cfg0 a).N) := ((cfg0 a).win 3).stage ((cfg0 a).slots t 3)
abbrev st_4 (t : Fin (cfg0 a).N) := ((cfg0 a).win 4).stage ((cfg0 a).slots t 4)
abbrev st_5 (t : Fin (cfg0 a).N) := ((cfg0 a).win 5).stage ((cfg0 a).slots t 5)
abbrev st_6 (t : Fin (cfg0 a).N) := ((cfg0 a).win 6).stage ((cfg0 a).slots t 6)
abbrev st_7 (t : Fin (cfg0 a).N) := ((cfg0 a).win 7).stage ((cfg0 a).slots t 7)

/-- The body at point `t`. -/
abbrev bodyAt (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

def bodyPre (c : Dev nD) (t : Fin (cfg0 a).N) : sProp 𝕄 :=
  iprop((dat V a c).Φ t.castSucc ∗ (dat V a c).owesAt () t.castSucc
    ∗ (∃ d, owns (c : Thread nD τ) (st_0 a t) fullShare ((dat V a c).before 0 t d))
    ∗ (∃ d, owns (c : Thread nD τ) (st_1 a t) fullShare ((dat V a c).before 1 t d))
    ∗ (∃ d, owns (c : Thread nD τ) (st_2 a t) fullShare ((dat V a c).before 2 t d))
    ∗ (∃ d, owns (c : Thread nD τ) (st_3 a t) fullShare ((dat V a c).before 3 t d))
    ∗ (∃ d, owns (c : Thread nD τ) (st_4 a t) fullShare ((dat V a c).before 4 t d))
    ∗ (∃ d, owns (c : Thread nD τ) (st_5 a t) fullShare ((dat V a c).before 5 t d))
    ∗ (∃ d, owns (c : Thread nD τ) (st_6 a t) fullShare ((dat V a c).before 6 t d))
    ∗ (∃ d, owns (c : Thread nD τ) (st_7 a t) fullShare ((dat V a c).before 7 t d)))

def bodyPost (c : Dev nD) (t : Fin (cfg0 a).N) : sProp 𝕄 :=
  iprop((dat V a c).Φ t.succ ∗ (dat V a c).owesAt () t.succ
    ∗ owns (c : Thread nD τ) (st_0 a t) fullShare ((dat V a c).after 0 t)
    ∗ owns (c : Thread nD τ) (st_1 a t) fullShare ((dat V a c).after 1 t)
    ∗ owns (c : Thread nD τ) (st_2 a t) fullShare ((dat V a c).after 2 t)
    ∗ owns (c : Thread nD τ) (st_3 a t) fullShare ((dat V a c).after 3 t)
    ∗ owns (c : Thread nD τ) (st_4 a t) fullShare ((dat V a c).after 4 t)
    ∗ owns (c : Thread nD τ) (st_5 a t) fullShare ((dat V a c).after 5 t)
    ∗ owns (c : Thread nD τ) (st_6 a t) fullShare ((dat V a c).after 6 t)
    ∗ owns (c : Thread nD τ) (st_7 a t) fullShare ((dat V a c).after 7 t))

theorem sound_body (c : Dev nD) (t : Fin (cfg0 a).N) :
    bodyPre V a c t ⊢ wp frame (wpE (defs₀ (F := F)) Variants.none c none) Set.univ (bodyAt a t) (fun _ => bodyPost V a c t) := by
  unfold bodyPre bodyPost bodyAt
  simp only [before_0, before_1, before_2, before_3, before_4, before_5, before_6]
  rw [show (dat V a c).Φ t.succ = inv V a c t.succ from rfl, show (dat V a c).Φ t.castSucc = inv V a c t.castSucc from rfl,
    show (dat V a c).owesAt () t.succ = (dat V a c).owesAt () t.castSucc from rfl,
    after_0, after_1, after_2, after_3, after_4, after_5, after_6, after_7]
  unfold inv
  iintro ⟨⟨%s, %hs, HS, Hg, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) fullShare.right _ _ _ _ (T0 a) (T1 a) _ _ _ _ _ _ _ _ _ _ _ _ _ _ _ _ _ _ (iblk V a c 0 t) (iblk V a c 1 t) (iblk V a c 2 t) (iblk V a c 3 t) (iblk V a c 4 t) (iblk V a c 5 t) (iblk V a c 6 t) s (scr_at V a c t s hs) _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨HT0, HT1, H0, H1, H2, H3, H4, H5, H6, H7, HS⟩
  isplitl [HS Hg HT0 HT1]
  · iexists (scr (iblk V a c 5 t)); isplitr
    · ipureintro; intro _; rfl
    isplitl [HS]; · iexact HS
    isplitl [Hg]; · iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfg0 a).N) :
    defs₀ (F := F) .tc (cfg0 a).body ((cfg0 a).bodyArgs t ((cfg0 a).slots t)) = bodyAt a t := by
  unfold defs₀; rw [Defs.onTc_tc]

/-- Every point stores the output: one of the two conditions holds. -/
theorem live7 (t : Fin (cfg0 a).N) : (cfg0 a).idle 7 ((cfg0 a).grid.coords t) = false := by
  show (!(k0_cond2 (a.1.atD 1 (k0_off1 (grid0.coords t))) == 1#1) && !(k0_cond3 (a.1.atD 1 (k0_off1 (grid0.coords t))) == 1#1)) = false
  generalize a.1.atD 1 (k0_off1 (grid0.coords t)) = o
  by_cases h : k0_cond2 o = 1#1
  · simp [h]
  · simp [(cond_off o).2 h]

theorem leaves_live {cfg : Cfg sig Λ₀} {c : Dev nD} (d : Dat τ (Elt F) Unit ℕ (UR sig nD τ) ℕ cfg c) (w : Fin cfg.W) (t : Fin cfg.N)
    (h : cfg.idle w (cfg.grid.coords t) = false) :
    owns (c : Thread nD τ) ((cfg.win w).stage (cfg.slots t w)) fullShare (d.after w t) ⊢ (d.leavesExact w t : sProp 𝕄) := by
  unfold Dat.leavesExact; rw [h]

/-- The experts' body meets its pipeline's obligation at every point. -/
theorem body_obligation (c : Dev nD) : BodyObligation (dat V a c) (defs₀ (F := F)) Variants.none () Set.univ := fun t => by
  rw [bigSep_W0, bigSep_W0, defs₀_row]
  refine triple_restated (sound_body V a c t) rfl .rfl fun _ => ?_
  unfold bodyPost
  exact sep_mono .rfl (sep_mono .rfl (sep_mono .rfl (sep_mono .rfl (sep_mono .rfl (sep_mono .rfl (sep_mono .rfl (sep_mono .rfl (sep_mono .rfl
    (leaves_live (dat V a c) 7 t (live7 a t))))))))))

/-! ## The launch -/

section Launch

variable (m : (ℓ : Loc nD τ sig) → Buf (Elt F) ℓ) (ρ : Dev nD → PrngReg)

/-- The buffers when the call is entered: after the host's operations. -/
abbrev Vh (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain : Pipeline.HMainP (Ix := Unit) (Name := ℕ) (U := UR sig nD τ) (Lvl := ℕ) (pcfgs (F := F)) 0 defs₀ Variants.none m (main (F := F)) (Vh m) :=
  Pipeline.hmainP_prefix (pcfgs (F := F)) 0 defs₀ Variants.none m main hostOps0 hostOps0_sub hostOps0_fresh main_chain

theorem Vh_arg0 (c : Dev nD) : Vh m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem Vh_arg1 (c : Dev nD) : Vh m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem Vh_arg2 (c : Dev nD) : Vh m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem Vh_arg3 (c : Dev nD) : Vh m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem Vh_arg4 (c : Dev nD) : Vh m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem Vh_arg5 (c : Dev nD) : Vh m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem Vh_arg6 (c : Dev nD) : Vh m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The tables' contents at launch. -/
def pf0 : pre0.Contents (Elt F) := fun k => m ((((0 : Dev nD).tc : Thread nD τ)).loc (pre0.ref k))

/-- The tables the pipeline is pinned at. -/
abbrev adm (hok : ok0 (pf0 m)) : (p : Fin 1) → (pcfgs (F := F) p).Adm := fun _ => ⟨pf0 m, hok⟩

theorem tables_held (c : Dev nD) (v : pre0.Contents (Elt F)) :
    (Pipeline.ΦT pre0 v c : sProp 𝕄)
      = iprop(((c : Thread nD τ).loc main_arg1 ↦{fullShare.right} v 0) ∗ ((c : Thread nD τ).loc main_arg2 ↦{fullShare.right} v 1)) := by
  unfold Pipeline.ΦT Pipeline.prefHeld
  rw [show (Finset.univ : Finset (Fin pre0.K)) = insert 0 {1} from by decide, bigSep_insert (by decide), bigSep_singleton]
  rfl

variable (hok : ok0 (pf0 m))

abbrev dats : (p : Fin 1) → (c : Dev nD) → Dat τ (Elt F) Unit ℕ (UR sig nD τ) ℕ (Pipeline.pin (pcfgs (F := F)) (adm m hok) p) c :=
  fun _ c => dat (Vh m) ⟨pf0 m, hok⟩ c

theorem tables (c : Dev nD) (k : Fin pre0.K) : Vh m c (pre0.ref k) = pf0 m k := by
  obtain rfl : c = 0 := Subsingleton.elim _ _
  match k with
  | ⟨0, _⟩ => exact Vh_arg1 m 0
  | ⟨1, _⟩ => exact Vh_arg2 m 0

theorem inv_in (c : Dev nD) (a : (pcfg0 (F := F)).Adm) (V) :
    iprop(Pipeline.ΦA spec0 c ∗ Pipeline.ΦT pre0 a.1 c) ⊢ (inv V a c 0 : sProp 𝕄) := by
  unfold inv Pipeline.ΦA; rw [scopedRest0_eq, tables_held]
  simp only [owns_whole]
  iintro ⟨⟨⟨%f, Hf⟩, Hg⟩, H0, H1⟩
  iexists f
  isplitr; · ipureintro; exact fun h => absurd rfl h
  isplitl [Hf]; · iexact Hf
  isplitl [Hg]; · iexact Hg
  isplitl [H0]; · iexact H0
  iexact H1

theorem inv_out (c : Dev nD) (a : (pcfg0 (F := F)).Adm) (V) (k) :
    (inv V a c k : sProp 𝕄) ⊢ Pipeline.ΦA spec0 c := by
  unfold inv Pipeline.ΦA; rw [scopedRest0_eq]
  simp only [owns_whole]
  iintro ⟨%f, -, Hf, Hg, -, -⟩
  isplitl [Hf]; · iexists f; iexact Hf
  iexact Hg

set_option backward.isDefEq.respectTransparency.types false in
set_option maxHeartbeats 1600000 in
/-- The whole program run: it terminates, the windows' arrays end as the points leave them, every other array as the host's
    operations left it, and every counter at zero. -/
theorem run_post : θ_run defs (onTc (τ := τ) (main (F := F))) (s₀ m ρ)
    (fun r => Pipeline.FramePost (Pipeline.pin (pcfgs (F := F)) (adm m hok)) (dats m hok) 0 (Vh m) r ∧ r.2.sem = fun _ => 0) :=
  Pipeline.θ_run_frameP_track (Q' := _) (pcfgs (F := F)) (adm m hok) (dats m hok) (0 : Fin 1) launch0 defs₀ Variants.none m ρ main
    (hbody := fun c => (body_obligation (Vh m) ⟨pf0 m, hok⟩ c).loose)
    (hshare := fun c => (dats m hok 0 c).share_full fun _ => rfl) (howed := fun _ _ => rfl) (V := Vh m) (hmain := hmain m)
    (hA := fun c w => A_eq (Vh m) ⟨pf0 m, hok⟩ c w) (hpf := fun c k => tables m c k)
    (hin := fun c => inv_in c ⟨pf0 m, hok⟩ (Vh m)) (hout := fun c => inv_out c ⟨pf0 m, hok⟩ (Vh m) _)

/-- What the call leaves in its output array. -/
abbrev result (c : Dev nD) : Buf (Elt F) ((c : Thread nD τ).loc main_v20) := (dat (Vh m) ⟨pf0 m, hok⟩ c).arrAt 7 grid0.N

/-- The run as the claims read it. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v20) = result m hok c) ∧ r.2.sem = fun _ => 0) :=
  (θ_run defs _ _).mono (fun r h => ⟨fun c => by
    obtain ⟨hw, hb⟩ := h.1 c
    have rest : ∀ (b : Ref sig .tc) (hs : b.isScoped = false) (ha : ∀ w, (spec0 w).arr.view.ref ≠ b), r.2.mem ((c.tc : Thread nD τ).loc b) = Vh m c b :=
      fun b hs ha => hb b (Pipeline.mem_restRefs_of b hs ha)
    exact ⟨⟨(rest main_arg0 (by decide) (by decide)).trans (Vh_arg0 m c), (rest main_arg1 (by decide) (by decide)).trans (Vh_arg1 m c),
      (rest main_arg2 (by decide) (by decide)).trans (Vh_arg2 m c), (rest main_arg3 (by decide) (by decide)).trans (Vh_arg3 m c),
      (rest main_arg4 (by decide) (by decide)).trans (Vh_arg4 m c),
      ((hw 5).trans ((dat (Vh m) ⟨pf0 m, hok⟩ c).arrAt_in 5 rfl _)).trans (Vh_arg5 m c),
      (rest main_arg6 (by decide) (by decide)).trans (Vh_arg6 m c)⟩, hw 7⟩, h.2⟩) (run_post m ρ hok)

end Launch

end Cert.Kernel2Ideal.Run

end
-- ==== Proof.Expert.Gate.lean ====
/- The experts' gated activation over the extended reals: the logistic function as half a hyperbolic tangent and a half. -/
module

public import Idealize.ShloMosaic.Lib.Pointwise

@[expose] public section

noncomputable section

namespace Cert.Gate

open Idealize.ShloMosaic

/-- The bound of the clamps, and its negative. -/
def seven : EReal := Ideal.ofBits FTy.f32 1088421888#32
def mseven : EReal := Ideal.ofBits FTy.f32 3235905536#32
/-- The gate's slope. -/
def slope : EReal := Ideal.ofBits FTy.f32 1071242019#32
def half : EReal := Ideal.ofBits FTy.f32 1056964608#32

theorem half_eq : half = ((1 / 2 : ℝ) : EReal) := by
  unfold half
  norm_num [Ideal.ofBits, Ideal.ieee, Nat.shiftRight_eq_div_pow, BitVec.extractLsb', BitVec.ofNat_eq_ofNat]

/-- The activation of a gate `g` and an up value `u`. -/
def act (g u : EReal) : EReal :=
  (min seven (max mseven u) + 1) * min g seven * (half * Ideal.tanh (half * (slope * min g seven)) + half)

theorem tanh_half (r : ℝ) : 1 / 2 * Real.tanh (1 / 2 * r) + 1 / 2 = 1 * (1 + Real.exp (-r))⁻¹ := by
  have e : Real.exp (-r) = Real.exp (-(1 / 2 * r)) * Real.exp (-(1 / 2 * r)) := by rw [← Real.exp_add]; congr 1; ring
  have p : 0 < Real.exp (1 / 2 * r) := Real.exp_pos _
  have q : Real.exp (-(1 / 2 * r)) = (Real.exp (1 / 2 * r))⁻¹ := Real.exp_neg _
  rw [Real.tanh_eq_sinh_div_cosh, Real.sinh_eq, Real.cosh_eq, e, q]
  field_simp
  ring

/-- The logistic function of an extended real. -/
theorem logistic_eq (x : EReal) : half * Ideal.tanh (half * x) + half = Ideal.div 1 (1 + Ideal.exp (-x)) := by
  rw [half_eq]
  have hp : (0 : ℝ) < 1 / 2 := by norm_num
  induction x using EReal.rec with
  | bot =>
    rw [EReal.coe_mul_bot_of_pos hp, EReal.neg_bot]
    show ((1 / 2 : ℝ) : EReal) * ((-1 : ℝ) : EReal) + ((1 / 2 : ℝ) : EReal) = Ideal.div 1 (1 + ⊤)
    rw [← EReal.coe_mul, ← EReal.coe_add, EReal.add_top_of_ne_bot (by decide)]
    unfold Ideal.div
    rw [if_neg (by simp), EReal.inv_top]
    norm_num
  | top =>
    rw [EReal.coe_mul_top_of_pos hp, EReal.neg_top]
    show ((1 / 2 : ℝ) : EReal) * ((1 : ℝ) : EReal) + ((1 / 2 : ℝ) : EReal) = Ideal.div 1 (1 + 0)
    rw [← EReal.coe_mul, ← EReal.coe_add, add_zero]
    unfold Ideal.div
    rw [if_neg (by simp)]
    norm_num
  | coe r =>
    have hne : (1 + Real.exp (-r)) ≠ 0 := by positivity
    have e : Ideal.exp (-(r : EReal)) = ((Real.exp (-r) : ℝ) : EReal) := by rw [← EReal.coe_neg]; exact Ideal.exp_coe _
    rw [← EReal.coe_mul, Ideal.tanh_coe, ← EReal.coe_mul, ← EReal.coe_add, e, tanh_half, ← EReal.coe_one, ← EReal.coe_add]
    unfold Ideal.div
    rw [if_neg (by exact_mod_cast hne), ← EReal.coe_inv, ← EReal.coe_mul]

/-- The activation as the reference writes it. -/
theorem act_eq (g u : EReal) :
    act g u = (min seven (max mseven u) + 1) * min g seven * Ideal.div 1 (1 + Ideal.exp (-(slope * min g seven))) := by
  unfold act; rw [logistic_eq]

end Cert.Gate

end
-- ==== Proof.Expert.Take.lean ====
/- A weight of each block's own: the gather that picks, for every block, one of the leading slices of an array. -/
module

public import Idealize.ShloMosaic.Lib.Pointwise

@[expose] public section

noncomputable section

namespace Cert.Take

open Idealize.ShloMosaic

variable {α : Type}

/-- The dimension numbers of `x[i]` at an array `x` of rank two and a list `i` of leading indices. -/
abbrev dims2 (N B C : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The same at an array of rank three. -/
abbrev dims3 (N B K C : Nat) (wf : GatherDims.WF ⟨3, ![N, K, C]⟩ ⟨2, ![B, 1]⟩ ⟨3, ![B, K, C]⟩ [1, 2] [0] [] [0] [] 1 ![1, K, C]) :
    GatherDims ⟨3, ![N, K, C]⟩ ⟨2, ![B, 1]⟩ ⟨3, ![B, K, C]⟩ where
  offsetDims := [1, 2]
  collapsedSliceDims := [0]
  operandBatchingDims := []
  startIndicesBatchingDims := []
  startIndexMap := [0]
  indexVectorDim := 1
  sliceSizes := ![1, K, C]
  wf := wf

/-- The picked row at a column. -/
theorem take2 {N B C : Nat} (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (b : Fin B) (n : Fin C) (e : Fin N) (h : (idx (ix2 b 0)).toInt.toNat = e.val) :
    Host.gather (dims2 N B C wf) x idx (ix2 b n) = x (ix2 e n) := by
  unfold Host.gather
  congr 1
  funext a
  refine Fin.ext ?_
  show (dims2 N B C wf).start (ix2 b n) idx a + (dims2 N B C wf).batchCoord (ix2 b n) a + (dims2 N B C wf).offCoord (ix2 b n) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N B C wf).startIndexMap from List.mem_singleton.mpr rfl)]
    have hsi : (dims2 N B C wf).siIdx (ix2 b n) ⟨List.idxOf (0 : Fin 2) (dims2 N B C wf).startIndexMap,
        List.idxOf_lt_length_iff.2 (List.mem_singleton.mpr rfl)⟩ = ix2 b 0 := by
      funext q; refine Fin.ext ?_
      match q with
      | ⟨0, _⟩ => rfl
      | ⟨1, _⟩ => rfl
    rw [hsi]
    show min (idx (ix2 b 0)).toInt.toNat (N - 1) = e.val
    rw [h]; have := e.isLt; omega
  · unfold GatherDims.start
    rw [dif_neg (show ¬ (1 : Fin 2) ∈ (dims2 N B C wf).startIndexMap by simp)]
    simp only [Nat.zero_add, Nat.add_zero]
    rfl

/-- The picked matrix at a row and a column. -/
theorem take3 {N B K C : Nat} (wf : GatherDims.WF ⟨3, ![N, K, C]⟩ ⟨2, ![B, 1]⟩ ⟨3, ![B, K, C]⟩ [1, 2] [0] [] [0] [] 1 ![1, K, C])
    (x : (⟨3, ![N, K, C]⟩ : Shape).Idx → α) (idx : IVec ⟨2, ![B, 1]⟩ 32) (b : Fin B) (k : Fin K) (n : Fin C) (e : Fin N)
    (h : (idx (ix2 b 0)).toInt.toNat = e.val) : Host.gather (dims3 N B K C wf) x idx (ix3 b k n) = x (ix3 e k n) := by
  unfold Host.gather
  congr 1
  funext a
  refine Fin.ext ?_
  show (dims3 N B K C wf).start (ix3 b k n) idx a + (dims3 N B K C wf).batchCoord (ix3 b k n) a + (dims3 N B K C wf).offCoord (ix3 b k n) a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil]
  rcases h01 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims3 N B K C wf).startIndexMap from List.mem_singleton.mpr rfl)]
    have hsi : (dims3 N B K C wf).siIdx (ix3 b k n) ⟨List.idxOf (0 : Fin 3) (dims3 N B K C wf).startIndexMap,
        List.idxOf_lt_length_iff.2 (List.mem_singleton.mpr rfl)⟩ = ix2 b 0 := by
      funext q; refine Fin.ext ?_
      match q with
      | ⟨0, _⟩ => rfl
      | ⟨1, _⟩ => rfl
    rw [hsi]
    show min (idx (ix2 b 0)).toInt.toNat (N - 1) = e.val
    rw [h]; have := e.isLt; omega
  · unfold GatherDims.start
    rw [dif_neg (show ¬ (1 : Fin 3) ∈ (dims3 N B K C wf).startIndexMap by simp)]
    simp only [Nat.zero_add, Nat.add_zero]
    rfl
  · unfold GatherDims.start
    rw [dif_neg (show ¬ (2 : Fin 3) ∈ (dims3 N B K C wf).startIndexMap by simp)]
    simp only [Nat.zero_add, Nat.add_zero]
    rfl

end Cert.Take

end
-- ==== Proof.Expert.Ref.lean ====
/- The experts' reference at an index. -/
module

public import proofs.«01_k».proof.Proof.Gen.Reference2Ideal.Run
public import proofs.«01_k».proof.Proof.Expert.Gate
public import proofs.«01_k».proof.Proof.Expert.Take
public import Idealize.ShloMosaic.Lib.Pointwise
public import Idealize.ShloMosaic.Lib.StableHlo.Predicate

@[expose] public section

set_option maxRecDepth 16384

noncomputable section

namespace Cert.Reference2Ideal.Val

open Cert.Reference2Ideal Cert.Reference2Ideal.Gen
open Idealize.ShloMosaic Idealize.ShloMosaic.TcCoe Idealize.SL.Sem Cert.Gate

/-- The experts' numbers, a negative one counted from the end. -/
def starts (be : IVec S352 32) : IVec S352x1 32 :=
  broadcastInDim S352x1 ![0] bcast_S352_S352x1_0 (select (cmpi .slt be (broadcastInDim S352 ![] bcast_S_S352 (constantI S_ 32 0#32)))
    (addi be (broadcastInDim S352 ![] bcast_S_S352 (constantI S_ 32 32#32))) be)

/-- One layer of the weights and of the biases. -/
def wIn (w : FVec Ideal S2x32x1024x2048 .f32) : FVec Ideal S32x1024x2048 .f32 :=
  shapeCast S32x1024x2048 (extractStridedSlice S1x32x1024x2048 ![0, 0, 0, 0] w slices_S2x32x1024x2048_S1x32x1024x2048_0_0_0_0) shapeCasts_S1x32x1024x2048_S32x1024x2048
def bIn (b : FVec Ideal S2x32x2048 .f32) : FVec Ideal S32x2048 .f32 :=
  shapeCast S32x2048 (extractStridedSlice S1x32x2048 ![0, 0, 0] b slices_S2x32x2048_S1x32x2048_0_0_0) shapeCasts_S1x32x2048_S32x2048
def wDown (w : FVec Ideal S2x32x1024x1024 .f32) : FVec Ideal S32x1024x1024 .f32 :=
  shapeCast S32x1024x1024 (extractStridedSlice S1x32x1024x1024 ![0, 0, 0, 0] w slices_S2x32x1024x1024_S1x32x1024x1024_0_0_0_0) shapeCasts_S1x32x1024x1024_S32x1024x1024
def bDown (b : FVec Ideal S2x32x1024 .f32) : FVec Ideal S32x1024 .f32 :=
  shapeCast S32x1024 (extractStridedSlice S1x32x1024 ![0, 0, 0] b slices_S2x32x1024_S1x32x1024_0_0_0) shapeCasts_S1x32x1024_S32x1024

/-- The rows by blocks. -/
def rows (x : FVec Ideal S180224x1024 .f32) : FVec Ideal S352x512x1024 .f32 := shapeCast S352x512x1024 x shapeCasts_S180224x1024_S352x512x1024

/-- The hidden values from each block's own weight and bias. -/
def hiddenOf (x : FVec Ideal S352x512x1024 .f32) (w : FVec Ideal S352x1024x2048 .f32) (b : FVec Ideal S352x2048 .f32) : FVec Ideal S352x512x2048 .f32 :=
  addf (Host.dotGeneral dot_S352x512x1024_S352x1024x2048_S352x512x2048_2_1_1_2_0_0 none x w)
    (broadcastInDim S352x512x2048 ![0, 1, 2] bcast_S352x1x2048_S352x512x2048_0_1_2 (broadcastInDim S352x1x2048 ![0, 2] bcast_S352x2048_S352x1x2048_0_2 b))

/-- The gate, clamped from above. -/
def gateOf (h : FVec Ideal S352x512x2048 .f32) : FVec Ideal S352x512x1024 .f32 :=
  minimumf (Host.slice S352x512x1024 ![0, 0, 0] ![1, 1, 2] h slicesBy_S352x512x2048_S352x512x1024_0s1_0s1_0s2)
    (broadcastInDim S352x512x1024 ![] bcast_S_S352x512x1024 (constant S_ .f32 0x40E00000#32))

/-- The up values clamped from both sides, plus one. -/
def upOf (h : FVec Ideal S352x512x2048 .f32) : FVec Ideal S352x512x1024 .f32 :=
  addf (minimumf (broadcastInDim S352x512x1024 ![] bcast_S_S352x512x1024 (id (constant S_ .f32 0x40E00000#32)))
      (maximumf (broadcastInDim S352x512x1024 ![] bcast_S_S352x512x1024 (id (constant S_ .f32 0xC0E00000#32)))
        (Host.slice S352x512x1024 ![0, 0, 1] ![1, 1, 2] h slicesBy_S352x512x2048_S352x512x1024_0s1_0s1_1s2)))
    (broadcastInDim S352x512x1024 ![] bcast_S_S352x512x1024 (constant S_ .f32 0x3F800000#32))

/-- The logistic function of the gate times its slope. -/
def logOf (g : FVec Ideal S352x512x1024 .f32) : FVec Ideal S352x512x1024 .f32 :=
  Host.divf (broadcastInDim S352x512x1024 ![] bcast_S_S352x512x1024 (constant S_ .f32 0x3F800000#32))
    (addf (broadcastInDim S352x512x1024 ![] bcast_S_S352x512x1024 (constant S_ .f32 0x3F800000#32))
      (Host.exp (Host.negf (mulf (broadcastInDim S352x512x1024 ![] bcast_S_S352x512x1024 (constant S_ .f32 0x3FD9DB23#32)) g))))

/-- The activations. -/
def actOf (h : FVec Ideal S352x512x2048 .f32) : FVec Ideal S352x512x1024 .f32 := mulf (mulf (upOf h) (gateOf h)) (logOf (gateOf h))

/-- The blocks' results, by each block's own weight and bias. -/
def downOf (g : FVec Ideal S352x512x1024 .f32) (w : FVec Ideal S352x1024x1024 .f32) (b : FVec Ideal S352x1024 .f32) : FVec Ideal S352x512x1024 .f32 :=
  addf (Host.dotGeneral dot_S352x512x1024_S352x1024x1024_S352x512x1024_2_1_1_2_0_0 none g w)
    (broadcastInDim S352x512x1024 ![0, 1, 2] bcast_S352x1x1024_S352x512x1024_0_1_2 (broadcastInDim S352x1x1024 ![0, 2] bcast_S352x1024_S352x1x1024_0_2 b))

/-- The blocks that are on. -/
def onOf (o : IVec S352 32) : IVec S352x512x1024 1 :=
  broadcastInDim S352x512x1024 ![0, 1, 2] bcast_S352x1x1_S352x512x1024_0_1_2
    (cmpi .ne (broadcastInDim S352x1x1 ![0] bcast_S352_S352x1x1_0 o) (broadcastInDim S352x1x1 ![] bcast_S_S352x1x1 (constantI S_ 32 0#32)))

/-- The rows one after another, nought where the block is off. -/
def finish (o : IVec S352x512x1024 1) (y : FVec Ideal S352x512x1024 .f32) : FVec Ideal S180224x1024 .bf16 :=
  truncf .bf16 (shapeCast S180224x1024 (select o y (broadcastInDim S352x512x1024 ![] bcast_S_S352x512x1024 (id (constant S_ .f32 0x00000000#32))))
    shapeCasts_S352x512x1024_S180224x1024) bitsLt_bf16_f32

/-- The weights and biases the blocks pick. -/
def pickIn (w : FVec Ideal S32x1024x2048 .f32) (i : IVec S352x1 32) : FVec Ideal S352x1024x2048 .f32 :=
  Host.gather gather_S32x1024x2048_S352x1_S352x1024x2048_12_0_n_n_0_1_110242048 w i
def pickBias (b : FVec Ideal S32x2048 .f32) (i : IVec S352x1 32) : FVec Ideal S352x2048 .f32 :=
  Host.gather gather_S32x2048_S352x1_S352x2048_1_0_n_n_0_1_12048 b i
def pickDown (w : FVec Ideal S32x1024x1024 .f32) (i : IVec S352x1 32) : FVec Ideal S352x1024x1024 .f32 :=
  Host.gather gather_S32x1024x1024_S352x1_S352x1024x1024_12_0_n_n_0_1_110241024 w i
def pickBiasDown (b : FVec Ideal S32x1024 .f32) (i : IVec S352x1 32) : FVec Ideal S352x1024 .f32 :=
  Host.gather gather_S32x1024_S352x1_S352x1024_1_0_n_n_0_1_11024 b i

/-- The whole reference. -/
def refOut (x : FVec Ideal S180224x1024 .f32) (be o : IVec S352 32) (w : FVec Ideal S2x32x1024x2048 .f32) (b : FVec Ideal S2x32x2048 .f32)
    (wd : FVec Ideal S2x32x1024x1024 .f32) (bd : FVec Ideal S2x32x1024 .f32) : FVec Ideal S180224x1024 .bf16 :=
  finish (onOf o) (downOf (actOf (hiddenOf (rows x) (pickIn (wIn w) (starts be)) (pickBias (bIn b) (starts be))))
    (pickDown (wDown wd) (starts be)) (pickBiasDown (bDown bd) (starts be)))

theorem res_eq (m : (ℓ : Loc nD τ sig) → Buf (Elt Ideal) ℓ) (c : Dev nD) : Cert.Reference2Ideal.Value.res_main_v67 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := rfl

/-! ## At an index -/

/-- A word less than thirty-two starts at itself. -/
theorem starts_apply (be : IVec S352 32) (b : Fin 352) (h : (be (ix1 b)).toNat < 32) : (starts be (ix2 b 0)).toInt.toNat = (be (ix1 b)).toNat := by
  have e : starts be (ix2 b 0) = Scalar.select (IntOp.cmpi .slt (be (ix1 b)) 0#32) (IntOp.addi (be (ix1 b)) 32#32) (be (ix1 b)) := by
    pointwise [starts]
  have n : ¬ IntOp.cmpi .slt (be (ix1 b)) 0#32 = 1#1 := by
    intro q
    have q' : (be (ix1 b)).slt 0#32 = true := (StableHlo.Predicate.ofBool_eq_one_iff _).1 q
    rw [BitVec.slt_iff_toInt_lt, StableHlo.Predicate.toInt_eq_toNat_of_lt (by omega)] at q'
    have : ((be (ix1 b)).toNat : ℤ) < 0 := q'
    omega
  rw [e, show Scalar.select (IntOp.cmpi .slt (be (ix1 b)) 0#32) (IntOp.addi (be (ix1 b)) 32#32) (be (ix1 b)) = be (ix1 b) from if_neg n,
    StableHlo.Predicate.toInt_eq_toNat_of_lt (by omega)]
  exact Int.toNat_natCast _

theorem rows_apply (x : FVec Ideal S180224x1024 .f32) (b : Fin 352) (r : Fin 512) (k : Fin 1024) :
    (rows x (ix3 b r k) : EReal) = x (ix2 (⟨b.val * 512 + r.val, by omega⟩ : Fin 180224) k) := by
  pointwise [rows]
theorem wIn_apply (w : FVec Ideal S2x32x1024x2048 .f32) (e : Fin 32) (k : Fin 1024) (n : Fin 2048) : (wIn w (ix3 e k n) : EReal) = w (ix4 0 e k n) := by
  pointwise [wIn]
theorem bIn_apply (w : FVec Ideal S2x32x2048 .f32) (e : Fin 32) (n : Fin 2048) : (bIn w (ix2 e n) : EReal) = w (ix3 0 e n) := by
  pointwise [bIn]
theorem wDown_apply (w : FVec Ideal S2x32x1024x1024 .f32) (e : Fin 32) (k n : Fin 1024) : (wDown w (ix3 e k n) : EReal) = w (ix4 0 e k n) := by
  pointwise [wDown]
theorem bDown_apply (w : FVec Ideal S2x32x1024 .f32) (e : Fin 32) (n : Fin 1024) : (bDown w (ix2 e n) : EReal) = w (ix3 0 e n) := by
  pointwise [bDown]

theorem hiddenOf_apply (x : FVec Ideal S352x512x1024 .f32) (w : FVec Ideal S352x1024x2048 .f32) (b : FVec Ideal S352x2048 .f32) (q : Fin 352) (r : Fin 512)
    (n : Fin 2048) : (hiddenOf x w b (ix3 q r n) : EReal) = (∑ k : Fin 1024, (x (ix3 q r k) : EReal) * w (ix3 q k n)) + b (ix2 q n) := by
  pointwise [hiddenOf]

theorem actOf_apply (h : FVec Ideal S352x512x2048 .f32) (q : Fin 352) (r : Fin 512) (f : Fin 1024) : (actOf h (ix3 q r f) : EReal)
    = act (h (ix3 q r (⟨2 * f.val, by omega⟩ : Fin 2048))) (h (ix3 q r (⟨2 * f.val + 1, by omega⟩ : Fin 2048))) := by
  rw [act_eq]
  pointwise [actOf, upOf, logOf, gateOf]
  have e : (⟨1 + 2 * f.val, by omega⟩ : Fin 2048) = ⟨2 * f.val + 1, by omega⟩ := Fin.ext (by show 1 + 2 * f.val = 2 * f.val + 1; omega)
  rw [e]
  rfl

theorem downOf_apply (x : FVec Ideal S352x512x1024 .f32) (w : FVec Ideal S352x1024x1024 .f32) (b : FVec Ideal S352x1024 .f32) (q : Fin 352) (r : Fin 512)
    (n : Fin 1024) : (downOf x w b (ix3 q r n) : EReal) = (∑ k : Fin 1024, (x (ix3 q r k) : EReal) * w (ix3 q k n)) + b (ix2 q n) := by
  pointwise [downOf]

theorem finish_apply (o : IVec S352x512x1024 1) (y : FVec Ideal S352x512x1024 .f32) (q : Fin 352) (r : Fin 512) (n : Fin 1024) :
    (finish o y (ix2 (⟨q.val * 512 + r.val, by omega⟩ : Fin 180224) n) : EReal) = if o (ix3 q r n) = 1#1 then (y (ix3 q r n) : EReal) else 0 := by
  pointwise [finish]
  show (if o (ix3 q r n) = 1 then (y (ix3 q r n) : EReal) else Ideal.ofBits .f32 0x00000000#32) = _
  rw [Ideal.ofBits_zero_f32]
  rfl

theorem onOf_apply (o : IVec S352 32) (q : Fin 352) (r : Fin 512) (n : Fin 1024) : onOf o (ix3 q r n) = IntOp.cmpi .ne (o (ix1 q)) 0#32 := by
  pointwise [onOf]

end Cert.Reference2Ideal.Val

end
-- ==== Proof.Expert.Range.lean ====
/- The expert numbers are in range, and so every block a table word picks is one of its array. Over any kind of float. -/
module

public import proofs.«01_k».proof.Proof.Expert.Run
public import proofs.«01_k».proof.Proof.Gen.Pre_in_range
public import Idealize.ShloMosaic.Lib.ReduceAll
public import Idealize.ShloMosaic.Lib.StableHlo.Predicate
public import Idealize.ShloMosaic.Lib.Affine

@[expose] public section

noncomputable section

namespace Cert.Kernel2Ideal.Run

open Cert.Kernel2Ideal Cert.Kernel2Ideal.Gen
open Idealize.ShloMosaic Idealize.ShloMosaic.TcCoe

variable {F : FTy → Type} [FloatOps F]

instance : Subsingleton Cert.Pre_in_range.S_.Idx := ⟨fun a b => funext fun i => i.elim0⟩

/-- A word at least nought and less than thirty-two, read signed, is less than thirty-two read unsigned. -/
theorem word_lt (x : BitVec 32) (h1 : IntOp.cmpi .sge x 0#32 = 1#1) (h2 : IntOp.cmpi .slt x 32#32 = 1#1) : x.toNat < 32 := by
  have a : (0#32).sle x = true := (StableHlo.Predicate.ofBool_eq_one_iff _).1 h1
  have b : x.slt 32#32 = true := (StableHlo.Predicate.ofBool_eq_one_iff _).1 h2
  rw [BitVec.sle_iff_toInt_le] at a
  rw [BitVec.slt_iff_toInt_lt] at b
  have a' : (0 : ℤ) ≤ x.toInt := a
  have b' : x.toInt < 32 := b
  rw [BitVec.toInt_eq_toNat_cond] at a' b'
  have hx := x.isLt
  split at a' <;> omega

/-- What the precondition says of the words. -/
theorem words_lt (x0 x1 x2 x3 x4 x5 x6) (h : Cert.Pre_in_range.fn (F := F) x0 x1 x2 x3 x4 x5 x6 = fun _ => 1#1) (y : S352.Idx) :
    (x1 y).toNat < 32 := by
  have e : IntOp.andi _ _ = 1#1 := congrFun h (fun i => i.elim0)
  have e2 := e
  unfold IntOp.andi at e2
  obtain ⟨l, r⟩ : _ = 1#1 ∧ _ = 1#1 := (by decide : ∀ a b : BitVec 1, a &&& b = 1#1 → a = 1#1 ∧ b = 1#1) _ _ e2
  exact word_lt _ (Host.reduce_andi_all _ _ _ _ _ l y) (Host.reduce_andi_all _ _ _ _ _ r y)

theorem le1 {n : Nat} (hn : n < 32) : ∀ a, (![n, (0#32).toNat, (0#32).toNat] a + 1) * S1x1024x1024.size a ≤ S32x1024x1024.size a := by
  intro a; match a with
  | ⟨0, _⟩ => show (n + 1) * 1 ≤ 32; omega
  | ⟨1, _⟩ => show (0 + 1) * 1024 ≤ 1024; omega
  | ⟨2, _⟩ => show (0 + 1) * 1024 ≤ 1024; omega
theorem le3 {n : Nat} (hn : n < 32) : ∀ a, (![n, (0#32).toNat, (0#32).toNat] a + 1) * S1x1x1024.size a ≤ S32x1x1024.size a := by
  intro a; match a with
  | ⟨0, _⟩ => show (n + 1) * 1 ≤ 32; omega
  | ⟨1, _⟩ => show (0 + 1) * 1 ≤ 1; omega
  | ⟨2, _⟩ => show (0 + 1) * 1024 ≤ 1024; omega
theorem le5 {n : Nat} (hn : n < 32) : ∀ a, (![(0#32).toNat, n, (0#32).toNat, (0#32).toNat] a + 1) * S1x1x1024x1024.size a ≤ S2x32x1024x1024.size a := by
  intro a; match a with
  | ⟨0, _⟩ => show (0 + 1) * 1 ≤ 2; omega
  | ⟨1, _⟩ => show (n + 1) * 1 ≤ 32; omega
  | ⟨2, _⟩ => show (0 + 1) * 1024 ≤ 1024; omega
  | ⟨3, _⟩ => show (0 + 1) * 1024 ≤ 1024; omega

/-- Tables whose expert numbers are in range are admitted. -/
theorem ok_of_lt (pf : pre0.Contents (Elt F)) (h : ∀ y : S352.Idx, ((pf 0 : S352.Idx → Elt F .i32) y : BitVec 32).toNat < 32) : ok0 pf := by
  unfold ok0
  refine ⟨fun i => ⟨le1 (h _), .inr (Affine.block_words_dvd (of_decide_eq_true rfl) (by decide))⟩,
    fun i => ⟨le1 (h _), .inr (Affine.block_words_dvd (of_decide_eq_true rfl) (by decide))⟩,
    fun i => ⟨le3 (h _), .inl rfl⟩, fun i => ⟨le3 (h _), .inl rfl⟩, fun i => ⟨le5 (h _), .inl rfl⟩, fun i => ⟨le3 (h _), .inl rfl⟩⟩

/-- So the call runs on every memory the precondition admits. -/
theorem ok_of_pre (m : (ℓ : Loc nD τ sig) → Buf (Elt F) ℓ)
    (h : ∀ y, (m ((((0 : Dev nD).tc : Thread nD τ)).loc main_arg1) y : BitVec 32).toNat < 32) : ok0 (pf0 m) :=
  ok_of_lt _ h

end Cert.Kernel2Ideal.Run

end
-- ==== Proof.Expert.Val.lean ====
/- The experts' tiles at an index, and the array the call leaves. -/
module

public import proofs.«01_k».proof.Proof.Expert.Range
public import proofs.«01_k».proof.Proof.Expert.Gate
public import Idealize.ShloMosaic.Lib.Pointwise
public import Idealize.ShloMosaic.Lib.Pipeline.ValueKit.Geometry
public import Idealize.ShloMosaic.Lib.Pipeline.ValueKit.Acc
public import Idealize.ShloMosaic.Lib.Pipeline.Covers

@[expose] public section

set_option maxRecDepth 16384

noncomputable section

namespace Cert.Kernel2Ideal.Run

open Cert.Kernel2Ideal Cert.Kernel2Ideal.Gen
open Idealize.ShloMosaic Idealize.ShloMosaic.TcCoe Idealize.SL.Sem Cert.Gate
open Idealize.ShloMosaic.Pipeline (Dat Cfg Window)

theorem pay1 (x : FVec Ideal S1x1x1024x1024 .f32) (k n : Fin 1024) : (k0_pay1 (F := Ideal) x (ix2 k n) : EReal) = x (ix4 0 0 k n) := by
  pointwise [k0_pay1]

theorem pay2 (x : FVec Ideal S512x1024 .bf16) (w : FVec Ideal S1024x1024 .bf16) (b : FVec Ideal S1x1x1024 .f32) (r : Fin 512) (n : Fin 1024) :
    (k0_pay2 (F := Ideal) x w b (ix2 r n) : EReal) = (∑ k : Fin 1024, (x (ix2 r k) : EReal) * w (ix2 k n)) + b (ix3 0 0 n) := by
  pointwise [k0_pay2]

theorem pay3 (y : S512x1024.Idx) : (k0_pay3 (F := Ideal) y : EReal) = 0 := by
  pointwise [k0_pay3]

theorem pay4 (x : FVec Ideal S512x1024 .bf16) (wg wu : FVec Ideal S1x1024x1024 .bf16) (bg bu : FVec Ideal S1x1x1024 .f32) (r : Fin 512) (n : Fin 1024) :
    (k0_pay4 (F := Ideal) x wg bg wu bu (ix2 r n) : EReal)
      = act ((∑ k : Fin 1024, (x (ix2 r k) : EReal) * wg (ix3 0 k n)) + bg (ix3 0 0 n))
        ((∑ k : Fin 1024, (x (ix2 r k) : EReal) * wu (ix3 0 k n)) + bu (ix3 0 0 n)) := by
  pointwise [k0_pay4]
  rfl

/-! ## The blocks -/

theorem word_at : ∀ t : Fin grid0.N, (Rect.unit (s := S352) (k0_off1 (grid0.coords t)) S1.size (k0_off1_inb (grid0.coords t))).point numel1_S1
    = ix1 (⟨t.val, by have h : t.val < grid0.N := t.isLt; have e : grid0.N = 352 := N_0; omega⟩ : Fin 352) := by decide +kernel

theorem tr0 : ∀ t : Fin grid0.N, cc0_transform_0 (grid0.coords t) = ![t.val, 0] := by decide +kernel
theorem tr7 : ∀ t : Fin grid0.N, cc0_transform_7 (grid0.coords t) = ![t.val, 0] := by decide +kernel

section
variable (a : (pcfg0 (F := Ideal)).Adm)

/-- The expert of a block and whether the block is on, as words. -/
def expert (b : Fin 352) : BitVec 32 := T0 a (ix1 b)
def isOn (b : Fin 352) : BitVec 32 := T1 a (ix1 b)
/-- The block a grid point works at. -/
def blkOf (t : Fin (cfg0 a).N) : Fin 352 := ⟨t.val, by have h : t.val < grid0.N := t.isLt; have e : grid0.N = 352 := N_0; omega⟩

theorem word_T0 (t : Fin (cfg0 a).N) : word1 (grid0.coords t) (T0 a) = expert a (blkOf a t) := congrArg (T0 a) (word_at t)
theorem word_T1 (t : Fin (cfg0 a).N) : word1 (grid0.coords t) (T1 a) = isOn a (blkOf a t) := congrArg (T1 a) (word_at t)

theorem ix_0 (t : Fin (cfg0 a).N) : ((cfg0 a).win 0).index t = ![(blkOf a t).val, 0] := tr0 t
theorem ix_7 (t : Fin (cfg0 a).N) : ((cfg0 a).win 7).index t = ![(blkOf a t).val, 0] := tr7 t
theorem ix_1 (t : Fin (cfg0 a).N) : ((cfg0 a).win 1).index t = ![(expert a (blkOf a t)).toNat, 0, 0] :=
  congrArg (fun v : BitVec 32 => (![v.toNat, 0, 0] : Fin 3 → Nat)) (word_T0 a t)
theorem ix_2 (t : Fin (cfg0 a).N) : ((cfg0 a).win 2).index t = ![(expert a (blkOf a t)).toNat, 0, 0] :=
  congrArg (fun v : BitVec 32 => (![v.toNat, 0, 0] : Fin 3 → Nat)) (word_T0 a t)
theorem ix_3 (t : Fin (cfg0 a).N) : ((cfg0 a).win 3).index t = ![(expert a (blkOf a t)).toNat, 0, 0] :=
  congrArg (fun v : BitVec 32 => (![v.toNat, 0, 0] : Fin 3 → Nat)) (word_T0 a t)
theorem ix_4 (t : Fin (cfg0 a).N) : ((cfg0 a).win 4).index t = ![(expert a (blkOf a t)).toNat, 0, 0] :=
  congrArg (fun v : BitVec 32 => (![v.toNat, 0, 0] : Fin 3 → Nat)) (word_T0 a t)
theorem ix_5 (t : Fin (cfg0 a).N) : ((cfg0 a).win 5).index t = ![0, (expert a (blkOf a t)).toNat, 0, 0] :=
  congrArg (fun v : BitVec 32 => (![0, v.toNat, 0, 0] : Fin 4 → Nat)) (word_T0 a t)
theorem ix_6 (t : Fin (cfg0 a).N) : ((cfg0 a).win 6).index t = ![(expert a (blkOf a t)).toNat, 0, 0] :=
  congrArg (fun v : BitVec 32 => (![v.toNat, 0, 0] : Fin 3 → Nat)) (word_T0 a t)

theorem expert_lt (t : Fin (cfg0 a).N) : (expert a (blkOf a t)).toNat < 32 := by
  obtain ⟨h, -⟩ := a.2.1 (grid0.coords t)
  have e : ((word1 (grid0.coords t) (T0 a) : BitVec 32).toNat + 1) * 1 ≤ 32 := h 0
  rw [word_T0] at e
  omega

theorem covers7 : ((cfg0 a).win 7).Covers :=
  ((cfg0 a).win 7).covers_of_index_surj rfl (fun b => by match b with | ⟨0, _⟩ => exact (by decide : 0 < 512) | ⟨1, _⟩ => exact (by decide : 0 < 1024)) fun β => by
    have h0 : (β (0 : Fin 2)).val < 352 := lt_of_lt_of_eq (β (0 : Fin 2)).isLt (by show (180224 + 512 - 1) / 512 = 352; norm_num)
    have h1 : (β (1 : Fin 2)).val < 1 := lt_of_lt_of_eq (β (1 : Fin 2)).isLt (by show (1024 + 1024 - 1) / 1024 = 1; norm_num)
    refine ⟨⟨(β (0 : Fin 2)).val, show _ < grid0.N by rw [N_0]; exact h0⟩, fun b => ?_⟩
    rw [ix_7]
    match b with
    | ⟨0, _⟩ => rfl
    | ⟨1, _⟩ => exact (Nat.lt_one_iff.1 h1).symm

variable (V : (c : Dev nD) → (b : Ref sig .tc) → Buf (Elt Ideal) ((c : Thread nD τ).loc b)) (c : Dev nD)

/-- The rows of a block of the input. -/
theorem blk0 (t : Fin (cfg0 a).N) (r : Fin 512) (k : Fin 1024) : (iblk V a c 0 t (ix2 r k) : EReal)
    = V c main_v19 (ix2 (⟨(blkOf a t).val * 512 + r.val, by have := (blkOf a t).isLt; omega⟩ : Fin 180224) k) := by
  blk_simp [iblk]
  refine congrArg (V c main_v19) ?_
  blk_ext [ix_0 a t]

/-- The expert of a block, as a number of the thirty-two. -/
def ex (t : Fin (cfg0 a).N) : Fin 32 := ⟨(expert a (blkOf a t)).toNat, expert_lt a t⟩

theorem blk1 (t : Fin (cfg0 a).N) (k n : Fin 1024) : (iblk V a c 1 t (ix3 0 k n) : EReal) = V c main_v3 (ix3 (ex a t) k n) := by
  blk_simp [iblk]
  refine congrArg (V c main_v3) ?_
  blk_ext [ix_1 a t, ex]
theorem blk2 (t : Fin (cfg0 a).N) (k n : Fin 1024) : (iblk V a c 2 t (ix3 0 k n) : EReal) = V c main_v7 (ix3 (ex a t) k n) := by
  blk_simp [iblk]
  refine congrArg (V c main_v7) ?_
  blk_ext [ix_2 a t, ex]
theorem blk3 (t : Fin (cfg0 a).N) (n : Fin 1024) : (iblk V a c 3 t (ix3 0 0 n) : EReal) = V c main_v11 (ix3 (ex a t) 0 n) := by
  blk_simp [iblk]
  refine congrArg (V c main_v11) ?_
  blk_ext [ix_3 a t, ex]
theorem blk4 (t : Fin (cfg0 a).N) (n : Fin 1024) : (iblk V a c 4 t (ix3 0 0 n) : EReal) = V c main_v15 (ix3 (ex a t) 0 n) := by
  blk_simp [iblk]
  refine congrArg (V c main_v15) ?_
  blk_ext [ix_4 a t, ex]
theorem blk5 (t : Fin (cfg0 a).N) (k n : Fin 1024) : (iblk V a c 5 t (ix4 0 0 k n) : EReal) = V c main_arg5 (ix4 0 (ex a t) k n) := by
  blk_simp [iblk]
  refine congrArg (V c main_arg5) ?_
  blk_ext [ix_5 a t, ex]
theorem blk6 (t : Fin (cfg0 a).N) (n : Fin 1024) : (iblk V a c 6 t (ix3 0 0 n) : EReal) = V c main_v18 (ix3 (ex a t) 0 n) := by
  blk_simp [iblk]
  refine congrArg (V c main_v18) ?_
  blk_ext [ix_6 a t, ex]

/-! ## The array -/

/-- The hidden value of a row at a column, by one expert's half of the input weight and bias. -/
def hid (x : FVec Ideal S180224x1024 .bf16) (w : FVec Ideal S32x1024x1024 .bf16) (b : FVec Ideal S32x1x1024 .f32) (e : Fin 32) (r : Fin 180224)
    (f : Fin 1024) : EReal := (∑ k : Fin 1024, (x (ix2 r k) : EReal) * w (ix3 e k f)) + b (ix3 e 0 f)

/-- One row's result at a column, by one expert. -/
def res (x : FVec Ideal S180224x1024 .bf16) (wg wu : FVec Ideal S32x1024x1024 .bf16) (bg bu : FVec Ideal S32x1x1024 .f32)
    (wd : FVec Ideal S2x32x1024x1024 .f32) (bd : FVec Ideal S32x1x1024 .f32) (e : Fin 32) (r : Fin 180224) (n : Fin 1024) : EReal :=
  (∑ f : Fin 1024, act (hid x wg bg e r f) (hid x wu bu e r f) * wd (ix4 0 e f n)) + bd (ix3 e 0 n)

/-- The block of a row. -/
def blkRow (r : Fin 180224) : Fin 352 := ⟨r.val / 512, by omega⟩

/-- The whole result: a block's rows by the block's expert, or nought where the block is off. -/
def whole (e : Fin 352 → Fin 32) (o : Fin 352 → BitVec 32) (x : FVec Ideal S180224x1024 .bf16) (wg wu : FVec Ideal S32x1024x1024 .bf16)
    (bg bu : FVec Ideal S32x1x1024 .f32) (wd : FVec Ideal S2x32x1024x1024 .f32) (bd : FVec Ideal S32x1x1024 .f32) :
    FVec Ideal S180224x1024 .bf16 := fun y =>
  if o (blkRow (y 0)) ≠ 0#32 then res x wg wu bg bu wd bd (e (blkRow (y 0))) (y 0) (y 1) else (0 : EReal)

theorem whole_row (e : Fin 352 → Fin 32) (o : Fin 352 → BitVec 32) (x : FVec Ideal S180224x1024 .bf16) (wg wu : FVec Ideal S32x1024x1024 .bf16)
    (bg bu : FVec Ideal S32x1x1024 .f32) (wd : FVec Ideal S2x32x1024x1024 .f32) (bd : FVec Ideal S32x1x1024 .f32) (b : Fin 352) (r : Fin 180224)
    (n : Fin 1024) (h : blkRow r = b) : (whole e o x wg wu bg bu wd bd (ix2 r n) : EReal)
      = if o b ≠ 0#32 then res x wg wu bg bu wd bd (e b) r n else (0 : EReal) := by
  subst h; rfl

theorem scr_apply (x : FVec Ideal S1x1x1024x1024 .f32) (k n : Fin 1024) : (scr (F := Ideal) x (ix2 k n) : EReal) = x (ix4 0 0 k n) := by
  unfold scr
  rw [View.canon_cons_unit_lit inb_S1024x1024_S1024x1024_0_0 _ _ (by decide), View.ld_unit_lit _ _ (by decide)]
  exact pay1 x k n

theorem outOff_apply (y : S512x1024.Idx) : (outOff (F := Ideal) y : EReal) = 0 := by
  unfold outOff
  rw [View.canon_cons_unit_lit inb_S512x1024_S512x1024_0_0 _ _ (by decide)]
  exact pay3 y

theorem outOn_apply (x0 : FVec Ideal S512x1024 .bf16) (x1 x2 : FVec Ideal S1x1024x1024 .bf16) (x3 x4 : FVec Ideal S1x1x1024 .f32)
    (x5 : FVec Ideal S1x1x1024x1024 .f32) (x6 : FVec Ideal S1x1x1024 .f32) (r : Fin 512) (n : Fin 1024) :
    (outOn (F := Ideal) x0 x1 x2 x3 x4 (scr x5) x6 (ix2 r n) : EReal)
      = (∑ f : Fin 1024, act ((∑ k : Fin 1024, (x0 (ix2 r k) : EReal) * x1 (ix3 0 k f)) + x3 (ix3 0 0 f))
          ((∑ k : Fin 1024, (x0 (ix2 r k) : EReal) * x2 (ix3 0 k f)) + x4 (ix3 0 0 f)) * x5 (ix4 0 0 f n)) + x6 (ix3 0 0 n) := by
  unfold outOn
  rw [View.canon_cons_unit_lit inb_S512x1024_S512x1024_0_0 _ _ (by decide)]
  refine (pay2 _ _ _ r n).trans ?_
  refine congrArg₂ (fun a b : EReal => a + b) (Finset.sum_congr rfl fun f _ => congrArg₂ (fun a b : EReal => a * b) ?_ ?_) ?_
  · rw [View.ld_unit_lit _ _ (by decide), View.ld_unit_lit _ _ (by decide), View.ld_unit_lit _ _ (by decide), View.ld_unit_lit _ _ (by decide), View.ld_unit_lit _ _ (by decide)]
    exact pay4 x0 x1 x2 x3 x4 r f
  · rw [View.ld_unit_lit _ _ (by decide)]; exact scr_apply x5 f n
  · rw [View.ld_unit_lit _ _ (by decide)]

/-- The expert of a block of rows. -/
def exRow (b : Fin 352) : Fin 32 := ex a (⟨b.val, show b.val < grid0.N by rw [N_0]; exact b.isLt⟩ : Fin grid0.N)

/-- A tile of the result. -/
theorem tile_eq (t : Fin (cfg0 a).N) (r : Fin 512) (n : Fin 1024) : (tileOut V a c t (ix2 r n) : EReal)
    = whole (exRow a) (isOn a) (V c main_v19) (V c main_v3) (V c main_v7) (V c main_v11) (V c main_v15) (V c main_arg5) (V c main_v18)
        (ix2 (⟨(blkOf a t).val * 512 + r.val, by have := (blkOf a t).isLt; omega⟩ : Fin 180224) n) := by
  have hb : blkRow ⟨(blkOf a t).val * 512 + r.val, by have := (blkOf a t).isLt; omega⟩ = blkOf a t := Fin.ext (by
    show ((blkOf a t).val * 512 + r.val) / 512 = (blkOf a t).val; omega)
  have he : exRow a (blkOf a t) = ex a t := rfl
  have hw : whole (exRow a) (isOn a) (V c main_v19) (V c main_v3) (V c main_v7) (V c main_v11) (V c main_v15) (V c main_arg5) (V c main_v18)
        (ix2 (⟨(blkOf a t).val * 512 + r.val, by have := (blkOf a t).isLt; omega⟩ : Fin 180224) n)
      = if isOn a (blkOf a t) ≠ 0#32 then res (V c main_v19) (V c main_v3) (V c main_v7) (V c main_v11) (V c main_v15) (V c main_arg5) (V c main_v18)
          (ex a t) ⟨(blkOf a t).val * 512 + r.val, by have := (blkOf a t).isLt; omega⟩ n else (0 : EReal) := by
    exact (whole_row _ _ _ _ _ _ _ _ _ _ _ n hb).trans (by rw [he])
  rw [hw]
  unfold tileOut out
  rw [word_T1]
  by_cases h : isOn a (blkOf a t) ≠ 0#32
  · rw [if_pos ((cond_on _).2 h), if_pos h]
    refine (outOn_apply _ _ _ _ _ _ _ r n).trans ?_
    unfold res hid
    refine congrArg₂ (fun a b : EReal => a + b) (Finset.sum_congr rfl fun f _ => congrArg₂ (fun a b : EReal => a * b) ?_ (blk5 a V c t f n)) (blk6 a V c t n)
    refine congrArg₂ act (congrArg₂ (fun a b : EReal => a + b) (Finset.sum_congr rfl fun k _ => ?_) (blk3 a V c t f))
      (congrArg₂ (fun a b : EReal => a + b) (Finset.sum_congr rfl fun k _ => ?_) (blk4 a V c t f))
    · exact congrArg₂ (fun a b : EReal => a * b) (blk0 a V c t r k) (blk1 a V c t k f)
    · exact congrArg₂ (fun a b : EReal => a * b) (blk0 a V c t r k) (blk2 a V c t k f)
  · rw [if_neg (fun e => h ((cond_on _).1 e)), if_neg h]
    exact outOff_apply _

/-- The array the call leaves. -/
theorem arr7 : (dat V a c).arrAt 7 (cfg0 a).N
    = whole (exRow a) (isOn a) (V c main_v19) (V c main_v3) (V c main_v7) (V c main_v11) (V c main_v15) (V c main_arg5) (V c main_v18) := by
  refine (dat V a c).arrAt_eq_of_covers 7 _ (covers7 a) fun t hf y => ?_
  obtain ⟨r, n, rfl⟩ : ∃ (r : Fin 512) (n : Fin 1024), y = ix2 r n := ⟨y (0 : Fin 2), y (1 : Fin 2), eq_ix2 y⟩
  refine (tile_eq a V c t r n).trans ?_
  refine congrArg (whole (exRow a) (isOn a) (V c main_v19) (V c main_v3) (V c main_v7) (V c main_v11) (V c main_v15) (V c main_arg5) (V c main_v18)) ?_
  blk_ext [ix_7 a t]

end

end Cert.Kernel2Ideal.Run

end
-- ==== Proof.Expert.Equation.lean ====
/- The experts' kernel and their reference have the same value. -/
module

public import proofs.«01_k».proof.Proof.Expert.Ref
public import proofs.«01_k».proof.Proof.Expert.Val

@[expose] public section

set_option maxRecDepth 16384

noncomputable section

namespace Cert.Expert

open Idealize.ShloMosaic Idealize.ShloMosaic.TcCoe Idealize.SL.Sem Cert.Gate

section Host

open Cert.Kernel2Ideal Cert.Kernel2Ideal.Gen Cert.Kernel2Ideal.Run

/-- One layer of the first weight, and of its bias. -/
def layerIn (w : FVec Ideal S2x32x1024x2048 .f32) : FVec Ideal S32x1024x2048 .f32 :=
  shapeCast S32x1024x2048 (extractStridedSlice S1x32x1024x2048 ![0, 0, 0, 0] w slices_S2x32x1024x2048_S1x32x1024x2048_0_0_0_0) shapeCasts_S1x32x1024x2048_S32x1024x2048
def layerBias (b : FVec Ideal S2x32x2048 .f32) : FVec Ideal S32x2048 .f32 :=
  shapeCast S32x2048 (extractStridedSlice S1x32x2048 ![0, 0, 0] b slices_S2x32x2048_S1x32x2048_0_0_0) shapeCasts_S1x32x2048_S32x2048

/-- The even and the odd columns of the first weight and of its bias, and the second bias. -/
def gIn (w : FVec Ideal S2x32x1024x2048 .f32) : FVec Ideal S32x1024x1024 .bf16 :=
  truncf .bf16 (Host.slice S32x1024x1024 ![0, 0, 0] ![1, 1, 2] (layerIn w) slicesBy_S32x1024x2048_S32x1024x1024_0s1_0s1_0s2) bitsLt_bf16_f32
def uIn (w : FVec Ideal S2x32x1024x2048 .f32) : FVec Ideal S32x1024x1024 .bf16 :=
  truncf .bf16 (Host.slice S32x1024x1024 ![0, 0, 1] ![1, 1, 2] (layerIn w) slicesBy_S32x1024x2048_S32x1024x1024_0s1_0s1_1s2) bitsLt_bf16_f32
def gBias (b : FVec Ideal S2x32x2048 .f32) : FVec Ideal S32x1x1024 .f32 :=
  broadcastInDim S32x1x1024 ![0, 2] bcast_S32x1024_S32x1x1024_0_2 (Host.slice S32x1024 ![0, 0] ![1, 2] (layerBias b) slicesBy_S32x2048_S32x1024_0s1_0s2)
def uBias (b : FVec Ideal S2x32x2048 .f32) : FVec Ideal S32x1x1024 .f32 :=
  broadcastInDim S32x1x1024 ![0, 2] bcast_S32x1024_S32x1x1024_0_2 (Host.slice S32x1024 ![0, 1] ![1, 2] (layerBias b) slicesBy_S32x2048_S32x1024_0s1_1s2)
def dBias (b : FVec Ideal S2x32x1024 .f32) : FVec Ideal S32x1x1024 .f32 :=
  broadcastInDim S32x1x1024 ![0, 2] bcast_S32x1024_S32x1x1024_0_2
    (shapeCast S32x1024 (extractStridedSlice S1x32x1024 ![0, 0, 0] b slices_S2x32x1024_S1x32x1024_0_0_0) shapeCasts_S1x32x1024_S32x1024)
def xIn (x : FVec Ideal S180224x1024 .f32) : FVec Ideal S180224x1024 .bf16 := truncf .bf16 x bitsLt_bf16_f32

variable (m : (ℓ : Loc nD τ sig) → Buf (Elt Ideal) ℓ) (c : Dev nD)

theorem at_v19 : Vh m c main_v19 = xIn (m ((c.tc : Thread nD τ).loc main_arg0)) := rfl
theorem at_v3 : Vh m c main_v3 = gIn (m ((c.tc : Thread nD τ).loc main_arg3)) := rfl
theorem at_v7 : Vh m c main_v7 = uIn (m ((c.tc : Thread nD τ).loc main_arg3)) := rfl
theorem at_v11 : Vh m c main_v11 = gBias (m ((c.tc : Thread nD τ).loc main_arg4)) := rfl
theorem at_v15 : Vh m c main_v15 = uBias (m ((c.tc : Thread nD τ).loc main_arg4)) := rfl
theorem at_v18 : Vh m c main_v18 = dBias (m ((c.tc : Thread nD τ).loc main_arg6)) := rfl

theorem odd_eq (f : Fin 1024) : (⟨1 + 2 * f.val, by omega⟩ : Fin 2048) = ⟨2 * f.val + 1, by omega⟩ := Fin.ext (Nat.add_comm _ _)

theorem layerIn_apply (w : FVec Ideal S2x32x1024x2048 .f32) (e : Fin 32) (k : Fin 1024) (n : Fin 2048) : (layerIn w (ix3 e k n) : EReal) = w (ix4 0 e k n) := by
  pointwise [layerIn]
theorem layerBias_apply (b : FVec Ideal S2x32x2048 .f32) (e : Fin 32) (n : Fin 2048) : (layerBias b (ix2 e n) : EReal) = b (ix3 0 e n) := by
  pointwise [layerBias]
theorem gIn_apply (w : FVec Ideal S2x32x1024x2048 .f32) (e : Fin 32) (k f : Fin 1024) :
    (gIn w (ix3 e k f) : EReal) = w (ix4 0 e k (⟨2 * f.val, by omega⟩ : Fin 2048)) := by
  pointwise [gIn, layerIn]
theorem uIn_apply (w : FVec Ideal S2x32x1024x2048 .f32) (e : Fin 32) (k f : Fin 1024) :
    (uIn w (ix3 e k f) : EReal) = w (ix4 0 e k (⟨2 * f.val + 1, by omega⟩ : Fin 2048)) := by
  rw [← odd_eq f]
  pointwise [uIn, layerIn]
theorem gBias_apply (b : FVec Ideal S2x32x2048 .f32) (e : Fin 32) (f : Fin 1024) :
    (gBias b (ix3 e 0 f) : EReal) = b (ix3 0 e (⟨2 * f.val, by omega⟩ : Fin 2048)) := by
  pointwise [gBias, layerBias]
theorem uBias_apply (b : FVec Ideal S2x32x2048 .f32) (e : Fin 32) (f : Fin 1024) :
    (uBias b (ix3 e 0 f) : EReal) = b (ix3 0 e (⟨2 * f.val + 1, by omega⟩ : Fin 2048)) := by
  rw [← odd_eq f]
  pointwise [uBias, layerBias]
theorem dBias_apply (b : FVec Ideal S2x32x1024 .f32) (e : Fin 32) (n : Fin 1024) : (dBias b (ix3 e 0 n) : EReal) = b (ix3 0 e n) := by
  pointwise [dBias]

end Host

section Refs

open Cert.Reference2Ideal Cert.Reference2Ideal.Gen Cert.Reference2Ideal.Val

variable (x : FVec Ideal S180224x1024 .f32) (be o : IVec S352 32) (w : FVec Ideal S2x32x1024x2048 .f32) (b : FVec Ideal S2x32x2048 .f32)
  (wd : FVec Ideal S2x32x1024x1024 .f32) (bd : FVec Ideal S2x32x1024 .f32)

theorem pickIn_apply (q : Fin 352) (e : Fin 32) (h : (starts be (ix2 q 0)).toInt.toNat = e.val) (k : Fin 1024) (n : Fin 2048) :
    (pickIn (wIn w) (starts be) (ix3 q k n) : EReal) = w (ix4 0 e k n) :=
  (Cert.Take.take3 _ (wIn w) (starts be) q k n e h).trans (wIn_apply w e k n)
theorem pickBias_apply (q : Fin 352) (e : Fin 32) (h : (starts be (ix2 q 0)).toInt.toNat = e.val) (n : Fin 2048) :
    (pickBias (bIn b) (starts be) (ix2 q n) : EReal) = b (ix3 0 e n) :=
  (Cert.Take.take2 _ (bIn b) (starts be) q n e h).trans (bIn_apply b e n)
theorem pickDown_apply (q : Fin 352) (e : Fin 32) (h : (starts be (ix2 q 0)).toInt.toNat = e.val) (k n : Fin 1024) :
    (pickDown (wDown wd) (starts be) (ix3 q k n) : EReal) = wd (ix4 0 e k n) :=
  (Cert.Take.take3 _ (wDown wd) (starts be) q k n e h).trans (wDown_apply wd e k n)
theorem pickBiasDown_apply (q : Fin 352) (e : Fin 32) (h : (starts be (ix2 q 0)).toInt.toNat = e.val) (n : Fin 1024) :
    (pickBiasDown (bDown bd) (starts be) (ix2 q n) : EReal) = bd (ix3 0 e n) :=
  (Cert.Take.take2 _ (bDown bd) (starts be) q n e h).trans (bDown_apply bd e n)

/-- A row's hidden value by its block's expert. -/
theorem hidden_row (q : Fin 352) (e : Fin 32) (h : (starts be (ix2 q 0)).toInt.toNat = e.val) (r : Fin 512) (n : Fin 2048) :
    (hiddenOf (rows x) (pickIn (wIn w) (starts be)) (pickBias (bIn b) (starts be)) (ix3 q r n) : EReal)
      = (∑ k : Fin 1024, (x (ix2 (⟨q.val * 512 + r.val, by omega⟩ : Fin 180224) k) : EReal) * w (ix4 0 e k n)) + b (ix3 0 e n) := by
  refine (hiddenOf_apply _ _ _ q r n).trans ?_
  refine congrArg₂ (fun a b : EReal => a + b) (Finset.sum_congr rfl fun k _ => ?_) (pickBias_apply be b q e h n)
  exact congrArg₂ (fun a b : EReal => a * b) (rows_apply x q r k) (pickIn_apply be w q e h k n)

end Refs

section Both

open Cert.Kernel2Ideal Cert.Kernel2Ideal.Gen Cert.Kernel2Ideal.Run Cert.Reference2Ideal.Val

variable (x : FVec Ideal S180224x1024 .f32) (be o : IVec S352 32) (w : FVec Ideal S2x32x1024x2048 .f32) (b : FVec Ideal S2x32x2048 .f32)
  (wd : FVec Ideal S2x32x1024x1024 .f32) (bd : FVec Ideal S2x32x1024 .f32)

/-- A row's result by its block's expert, in the kernel's words. -/
theorem res_row (q : Fin 352) (e : Fin 32) (h : (starts be (ix2 q 0)).toInt.toNat = e.val) (r : Fin 512) (n : Fin 1024) :
    (downOf (actOf (hiddenOf (rows x) (pickIn (wIn w) (starts be)) (pickBias (bIn b) (starts be))))
      (pickDown (wDown wd) (starts be)) (pickBiasDown (bDown bd) (starts be)) (ix3 q r n) : EReal)
      = res (xIn x) (gIn w) (uIn w) (gBias b) (uBias b) wd (dBias bd) e (⟨q.val * 512 + r.val, by omega⟩ : Fin 180224) n := by
  refine (downOf_apply _ _ _ q r n).trans ?_
  refine congrArg₂ (fun a b : EReal => a + b) (Finset.sum_congr rfl fun f _ => ?_) ((pickBiasDown_apply be bd q e h n).trans (dBias_apply bd e n).symm)
  refine congrArg₂ (fun a b : EReal => a * b) ?_ (pickDown_apply be wd q e h f n)
  refine (actOf_apply _ q r f).trans ?_
  refine congrArg₂ act ((hidden_row x be w b q e h r _).trans ?_) ((hidden_row x be w b q e h r _).trans ?_)
  · refine congrArg₂ (fun a b : EReal => a + b) (Finset.sum_congr rfl fun k _ => ?_) (gBias_apply b e f).symm
    exact congrArg (fun a : EReal => x (ix2 (⟨q.val * 512 + r.val, by omega⟩ : Fin 180224) k) * a) (gIn_apply w e k f).symm
  · refine congrArg₂ (fun a b : EReal => a + b) (Finset.sum_congr rfl fun k _ => ?_) (uBias_apply b e f).symm
    exact congrArg (fun a : EReal => x (ix2 (⟨q.val * 512 + r.val, by omega⟩ : Fin 180224) k) * a) (uIn_apply w e k f).symm

/-- A word is told from nought. -/
theorem cmp_ne (v : BitVec 32) : IntOp.cmpi .ne v 0#32 = 1#1 ↔ v ≠ 0#32 :=
  (StableHlo.Predicate.ofBool_eq_one_iff _).trans bne_iff_ne

/-- The two values are the same array. -/
theorem whole_eq (e : Fin 352 → Fin 32) (hlt : ∀ y, (be y).toNat < 32) (he : ∀ q, (be (ix1 q)).toNat = (e q).val) :
    whole e (fun q => o (ix1 q)) (xIn x) (gIn w) (uIn w) (gBias b) (uBias b) wd (dBias bd) = refOut x be o w b wd bd := by
  funext y
  obtain ⟨p, n, rfl⟩ : ∃ (p : Fin 180224) (n : Fin 1024), y = ix2 p n := ⟨y (0 : Fin 2), y (1 : Fin 2), eq_ix2 y⟩
  obtain ⟨q, r, rfl⟩ : ∃ (q : Fin 352) (r : Fin 512), p = ⟨q.val * 512 + r.val, by omega⟩ :=
    ⟨⟨p.val / 512, by omega⟩, ⟨p.val % 512, by omega⟩, Fin.ext (by show p.val = p.val / 512 * 512 + p.val % 512; omega)⟩
  have hq : blkRow ⟨q.val * 512 + r.val, by omega⟩ = q := Fin.ext (by show (q.val * 512 + r.val) / 512 = q.val; omega)
  refine (whole_row e _ _ _ _ _ _ _ _ q _ n hq).trans ?_
  refine Eq.trans ?_ (finish_apply _ _ q r n).symm
  rw [onOf_apply]
  by_cases ho : o (ix1 q) = 0#32
  · rw [if_neg (not_not.2 ho), if_neg fun k => (cmp_ne _).1 k ho]
  · rw [if_pos ho, if_pos ((cmp_ne _).2 ho)]
    exact (res_row x be w b wd bd q (e q) ((starts_apply be q (hlt _)).trans (he q)) r n).symm

end Both

end Cert.Expert

end
-- ==== Proof.Expert.Claims.lean ====
/- The claims about the experts' call: the runs, and the equation of the results. -/
module

public import proofs.«01_k».proof.Defs
public import proofs.«01_k».proof.Proof.Gen.Kernel2
public import proofs.«01_k».proof.Proof.Expert.Run
public import proofs.«01_k».proof.Proof.Expert.Equation

@[expose] public section

set_option maxRecDepth 16384

noncomputable section

namespace Cert.Proof

open Idealize.ShloMosaic Idealize.ShloMosaic.TcCoe Idealize.SL.Sem

/-- The experts' kernel, on extended reals. -/
theorem frame_kernel2Ideal : Cert.quiescent_Kernel2Ideal := fun m ρ h =>
  (θ_run Cert.Kernel2Ideal.defs _ _).mono
    (fun _ k => ⟨fun c => (k.1 c).1, k.2⟩)
    (Cert.Kernel2Ideal.Run.run_main m ρ (Cert.Kernel2Ideal.Run.ok_of_pre m (Cert.Kernel2Ideal.Run.words_lt _ _ _ _ _ _ _ (h 0))))

/-! ## The same text on machine numbers -/

set_option maxHeartbeats 4000000

theorem pcfg_same : Cert.Kernel2.pcfg0 (F := Bits) = Cert.Kernel2Ideal.pcfg0 (F := Bits) := rfl

/-- The bodies the two programs run are the same. -/
theorem bodies_same : Cert.Kernel2.defs₀ (F := Bits) = Cert.Kernel2Ideal.defs₀ (F := Bits) := by
  funext p l a
  cases p with
  | tc => match l, a with
    | 0, (t, s) => rfl
  | scScalar _ => rfl
  | scVector _ _ => rfl

theorem main_same : Cert.Kernel2.main (F := Bits) = Cert.Kernel2Ideal.main (F := Bits) := rfl

theorem defs_same : Cert.Kernel2.defs (F := Bits) = Cert.Kernel2Ideal.defs (F := Bits) :=
  congrArg (Pipeline.defs (Cert.Kernel2Ideal.pcfgs (F := Bits))) bodies_same

/-- The tables' words are in range on machine numbers too. -/
theorem ok_bits (m : (ℓ : Loc Cert.Kernel2Ideal.nD Cert.Kernel2Ideal.τ Cert.Kernel2Ideal.sig) → Buf (Elt Bits) ℓ) (h : Cert.Pre_Kernel2 m) :
    Cert.Kernel2Ideal.ok0 (Cert.Kernel2Ideal.Run.pf0 (F := Bits) m) :=
  Cert.Kernel2Ideal.Run.ok_of_pre (F := Bits) m (Cert.Kernel2Ideal.Run.words_lt _ _ _ _ _ _ _ (h 0))

/-- The same text on machine numbers. -/
theorem frame_kernel2 : Cert.quiescent_Kernel2 := fun m ρ h => by
  rw [main_same, defs_same]
  exact (θ_run Cert.Kernel2Ideal.defs _ _).mono (fun _ k => ⟨fun c => (k.1 c).1, k.2⟩)
    (Cert.Kernel2Ideal.Run.run_main (F := Bits) m ρ (ok_bits m h))

/-- The experts' reference. -/
theorem frame_reference2Ideal : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

section

open Cert.Kernel2Ideal Cert.Kernel2Ideal.Gen Cert.Kernel2Ideal.Run

variable (m : (ℓ : Loc nD τ sig) → Buf (Elt Ideal) ℓ)

/-- What the kernel leaves is what the reference computes from the same arguments. -/
theorem result_eq (c : Dev nD) (hlt : ∀ y, (m ((c.tc : Thread nD τ).loc main_arg1) y : BitVec 32).toNat < 32) (hok : ok0 (pf0 m)) :
    result m hok c = Cert.Reference2Ideal.Val.refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  obtain rfl : c = 0 := Subsingleton.elim _ _
  have h5 : Vh m 0 main_arg5 = m (((0 : Dev nD).tc : Thread nD τ).loc main_arg5) := Vh_arg5 m 0
  refine (arr7 ⟨pf0 m, hok⟩ (Vh m) 0).trans ?_
  rw [h5]
  exact Cert.Expert.whole_eq (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) (m (((0 : Dev nD).tc : Thread nD τ).loc main_arg4))
    (m (((0 : Dev nD).tc : Thread nD τ).loc main_arg5)) (m (((0 : Dev nD).tc : Thread nD τ).loc main_arg6))
    (exRow ⟨pf0 m, hok⟩) hlt (fun q => rfl)

end

/-- The results of the two programs are equal. -/
theorem algebraic_kernel2 : Cert.algebraic_Kernel2Ideal_Reference2Ideal := fun m g m' g' hpre hargs => by
  have hlt := Cert.Kernel2Ideal.Run.words_lt _ _ _ _ _ _ _ (hpre 0)
  have hok := Cert.Kernel2Ideal.Run.ok_of_pre m hlt
  refine ⟨fun c => Cert.Kernel2Ideal.Run.result m hok c, ?_, ?_⟩
  · exact (θ_run Cert.Kernel2Ideal.defs _ _).mono (fun _ k c => ⟨(k.1 c).2, (k.1 c).1⟩) (Cert.Kernel2Ideal.Run.run_main m g hok)
  · refine (θ_run Cert.Reference2Ideal.defs _ _).mono (fun r h c => ?_) (Cert.Reference2Ideal.Value.run (F := Ideal) m' g')
    obtain ⟨a0, a1, a2, a3, a4, a5, a6⟩ := hargs c
    refine ⟨?_, (h c).2⟩
    refine ((h c).1.trans (Cert.Reference2Ideal.Val.res_eq m' c)).trans (Eq.trans ?_ (result_eq m c (by
      obtain rfl : c = 0 := Subsingleton.elim _ _
      exact hlt) hok).symm)
    rw [a0, a1, a2, a3, a4, a5, a6]

end Cert.Proof

end
-- ==== Proof.Expert.Split.lean ====
/- The split of the experts' first weight: the product with the selection matrix picks columns. -/
module

public import proofs.«01_k».proof.Proof.Gen.Kernel3Ideal.Value
public import Idealize.ShloMosaic.Lib.Pointwise
public import Idealize.ShloMosaic.Lib.StableHlo.Predicate
public import Idealize.ShloMosaic.Lib.Pipeline.ValueKit.Geometry
public import Idealize.ShloMosaic.Lib.Pipeline.ValueKit.Acc
public import Idealize.ShloMosaic.Lib.Pipeline.Covers

@[expose] public section

set_option maxRecDepth 16384

noncomputable section

namespace Cert.Kernel3Ideal.Split

open Cert.Kernel3Ideal Cert.Kernel3Ideal.Gen Cert.Kernel3Ideal.Value
open Idealize.ShloMosaic Idealize.ShloMosaic.TcCoe Idealize.SL.Sem
open Idealize.ShloMosaic.Pipeline (Dat Cfg Window)

/-- One product's element: a row of a weight's 256 columns from `o` on, against a column of the selection. -/
def dot (P0 : FVec Ideal S1x1x256x2048 .f32) (P1 : FVec Ideal S256x256 .bf16) (o : Nat) (ho : o + 256 ≤ 2048) (r : Fin 256) (n : Fin 256) : EReal :=
  ∑ k : Fin 256, (P0 (ix4 0 0 r (⟨o + k.val, by omega⟩ : Fin 2048)) : EReal) * P1 (ix2 k n)

variable (P0 : FVec Ideal S1x1x256x2048 .f32) (P1 : FVec Ideal S256x256 .bf16) (r : Fin 256) (n : Fin 256)

/-- The weight's block as a matrix. -/
abbrev mat : FVec Ideal S256x2048 .bf16 := truncf .bf16 (shapeCast S256x2048 P0 shapeCasts_S1x1x256x2048_S256x2048) bitsLt_bf16_f32

theorem fam0 : (k0_pay5 (F := Ideal) P0 P1 (ix2 r n) : EReal) = dot P0 P1 0 (by omega) r n := by
  unfold dot; pointwise [k0_pay5, k0_pay4]
theorem fam1 : (k0_pay8 (F := Ideal) P0 P1 (ix2 r n) : EReal) = dot P0 P1 256 (by omega) r n := by
  unfold dot; pointwise [k0_pay8, k0_pay4]
theorem fam2 : (k0_pay12 (F := Ideal) (extractStridedSlice S256x256 ![0, 512] (mat P0) slices_S256x2048_o0_512_S256x256) P1 (ix2 r n) : EReal) = dot P0 P1 512 (by omega) r n := by
  unfold dot; pointwise [k0_pay12]
theorem fam3 : (k0_pay15 (F := Ideal) (mat P0) P1 (ix2 r n) : EReal) = dot P0 P1 768 (by omega) r n := by
  unfold dot; pointwise [k0_pay15]
theorem fam4 : (k0_pay18 (F := Ideal) (mat P0) P1 (ix2 r n) : EReal) = dot P0 P1 1024 (by omega) r n := by
  unfold dot; pointwise [k0_pay18]
theorem fam5 : (k0_pay21 (F := Ideal) (mat P0) P1 (ix2 r n) : EReal) = dot P0 P1 1280 (by omega) r n := by
  unfold dot; pointwise [k0_pay21]
theorem fam6 : (k0_pay24 (F := Ideal) (mat P0) P1 (ix2 r n) : EReal) = dot P0 P1 1536 (by omega) r n := by
  unfold dot; pointwise [k0_pay24]
theorem fam7 : (k0_pay1 (F := Ideal) (extractStridedSlice S256x256 ![0, 1792] (mat P0) slices_S256x2048_o0_1792_S256x256) P1 (ix2 r n) : EReal) = dot P0 P1 1792 (by omega) r n := by
  unfold dot; pointwise [k0_pay1]

/-- The eight products, by number. -/
theorem fam (j : Fin 8) (y : S256x256.Idx) (hy : y = ix2 r n) : (Fam2_0 (F := Ideal) P0 P1 j y : EReal) = dot P0 P1 (256 * j.val) (by omega) r n := by
  subst hy
  match j with
  | ⟨0, _⟩ => exact fam0 P0 P1 r n
  | ⟨1, _⟩ => exact fam1 P0 P1 r n
  | ⟨2, _⟩ => exact fam2 P0 P1 r n
  | ⟨3, _⟩ => exact fam3 P0 P1 r n
  | ⟨4, _⟩ => exact fam4 P0 P1 r n
  | ⟨5, _⟩ => exact fam5 P0 P1 r n
  | ⟨6, _⟩ => exact fam6 P0 P1 r n
  | ⟨7, _⟩ => exact fam7 P0 P1 r n

theorem fam' (j : Fin 8) (y : S256x256.Idx) (hy : y = ix2 r n) : (Fam3_0 (F := Ideal) P0 P1 j y : EReal) = dot P0 P1 (256 * j.val) (by omega) r n := by
  subst hy
  match j with
  | ⟨0, _⟩ => exact fam0 P0 P1 r n
  | ⟨1, _⟩ => exact fam1 P0 P1 r n
  | ⟨2, _⟩ => exact fam2 P0 P1 r n
  | ⟨3, _⟩ => exact fam3 P0 P1 r n
  | ⟨4, _⟩ => exact fam4 P0 P1 r n
  | ⟨5, _⟩ => exact fam5 P0 P1 r n
  | ⟨6, _⟩ => exact fam6 P0 P1 r n
  | ⟨7, _⟩ => exact fam7 P0 P1 r n

/-! ## The selection matrix -/

/-- The numbers 0 to 255 as a row and as a column. -/
def rowNo : IVec S1x256 32 := broadcastInDim S1x256 ![1] bcast_S256_S1x256_1 (iotaInDim S256 32 0)
def colNo : IVec S256x1 32 := broadcastInDim S256x1 ![0] bcast_S256_S256x1_0 (iotaInDim S256 32 0)
def word (v : BitVec 32) : IVec S1x256 32 := broadcastInDim S1x256 ![] bcast_S_S1x256 (constantI S_ 32 v)

/-- Where the selection is one. -/
def picks : IVec S256x256 1 :=
  select (broadcastInDim S256x256 ![0, 1] bcast_S1x256_S256x256_0_1 (cmpi .slt rowNo (word 128#32)))
    (cmpi .eq (broadcastInDim S256x256 ![0, 1] bcast_S256x1_S256x256_0_1 colNo) (broadcastInDim S256x256 ![0, 1] bcast_S1x256_S256x256_0_1 (muli (word 2#32) rowNo)))
    (cmpi .eq (broadcastInDim S256x256 ![0, 1] bcast_S256x1_S256x256_0_1 colNo)
      (broadcastInDim S256x256 ![0, 1] bcast_S1x256_S256x256_0_1 (addi (muli (word 2#32) (subi rowNo (word 128#32))) (word 1#32))))

def sel : FVec Ideal S256x256 .bf16 := uitofp .bf16 picks

theorem picks_apply (k n : Fin 256) : picks (ix2 k n)
    = Scalar.select (IntOp.cmpi .slt (BitVec.ofNat 32 n.val) 128#32) (IntOp.cmpi .eq (BitVec.ofNat 32 k.val) (IntOp.muli 2#32 (BitVec.ofNat 32 n.val)))
        (IntOp.cmpi .eq (BitVec.ofNat 32 k.val) (IntOp.addi (IntOp.muli 2#32 (IntOp.subi (BitVec.ofNat 32 n.val) 128#32)) 1#32)) := by
  pointwise [picks, rowNo, colNo, word]

theorem slt_iff (n : Fin 256) : IntOp.cmpi .slt (BitVec.ofNat 32 n.val) 128#32 = 1#1 ↔ n.val < 128 :=
  (StableHlo.Predicate.ofBool_eq_one_iff _).trans (by
    have h : (BitVec.ofNat 32 n.val).toNat = n.val := by rw [BitVec.toNat_ofNat]; omega
    rw [BitVec.slt_iff_toInt_lt, StableHlo.Predicate.toInt_eq_toNat_of_lt (by rw [h]; omega), h]
    show (n.val : ℤ) < 128 ↔ _
    omega)

theorem eq_even (k n : Fin 256) : IntOp.cmpi .eq (BitVec.ofNat 32 k.val) (IntOp.muli 2#32 (BitVec.ofNat 32 n.val)) = 1#1 ↔ k.val = 2 * n.val :=
  (StableHlo.Predicate.ofBool_eq_one_iff _).trans (beq_iff_eq.trans (by
    show BitVec.ofNat 32 k.val = 2#32 * BitVec.ofNat 32 n.val ↔ _
    rw [← BitVec.toNat_inj, BitVec.toNat_mul, BitVec.toNat_ofNat, BitVec.toNat_ofNat, BitVec.toNat_ofNat]
    omega))

theorem eq_odd (k n : Fin 256) (h : 128 ≤ n.val) :
    IntOp.cmpi .eq (BitVec.ofNat 32 k.val) (IntOp.addi (IntOp.muli 2#32 (IntOp.subi (BitVec.ofNat 32 n.val) 128#32)) 1#32) = 1#1
      ↔ k.val = 2 * (n.val - 128) + 1 :=
  (StableHlo.Predicate.ofBool_eq_one_iff _).trans (beq_iff_eq.trans (by
    show BitVec.ofNat 32 k.val = 2#32 * (BitVec.ofNat 32 n.val - 128#32) + 1#32 ↔ _
    rw [← BitVec.toNat_inj, BitVec.toNat_add, BitVec.toNat_mul, BitVec.toNat_sub, BitVec.toNat_ofNat, BitVec.toNat_ofNat, BitVec.toNat_ofNat,
      BitVec.toNat_ofNat, BitVec.toNat_ofNat]
    omega))

/-- A bit as a number. -/
theorem bit_real (b : BitVec 1) : (FloatOps.uitofp (F := Ideal) .bf16 b : EReal) = if b = 1#1 then 1 else 0 := by
  have h : b = 0#1 ∨ b = 1#1 := by revert b; decide
  rcases h with rfl | rfl
  · rw [if_neg (by decide)]; show (((0 : ℕ) : ℝ) : EReal) = 0; norm_num
  · rw [if_pos rfl]; show (((1 : ℕ) : ℝ) : EReal) = 1; norm_num

theorem sel_low (k n : Fin 256) (h : n.val < 128) : (sel (ix2 k n) : EReal) = if k.val = 2 * n.val then 1 else 0 := by
  refine (bit_real (picks (ix2 k n))).trans ?_
  rw [picks_apply, show ∀ a b : BitVec 1, Scalar.select (IntOp.cmpi .slt (BitVec.ofNat 32 n.val) 128#32) a b = a from fun a b => if_pos ((slt_iff n).2 h)]
  exact if_congr (eq_even k n) rfl rfl

theorem sel_high (k n : Fin 256) (h : 128 ≤ n.val) : (sel (ix2 k n) : EReal) = if k.val = 2 * (n.val - 128) + 1 then 1 else 0 := by
  refine (bit_real (picks (ix2 k n))).trans ?_
  rw [picks_apply, show ∀ a b : BitVec 1, Scalar.select (IntOp.cmpi .slt (BitVec.ofNat 32 n.val) 128#32) a b = b from
    fun a b => if_neg fun q => absurd ((slt_iff n).1 q) (by omega)]
  exact if_congr (eq_odd k n h) rfl rfl

/-- A sum against a column of the selection is the one element picked. -/
theorem sum_pick (x : Fin 256 → EReal) (p : Fin 256) : (∑ k : Fin 256, x k * (if k.val = p.val then (1 : EReal) else 0)) = x p := by
  rw [Finset.sum_eq_single p]
  · rw [if_pos rfl, mul_one]
  · intro k _ hk
    rw [if_neg fun h => hk (Fin.ext h), mul_zero]
  · intro h; exact absurd (Finset.mem_univ _) h

theorem dot_low (o : Nat) (ho : o + 256 ≤ 2048) (h : n.val < 128) :
    dot P0 sel o ho r n = P0 (ix4 0 0 r (⟨o + 2 * n.val, by omega⟩ : Fin 2048)) := by
  unfold dot
  refine (Finset.sum_congr rfl fun k _ => congrArg (fun a : EReal => P0 (ix4 0 0 r (⟨o + k.val, by omega⟩ : Fin 2048)) * a) (sel_low k n h)).trans ?_
  exact sum_pick (fun k => P0 (ix4 0 0 r (⟨o + k.val, by omega⟩ : Fin 2048))) ⟨2 * n.val, by omega⟩

theorem dot_high (o : Nat) (ho : o + 256 ≤ 2048) (h : 128 ≤ n.val) :
    dot P0 sel o ho r n = P0 (ix4 0 0 r (⟨o + (2 * (n.val - 128) + 1), by omega⟩ : Fin 2048)) := by
  unfold dot
  refine (Finset.sum_congr rfl fun k _ => congrArg (fun a : EReal => P0 (ix4 0 0 r (⟨o + k.val, by omega⟩ : Fin 2048)) * a) (sel_high k n h)).trans ?_
  exact sum_pick (fun k => P0 (ix4 0 0 r (⟨o + k.val, by omega⟩ : Fin 2048))) ⟨2 * (n.val - 128) + 1, by omega⟩

/-! ## What a grid point writes -/

theorem out2_eq (f : Fin 1024) : (out0_2 (F := Ideal) P0 sel (ix3 0 r f) : EReal) = P0 (ix4 0 0 r (⟨2 * f.val, by omega⟩ : Fin 2048)) := by
  have e : out0_2 (F := Ideal) P0 sel (ix3 0 r f) = E2 P0 sel (ix3 0 r f) := by
    refine (canon2_eq _ _ (ix3 0 r f)).trans ?_
    rw [View.ld_unit_lit _ _ (by decide), View.ld_unit_lit _ _ (by decide)]
  refine e.trans ((fam P0 sel r (⟨f.val % 128, by omega⟩ : Fin 256) (⟨f.val / 128, by omega⟩ : Fin 8) _ ?_).trans ?_)
  · funext a; match a with | ⟨0, _⟩ => rfl | ⟨1, _⟩ => rfl
  · refine (dot_low P0 r _ _ _ (by show f.val % 128 < 128; omega)).trans ?_
    refine congrArg (fun q : Fin 2048 => P0 (ix4 0 0 r q)) (Fin.ext ?_)
    show 256 * (f.val / 128) + 2 * (f.val % 128) = 2 * f.val
    omega

theorem out3_eq (f : Fin 1024) : (out0_3 (F := Ideal) P0 sel (ix3 0 r f) : EReal) = P0 (ix4 0 0 r (⟨2 * f.val + 1, by omega⟩ : Fin 2048)) := by
  have e : out0_3 (F := Ideal) P0 sel (ix3 0 r f) = E3 P0 sel (ix3 0 r f) := by
    refine (canon3_eq _ _ (ix3 0 r f)).trans ?_
    rw [View.ld_unit_lit _ _ (by decide), View.ld_unit_lit _ _ (by decide)]
  refine e.trans ((fam' P0 sel r (⟨f.val % 128 + 128, by omega⟩ : Fin 256) (⟨f.val / 128, by omega⟩ : Fin 8) _ ?_).trans ?_)
  · funext a; match a with | ⟨0, _⟩ => rfl | ⟨1, _⟩ => rfl
  · refine (dot_high P0 r _ _ _ (by show 128 ≤ f.val % 128 + 128; omega)).trans ?_
    refine congrArg (fun q : Fin 2048 => P0 (ix4 0 0 r q)) (Fin.ext ?_)
    show 256 * (f.val / 128) + (2 * (f.val % 128 + 128 - 128) + 1) = 2 * f.val + 1
    omega

/-! ## The arrays -/

/-- The expert and the quarter of its rows a grid point works at. -/
def eOf (t : Fin cfg0.N) : Fin 32 := ⟨t.val / 4, by
  have h : t.val < grid0.N := t.isLt
  have e : grid0.N = 128 := by decide
  omega⟩
def iOf (t : Fin cfg0.N) : Fin 4 := ⟨t.val % 4, by omega⟩

theorem tr0 : ∀ t : Fin grid0.N, cc0_transform_0 (grid0.coords t) = ![0, t.val / 4, t.val % 4, 0] := by decide +kernel
theorem tr1 : ∀ t : Fin grid0.N, cc0_transform_1 (grid0.coords t) = ![0, 0] := by decide +kernel
theorem tr2 : ∀ t : Fin grid0.N, cc0_transform_2 (grid0.coords t) = ![t.val / 4, t.val % 4, 0] := by decide +kernel
theorem tr3 : ∀ t : Fin grid0.N, cc0_transform_3 (grid0.coords t) = ![t.val / 4, t.val % 4, 0] := by decide +kernel

theorem ix_0 (t : Fin cfg0.N) : (cfg0.win 0).index t = ![0, (eOf t).val, (iOf t).val, 0] := tr0 t
theorem ix_1 (t : Fin cfg0.N) : (cfg0.win 1).index t = ![0, 0] := tr1 t
theorem ix_2 (t : Fin cfg0.N) : (cfg0.win 2).index t = ![(eOf t).val, (iOf t).val, 0] := tr2 t
theorem ix_3 (t : Fin cfg0.N) : (cfg0.win 3).index t = ![(eOf t).val, (iOf t).val, 0] := tr3 t

theorem covers2 : (cfg0.win 2).Covers :=
  (cfg0.win 2).covers_of_index_surj rfl (fun b => by match b with | ⟨0, _⟩ => exact (by decide : 0 < 1) | ⟨1, _⟩ => exact (by decide : 0 < 256) | ⟨2, _⟩ => exact (by decide : 0 < 1024)) fun β => by
    have h0 : (β (0 : Fin 3)).val < 32 := lt_of_lt_of_eq (β (0 : Fin 3)).isLt (by show (32 + 1 - 1) / 1 = 32; norm_num)
    have h1 : (β (1 : Fin 3)).val < 4 := lt_of_lt_of_eq (β (1 : Fin 3)).isLt (by show (1024 + 256 - 1) / 256 = 4; norm_num)
    have h2 : (β (2 : Fin 3)).val < 1 := lt_of_lt_of_eq (β (2 : Fin 3)).isLt (by show (1024 + 1024 - 1) / 1024 = 1; norm_num)
    refine ⟨⟨(β (0 : Fin 3)).val * 4 + (β (1 : Fin 3)).val, show _ < grid0.N by rw [show grid0.N = 128 by decide]; omega⟩, fun b => ?_⟩
    rw [ix_2]
    match b with
    | ⟨0, _⟩ => show ((β (0 : Fin 3)).val * 4 + (β (1 : Fin 3)).val) / 4 = (β (0 : Fin 3)).val; omega
    | ⟨1, _⟩ => show ((β (0 : Fin 3)).val * 4 + (β (1 : Fin 3)).val) % 4 = (β (1 : Fin 3)).val; omega
    | ⟨2, _⟩ => exact (Nat.lt_one_iff.1 h2).symm

theorem covers3 : (cfg0.win 3).Covers :=
  (cfg0.win 3).covers_of_index_surj rfl (fun b => by match b with | ⟨0, _⟩ => exact (by decide : 0 < 1) | ⟨1, _⟩ => exact (by decide : 0 < 256) | ⟨2, _⟩ => exact (by decide : 0 < 1024)) fun β => by
    have h0 : (β (0 : Fin 3)).val < 32 := lt_of_lt_of_eq (β (0 : Fin 3)).isLt (by show (32 + 1 - 1) / 1 = 32; norm_num)
    have h1 : (β (1 : Fin 3)).val < 4 := lt_of_lt_of_eq (β (1 : Fin 3)).isLt (by show (1024 + 256 - 1) / 256 = 4; norm_num)
    have h2 : (β (2 : Fin 3)).val < 1 := lt_of_lt_of_eq (β (2 : Fin 3)).isLt (by show (1024 + 1024 - 1) / 1024 = 1; norm_num)
    refine ⟨⟨(β (0 : Fin 3)).val * 4 + (β (1 : Fin 3)).val, show _ < grid0.N by rw [show grid0.N = 128 by decide]; omega⟩, fun b => ?_⟩
    rw [ix_3]
    match b with
    | ⟨0, _⟩ => show ((β (0 : Fin 3)).val * 4 + (β (1 : Fin 3)).val) / 4 = (β (0 : Fin 3)).val; omega
    | ⟨1, _⟩ => show ((β (0 : Fin 3)).val * 4 + (β (1 : Fin 3)).val) % 4 = (β (1 : Fin 3)).val; omega
    | ⟨2, _⟩ => exact (Nat.lt_one_iff.1 h2).symm

/-- Every other column of the first layer's weight, from the first one or from the second one on. -/
def evens (w : FVec Ideal S2x32x1024x2048 .f32) : FVec Ideal S32x1024x1024 .bf16 := fun y => (w (ix4 0 (y 0) (y 1) (⟨2 * (y 2).val, by
  have h : (y 2).val < 1024 := (y 2).isLt
  omega⟩ : Fin 2048)) : EReal)
def odds (w : FVec Ideal S2x32x1024x2048 .f32) : FVec Ideal S32x1024x1024 .bf16 := fun y => (w (ix4 0 (y 0) (y 1) (⟨2 * (y 2).val + 1, by
  have h : (y 2).val < 1024 := (y 2).isLt
  omega⟩ : Fin 2048)) : EReal)

variable (m : (ℓ : Loc nD τ sig) → Buf (Elt Ideal) ℓ) (c : Dev nD)

theorem at_sel : V m c main_v21 = sel := rfl

theorem blk0 (t : Fin cfg0.N) (r : Fin 256) (k : Fin 2048) : (iblk m c 0 t (ix4 0 0 r k) : EReal)
    = m ((c : Thread nD τ).loc main_arg0) (ix4 0 (eOf t) (⟨(iOf t).val * 256 + r.val, by have := (iOf t).isLt; omega⟩ : Fin 1024) k) := by
  refine Eq.trans ?_ (congrFun (V_main_arg0 m c) _)
  blk_simp [iblk]
  refine congrArg (V m c main_arg0) ?_
  blk_ext [ix_0 t]

theorem blk1 (t : Fin cfg0.N) : iblk m c 1 t = sel := by
  funext y
  obtain ⟨k, n, rfl⟩ : ∃ (k n : Fin 256), y = ix2 k n := ⟨y (0 : Fin 2), y (1 : Fin 2), eq_ix2 y⟩
  refine Eq.trans ?_ (congrFun (at_sel m c) (ix2 k n))
  blk_simp [iblk]
  refine congrArg (V m c main_v21) ?_
  blk_ext [ix_1 t]

theorem arr2 : (dats m 0 c).arrAt 2 cfg0.N = evens (m ((c : Thread nD τ).loc main_arg0)) := by
  refine (dats m 0 c).arrAt_eq_of_covers 2 _ covers2 fun t hf y => ?_
  obtain ⟨z, r, f, rfl⟩ : ∃ (z : Fin 1) (r : Fin 256) (f : Fin 1024), y = ix3 z r f := ⟨y (0 : Fin 3), y (1 : Fin 3), y (2 : Fin 3), eq_ix3 y⟩
  obtain rfl : z = 0 := Subsingleton.elim _ _
  have e : out0_2 (iblk m c 0 t) (iblk m c 1 t) (ix3 0 r f) = evens (m ((c : Thread nD τ).loc main_arg0))
      (ix3 (eOf t) (⟨(iOf t).val * 256 + r.val, by have := (iOf t).isLt; omega⟩ : Fin 1024) f) := by
    rw [blk1 m c t]
    exact (out2_eq (iblk m c 0 t) r f).trans (blk0 m c t r _)
  refine (congrFun (flushed2 m c t) (ix3 0 r f)).trans (e.trans ?_)
  refine congrArg (evens (m ((c : Thread nD τ).loc main_arg0))) ?_
  blk_ext [ix_2 t]

theorem arr3 : (dats m 0 c).arrAt 3 cfg0.N = odds (m ((c : Thread nD τ).loc main_arg0)) := by
  refine (dats m 0 c).arrAt_eq_of_covers 3 _ covers3 fun t hf y => ?_
  obtain ⟨z, r, f, rfl⟩ : ∃ (z : Fin 1) (r : Fin 256) (f : Fin 1024), y = ix3 z r f := ⟨y (0 : Fin 3), y (1 : Fin 3), y (2 : Fin 3), eq_ix3 y⟩
  obtain rfl : z = 0 := Subsingleton.elim _ _
  have e : out0_3 (iblk m c 0 t) (iblk m c 1 t) (ix3 0 r f) = odds (m ((c : Thread nD τ).loc main_arg0))
      (ix3 (eOf t) (⟨(iOf t).val * 256 + r.val, by have := (iOf t).isLt; omega⟩ : Fin 1024) f) := by
    rw [blk1 m c t]
    exact (out3_eq (iblk m c 0 t) r f).trans (blk0 m c t r _)
  refine (congrFun (flushed3 m c t) (ix3 0 r f)).trans (e.trans ?_)
  refine congrArg (odds (m ((c : Thread nD τ).loc main_arg0))) ?_
  blk_ext [ix_3 t]

end Cert.Kernel3Ideal.Split

end
-- ==== Proof.Expert.SplitClaims.lean ====
/- The claims about the split of the experts' first weight. -/
module

public import proofs.«01_k».proof.Defs
public import proofs.«01_k».proof.Proof.Gen.Kernel3
public import proofs.«01_k».proof.Proof.Gen.Reference3Ideal.Run
public import proofs.«01_k».proof.Proof.Expert.Split

@[expose] public section

set_option maxRecDepth 16384

noncomputable section

namespace Cert.Proof

open Idealize.ShloMosaic Idealize.ShloMosaic.TcCoe Idealize.SL.Sem

/-- The split on extended reals. -/
theorem frame_kernel3Ideal : Cert.quiescent_Kernel3Ideal := fun m ρ _ => Cert.Kernel3Ideal.Gen.frame m ρ

/-- The split's reference. -/
theorem frame_reference3Ideal : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

section

set_option maxHeartbeats 4000000

/-- The bodies the two programs run are the same. -/
theorem split_bodies_same : Cert.Kernel3.defs₀ (F := Bits) = Cert.Kernel3Ideal.defs₀ (F := Bits) := by
  funext p l a
  cases p with
  | tc => match l, a with
    | 0, (t, s) => rfl
  | scScalar _ => rfl
  | scVector _ _ => rfl

theorem split_main_same : Cert.Kernel3.main (F := Bits) = Cert.Kernel3Ideal.main (F := Bits) := rfl

theorem split_defs_same : Cert.Kernel3.defs (F := Bits) = Cert.Kernel3Ideal.defs (F := Bits) :=
  congrArg (Pipeline.defs (Cert.Kernel3Ideal.pcfgs (F := Bits))) split_bodies_same

/-- The same text on machine numbers. -/
theorem frame_kernel3 : Cert.quiescent_Kernel3 := fun m ρ _ => by
  rw [split_main_same, split_defs_same]
  exact Cert.Kernel3Ideal.Gen.frame (F := Bits) m ρ

end

section

open Cert.Reference3Ideal Cert.Reference3Ideal.Gen

/-- The reference's columns. -/
def refGate (w : FVec Ideal S2x32x1024x2048 .f32) : FVec Ideal S32x1024x1024 .bf16 :=
  truncf .bf16 (Host.slice S32x1024x1024 ![0, 0, 0] ![1, 1, 2] (shapeCast _ (extractStridedSlice S1x32x1024x2048 ![0, 0, 0, 0] w slices_S2x32x1024x2048_S1x32x1024x2048_0_0_0_0) shapeCasts_S1x32x1024x2048_S32x1024x2048) slicesBy_S32x1024x2048_S32x1024x1024_0s1_0s1_0s2) bitsLt_bf16_f32
def refUp (w : FVec Ideal S2x32x1024x2048 .f32) : FVec Ideal S32x1024x1024 .bf16 :=
  truncf .bf16 (Host.slice S32x1024x1024 ![0, 0, 1] ![1, 1, 2] (shapeCast _ (extractStridedSlice S1x32x1024x2048 ![0, 0, 0, 0] w slices_S2x32x1024x2048_S1x32x1024x2048_0_0_0_0) shapeCasts_S1x32x1024x2048_S32x1024x2048) slicesBy_S32x1024x2048_S32x1024x1024_0s1_0s1_1s2) bitsLt_bf16_f32

theorem refGate_eq (w : FVec Ideal S2x32x1024x2048 .f32) : refGate w = Cert.Kernel3Ideal.Split.evens w := by
  funext y
  obtain ⟨e, k, f, rfl⟩ : ∃ (e : Fin 32) (k f : Fin 1024), y = ix3 e k f := ⟨y (0 : Fin 3), y (1 : Fin 3), y (2 : Fin 3), eq_ix3 y⟩
  show (refGate w (ix3 e k f) : EReal) = w (ix4 0 e k (⟨2 * f.val, by omega⟩ : Fin 2048))
  pointwise [refGate]

theorem refUp_eq (w : FVec Ideal S2x32x1024x2048 .f32) : refUp w = Cert.Kernel3Ideal.Split.odds w := by
  funext y
  obtain ⟨e, k, f, rfl⟩ : ∃ (e : Fin 32) (k f : Fin 1024), y = ix3 e k f := ⟨y (0 : Fin 3), y (1 : Fin 3), y (2 : Fin 3), eq_ix3 y⟩
  show (refUp w (ix3 e k f) : EReal) = w (ix4 0 e k (⟨2 * f.val + 1, by omega⟩ : Fin 2048))
  rw [show (⟨2 * f.val + 1, by omega⟩ : Fin 2048) = ⟨1 + 2 * f.val, by omega⟩ from Fin.ext (Nat.add_comm _ _)]
  pointwise [refUp]

end

/-- Both results of the two programs are equal. -/
theorem algebraic_kernel3 : Cert.algebraic_Kernel3Ideal_Reference3Ideal := fun m g m' g' _ hargs => by
  refine ⟨fun c => Cert.Kernel3Ideal.Split.evens (m ((c.tc : Thread Cert.Kernel3Ideal.nD Cert.Kernel3Ideal.τ).loc Cert.Kernel3Ideal.main_arg0)),
    fun c => Cert.Kernel3Ideal.Split.odds (m ((c.tc : Thread Cert.Kernel3Ideal.nD Cert.Kernel3Ideal.τ).loc Cert.Kernel3Ideal.main_arg0)), ?_, ?_⟩
  · exact (θ_run Cert.Kernel3Ideal.defs _ _).mono
      (fun r h c => ⟨(h c).1.trans (Cert.Kernel3Ideal.Split.arr2 m c), (h c).2.1.trans (Cert.Kernel3Ideal.Split.arr3 m c), (h c).2.2⟩)
      (Cert.Kernel3Ideal.Value.run_blocks (F := Ideal) m g)
  · refine (θ_run Cert.Reference3Ideal.defs _ _).mono (fun r h c => ?_) (Cert.Reference3Ideal.Value.run (F := Ideal) m' g')
    refine ⟨(h c).1.trans ?_, (h c).2.1.trans ?_, (h c).2.2⟩
    · exact (refGate_eq _).trans (congrArg Cert.Kernel3Ideal.Split.evens (hargs c))
    · exact (refUp_eq _).trans (congrArg Cert.Kernel3Ideal.Split.odds (hargs c))

end Cert.Proof

end
-- ==== Proof.Merge.Row.lean ====
/- The merge of the three branches, one row at a time, over the extended reals. -/
module

public import proofs.«01_k».proof.Proof.Expert.Gate

@[expose] public section

noncomputable section

namespace Cert.Row

open Idealize.ShloMosaic Cert.Gate

/-- The logistic function as the kernel writes it. -/
def logi (x : EReal) : EReal := half * Ideal.tanh (half * x) + half

/-- The Gaussian unit with the hyperbolic tangent. -/
def gelu (y : EReal) : EReal :=
  y * (half * (1 + Ideal.tanh (Ideal.ofBits .f32 0x3F4C422A#32 * (y + Ideal.ofBits .f32 0x3D372713#32 * (y * (y * y))))))

/-- A head's normalisation by its mean square. -/
def rms (o g : Fin 128 → EReal) (d : Fin 128) : EReal :=
  o d * Ideal.rsqrt (Ideal.div (∑ k, o k * o k) (Ideal.ofBits .f32 0x43000000#32) + Ideal.ofBits .f32 0x358637BD#32) * g d

/-- The DeltaNet's branch: the heads normalised, gated by `z`. -/
def headOf (o : Fin 512 → EReal) (h : Fin 4) (d : Fin 128) : EReal := o ⟨h.val * 128 + d.val, by omega⟩
def colHead (c : Fin 512) : Fin 4 := ⟨c.val / 128, by omega⟩
def colDim (c : Fin 512) : Fin 128 := ⟨c.val % 128, by omega⟩
def branchA (o z : Fin 512 → EReal) (g : Fin 128 → EReal) (c : Fin 512) : EReal :=
  rms (headOf o (colHead c)) g (colDim c) * (z c * logi (z c))

/-- The recurrence's branch: the unit, gated by its own projection. -/
def branchB (y : Fin 512 → EReal) (w : Fin 512 → Fin 512 → EReal) (b : Fin 512 → EReal) (c : Fin 512) : EReal :=
  gelu (y c) * logi ((∑ k, gelu (y k) * w k c) + b c)

/-- A gate times a branch's projection. -/
def gated (a : Fin 512 → EReal) (g : EReal) (w : Fin 512 → EReal) : EReal := logi g * ∑ k, a k * w k

/-- The normalisation of a layer. -/
def mean (h : Fin 1024 → EReal) : EReal := Ideal.div (∑ k, h k) (Ideal.ofBits .f32 0x44800000#32)
def norm (h g b : Fin 1024 → EReal) (n : Fin 1024) : EReal :=
  (h n - mean h) * Ideal.rsqrt (Ideal.div (∑ k, (h k - mean h) * (h k - mean h)) (Ideal.ofBits .f32 0x44800000#32) + Ideal.ofBits .f32 0x3727C5AC#32)
    * g n + b n

/-- The residual with the output projection of the merged branches. -/
def resid (x m : Fin 1024 → EReal) (w : Fin 1024 → Fin 1024 → EReal) (n : Fin 1024) : EReal :=
  Ideal.ofBits .f32 0x3FB504F3#32 * x n + ∑ k, m k * w k n

/-- A row of the whole call: its three branches merged, projected, added to the residual and normalised. -/
def mergeRow (x : Fin 1024 → EReal) (o z y d : Fin 512 → EReal) (g0 g1 g2 : Fin 1024 → EReal) (dn : Fin 128 → EReal)
    (gw : Fin 512 → Fin 512 → EReal) (gb : Fin 512 → EReal) (w : Fin 3 → Fin 512 → Fin 1024 → EReal) (wo : Fin 1024 → Fin 1024 → EReal)
    (lg lb : Fin 1024 → EReal) : Fin 1024 → EReal :=
  norm (resid x (fun n => gated (branchA o z dn) (g0 n) (fun k => w 0 k n) + gated (branchB y gw gb) (g1 n) (fun k => w 1 k n)
    + gated d (g2 n) (fun k => w 2 k n)) wo) lg lb

/-- The head and the lane of a column. -/
theorem colHead_of (c : Fin 512) (h : Fin 4) (d : Fin 128) (e : c.val = h.val * 128 + d.val) : colHead c = h :=
  Fin.ext (by
    show c.val / 128 = h.val
    omega)
theorem colDim_of (c : Fin 512) (h : Fin 4) (d : Fin 128) (e : c.val = h.val * 128 + d.val) : colDim c = d :=
  Fin.ext (by
    show c.val % 128 = d.val
    omega)

end Cert.Row

end
-- ==== Proof.Merge.Tile.lean ====
/- What the merge's kernel computes from a tile of 256 rows, read at an index. -/
module

public import proofs.«01_k».proof.Proof.Gen.Kernel4Ideal.Skeleton
public import proofs.«01_k».proof.Proof.Merge.Row
public import Idealize.ShloMosaic.Lib.Pointwise

@[expose] public section

set_option maxRecDepth 16384

noncomputable section

namespace Cert.Kernel4Ideal.Tile

open Cert.Kernel4Ideal Cert.Kernel4Ideal.Gen
open Idealize.ShloMosaic Idealize.ShloMosaic.TcCoe Idealize.SL.Sem Cert.Gate Cert.Row

variable (a b z : FVec Ideal S1x256x512 .f32) (g g' : FVec Ideal S1x128 .f32) (r : Fin 256)

/-- A row of the two directions' sum. -/
def oRow (k : Fin 512) : EReal := (a (ix3 0 r k) : EReal) + b (ix3 0 r k)

theorem p2 (k : Fin 512) : (k0_pay2 (F := Ideal) a b (ix2 r k) : EReal) = oRow a b r k := by
  pointwise [k0_pay2]; rfl
theorem p3 (k : Fin 512) : (k0_pay3 (F := Ideal) z (ix2 r k) : EReal) = z (ix3 0 r k) := by
  pointwise [k0_pay3]
theorem p4 (d : Fin 128) : (k0_pay4 (F := Ideal) a b g (ix2 r d) : EReal) = rms (headOf (oRow a b r) 0) (fun k => g (ix2 0 k)) d := by
  have e : headOf (oRow a b r) 0 = fun k => oRow a b r ⟨k.val, by omega⟩ :=
    funext fun k => congrArg (oRow a b r) (Fin.ext (Nat.zero_add _))
  rw [e]
  pointwise [k0_pay4, k0_pay2]
  rfl
theorem p5 (d : Fin 128) : (k0_pay5 (F := Ideal) a b g (ix2 r d) : EReal) = rms (headOf (oRow a b r) 1) (fun k => g (ix2 0 k)) d := by
  pointwise [k0_pay5, k0_pay2]
  rfl

theorem p6 (d : Fin 128) : (k0_pay6 (F := Ideal) a b (ix2 r d) : EReal) = headOf (oRow a b r) 2 d := by
  pointwise [k0_pay6, k0_pay2]
  rfl
theorem p7 (d : Fin 128) : (k0_pay7 (F := Ideal) a b (ix2 r d) : EReal) = headOf (oRow a b r) 2 d * headOf (oRow a b r) 2 d := by
  pointwise [k0_pay7, k0_pay2, k0_pay6]
  rfl

section
variable (v4 v6 : FVec Ideal S256x512 .f32) (v21 v36 v37 v38 : FVec Ideal S256x128 .f32)

theorem p8_0 (d : Fin 128) : (k0_pay8 (F := Ideal) v4 v6 v21 v36 v37 v38 g g' (ix2 r (⟨d.val, by omega⟩ : Fin 512)) : EReal)
    = v21 (ix2 r d) * ((v6 (ix2 r (⟨d.val, by omega⟩ : Fin 512)) : EReal) * logi (v6 (ix2 r (⟨d.val, by omega⟩ : Fin 512)))) := by
  pointwise [k0_pay8]
  rfl
theorem p8_1 (d : Fin 128) : (k0_pay8 (F := Ideal) v4 v6 v21 v36 v37 v38 g g' (ix2 r (⟨128 + d.val, by omega⟩ : Fin 512)) : EReal)
    = v36 (ix2 r d) * ((v6 (ix2 r (⟨128 + d.val, by omega⟩ : Fin 512)) : EReal) * logi (v6 (ix2 r (⟨128 + d.val, by omega⟩ : Fin 512)))) := by
  pointwise [k0_pay8]
  rfl
theorem p8_2 (d : Fin 128) (o : Fin 128 → EReal) (h : ∀ k, (v37 (ix2 r k) : EReal) = o k) (h' : ∀ k, (v38 (ix2 r k) : EReal) = o k * o k) :
    (k0_pay8 (F := Ideal) v4 v6 v21 v36 v37 v38 g g' (ix2 r (⟨256 + d.val, by omega⟩ : Fin 512)) : EReal)
    = rms o (fun k => g (ix2 0 k)) d
      * ((v6 (ix2 r (⟨256 + d.val, by omega⟩ : Fin 512)) : EReal) * logi (v6 (ix2 r (⟨256 + d.val, by omega⟩ : Fin 512)))) := by
  pointwise [k0_pay8]
  simp only [h, h']
  rw [dif_neg (by omega), dif_neg (by omega), dif_pos (by omega)]
  have e : (⟨256 + d.val - 128 - 128, by omega⟩ : Fin 128) = d := Fin.ext (by
    show 256 + d.val - 128 - 128 = d.val
    omega)
  rw [e]
  rfl
theorem p8_3 (d : Fin 128) (o : Fin 512 → EReal) (h : ∀ k, (v4 (ix2 r k) : EReal) = o k) :
    (k0_pay8 (F := Ideal) v4 v6 v21 v36 v37 v38 g g' (ix2 r (⟨384 + d.val, by omega⟩ : Fin 512)) : EReal)
    = rms (headOf o 3) (fun k => g' (ix2 0 k)) d
      * ((v6 (ix2 r (⟨384 + d.val, by omega⟩ : Fin 512)) : EReal) * logi (v6 (ix2 r (⟨384 + d.val, by omega⟩ : Fin 512)))) := by
  pointwise [k0_pay8]
  simp only [h]
  rw [dif_neg (by omega), dif_neg (by omega), dif_neg (by omega)]
  have e : (⟨384 + d.val - 128 - 128 - 128, by omega⟩ : Fin 128) = d := Fin.ext (by
    show 384 + d.val - 128 - 128 - 128 = d.val
    omega)
  have e' : (⟨384 + (384 + d.val - 128 - 128 - 128), by omega⟩ : Fin 512) = ⟨3 * 128 + d.val, by omega⟩ := Fin.ext (by
    show 384 + (384 + d.val - 128 - 128 - 128) = 3 * 128 + d.val
    omega)
  exact congrArg₂ (· * ·) (congrArg₂ (· * ·) (congrArg (· * _) (congrArg o e')) (congrArg (fun k => (g' (ix2 0 k) : EReal)) e)) rfl
end

theorem p12 (y : FVec Ideal S1x256x512 .f32) (w : FVec Ideal S512x512 .bf16) (e : FVec Ideal S1x512 .f32) (c : Fin 512) :
    (k0_pay12 (F := Ideal) (k0_pay9 y) (k0_pay10 y) k0_pay11 w e (ix2 r c) : EReal)
      = branchB (fun k => y (ix3 0 r k)) (fun k c => w (ix2 k c)) (fun c => e (ix2 0 c)) c := by
  pointwise [k0_pay12, k0_pay9, k0_pay10, k0_pay11]
  rfl

theorem p13 (y : FVec Ideal S1x256x512 .f32) (c : Fin 512) : (k0_pay13 (F := Ideal) y (ix2 r c) : EReal) = y (ix3 0 r c) := by
  pointwise [k0_pay13]

theorem p17 (v76 v107 : FVec Ideal S256x512 .f32) (bg : FVec Ideal S1x3072 .f32) (g0 g1 : FVec Ideal S1x256x1024 .f32)
    (w0 w1 : FVec Ideal S1x512x1024 .bf16) (n : Fin 1024) :
    (k0_pay17 (F := Ideal) v76 v107 (k0_pay14 bg) (k0_pay15 bg g0) k0_pay16 w0 g1 w1 (ix2 r n) : EReal)
      = gated (fun k => v76 (ix2 r k)) ((g0 (ix3 0 r n) : EReal) + bg (ix2 0 (⟨n.val, by omega⟩ : Fin 3072))) (fun k => w0 (ix3 0 k n))
        + gated (fun k => v107 (ix2 r k)) ((g1 (ix3 0 r n) : EReal) + bg (ix2 0 (⟨1024 + n.val, by omega⟩ : Fin 3072))) (fun k => w1 (ix3 0 k n)) := by
  pointwise [k0_pay17, k0_pay14, k0_pay15, k0_pay16]
  rfl

theorem p18 (bg : FVec Ideal S1x3072 .f32) (g2 : FVec Ideal S1x256x1024 .f32) (n : Fin 1024) :
    (k0_pay18 (F := Ideal) (k0_pay14 bg) g2 (ix2 r n) : EReal) = logi ((g2 (ix3 0 r n) : EReal) + bg (ix2 0 (⟨2048 + n.val, by omega⟩ : Fin 3072))) := by
  pointwise [k0_pay18, k0_pay14]
  rfl

theorem p19 (v109 : FVec Ideal S256x512 .f32) (v146 v158 : FVec Ideal S256x1024 .f32) (w2 : FVec Ideal S1x512x1024 .bf16)
    (x : FVec Ideal S1x256x1024 .f32) (w : FVec Ideal S1024x1024 .bf16) (lg lb : FVec Ideal S1x1024 .f32) (n : Fin 1024) :
    (k0_pay19 (F := Ideal) v109 v146 v158 w2 x w lg lb (ix2 r n) : EReal)
      = norm (resid (fun k => x (ix3 0 r k)) (fun n => (v146 (ix2 r n) : EReal) + v158 (ix2 r n) * ∑ k : Fin 512, (v109 (ix2 r k) : EReal) * w2 (ix3 0 k n))
          (fun k n => w (ix2 k n))) (fun k => lg (ix2 0 k)) (fun k => lb (ix2 0 k)) n := by
  pointwise [k0_pay19]
  rfl

theorem p1 (v : FVec Ideal S256x1024 .f32) (n : Fin 1024) : (k0_pay1 (F := Ideal) v (ix3 0 r n) : EReal) = v (ix2 r n) := by
  pointwise [k0_pay1]

end Cert.Kernel4Ideal.Tile

end
-- ==== Proof.Merge.Out.lean ====
/- What the merge's run leaves in a tile of the result: the payloads over the whole blocks. -/
module

public import proofs.«01_k».proof.Proof.Gen.Kernel4Ideal.Frame
public import proofs.«01_k».proof.Proof.Merge.Tile
public import Idealize.ShloMosaic.Lib.WholeRead
public import Idealize.ShloMosaic.Lib.Pipeline.ValueKit.Geometry
public import Idealize.ShloMosaic.Lib.Pipeline.ValueKit.Acc

@[expose] public section

set_option maxRecDepth 16384

noncomputable section

namespace Cert.Kernel4Ideal.Tile

open Cert.Kernel4Ideal Cert.Kernel4Ideal.Gen
open Idealize.ShloMosaic Idealize.ShloMosaic.TcCoe Idealize.SL.Sem
open Cert.Row

/-- A load of a rectangle of a whole buffer, and of all of it. -/
theorem rdl {s : Shape} {e : EltTy} {mr : Memref sig .tc .vmem s e} {off size : Fin s.rank → Nat} (inb : ∀ a, off a + size a ≤ s.size a)
    (h : mr.IsWhole) (X : s.Idx → Elt Ideal e) :
    View.readAt (Elt Ideal) mr.view (Rect.unit off size inb).toLoadRect (h.unread X) = View.ld X (Rect.unit off size inb) :=
  funext fun x => h.readAt_unread X _ x
theorem rd {s : Shape} {e : EltTy} {mr : Memref sig .tc .vmem s e} {off : Fin s.rank → Nat} (hz : ∀ a, off a = 0) (inb : ∀ a, off a + s.size a ≤ s.size a)
    (h : mr.IsWhole) (X : s.Idx → Elt Ideal e) :
    View.readAt (Elt Ideal) mr.view (Rect.unit off s.size inb).toLoadRect (h.unread X) = X :=
  (rdl inb h X).trans (View.ld_unit_lit inb X hz)

/-- One branch's projection out of the three. -/
def wOf (w : FVec Ideal S3x512x1024 .bf16) (j : Fin 3) : FVec Ideal S1x512x1024 .bf16 := fun y => w (ix3 j (y 1) (y 2))

theorem rdw {mr : Memref sig .tc .vmem S3x512x1024 .bf16} (j : Fin 3) {off : Fin 3 → Nat} (ho : ∀ a, off a = (![j.val, 0, 0] : Fin 3 → Nat) a)
    (inb : ∀ a, off a + S1x512x1024.size a ≤ S3x512x1024.size a) (h : mr.IsWhole) (w : FVec Ideal S3x512x1024 .bf16) :
    (View.readAt (Elt Ideal) mr.view (Rect.unit (s := S3x512x1024) off S1x512x1024.size inb).toLoadRect (h.unread w) : FVec Ideal S1x512x1024 .bf16) = wOf w j := by
  refine (rdl inb h w).trans (funext fun y => congrArg w (funext fun a => Fin.ext ?_))
  show off a + 1 * (y a).val = _
  rw [ho a, Nat.one_mul]
  match a with
  | ⟨0, _⟩ =>
    have h : (y (0 : Fin 3)).val < 1 := (y (0 : Fin 3)).isLt
    show j.val + (y (0 : Fin 3)).val = j.val
    omega
  | ⟨1, _⟩ => exact Nat.zero_add _
  | ⟨2, _⟩ => exact Nat.zero_add _

/-- The three branches before their projections, the merged rows and the tile stored. -/
def first (x1 x2 x3 : FVec Ideal S1x256x512 .f32) (x10 : FVec Ideal S1x128 .f32) : FVec Ideal S256x512 .f32 :=
  k0_pay8 (k0_pay2 x1 x2) (k0_pay3 x3) (k0_pay4 x1 x2 x10) (k0_pay5 x1 x2 x10) (k0_pay6 x1 x2) (k0_pay7 x1 x2) x10 x10
def second (x4 : FVec Ideal S1x256x512 .f32) (x11 : FVec Ideal S512x512 .bf16) (x12 : FVec Ideal S1x512 .f32) : FVec Ideal S256x512 .f32 :=
  k0_pay12 (k0_pay9 x4) (k0_pay10 x4) k0_pay11 x11 x12
def stored (x0 : FVec Ideal S1x256x1024 .f32) (x1 : FVec Ideal S1x256x512 .f32) (x2 : FVec Ideal S1x256x512 .f32) (x3 : FVec Ideal S1x256x512 .f32) (x4 : FVec Ideal S1x256x512 .f32) (x5 : FVec Ideal S1x256x512 .f32) (x6 : FVec Ideal S1x256x1024 .f32) (x7 : FVec Ideal S1x256x1024 .f32) (x8 : FVec Ideal S1x256x1024 .f32) (x9 : FVec Ideal S1x3072 .f32) (x10 : FVec Ideal S1x128 .f32) (x11 : FVec Ideal S512x512 .bf16) (x12 : FVec Ideal S1x512 .f32) (x13 : FVec Ideal S3x512x1024 .bf16) (x14 : FVec Ideal S1024x1024 .bf16) (x15 : FVec Ideal S1x1024 .f32) (x16 : FVec Ideal S1x1024 .f32) : FVec Ideal S1x256x1024 .f32 :=
  k0_pay1 (k0_pay19 (k0_pay13 x5)
    (k0_pay17 (first x1 x2 x3 x10) (second x4 x11 x12) (k0_pay14 x9) (k0_pay15 x9 x6) k0_pay16 (wOf x13 0) x7 (wOf x13 1))
    (k0_pay18 (k0_pay14 x9) x8) (wOf x13 2) x0 x14 x15 x16)

theorem out_eq (c : Dev nD) (i : grid0.Coords) (arg2 : Memref sig .tc .vmem S1x256x1024 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x256x512 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x1024 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x3072 .f32) (harg11 : arg11.IsWhole) (arg12 : Memref sig .tc .vmem S1x128 .f32) (harg12 : arg12.IsWhole) (arg13 : Memref sig .tc .vmem S512x512 .bf16) (harg13 : arg13.IsWhole) (arg14 : Memref sig .tc .vmem S1x512 .f32) (harg14 : arg14.IsWhole) (arg15 : Memref sig .tc .vmem S3x512x1024 .bf16) (harg15 : arg15.IsWhole) (arg16 : Memref sig .tc .vmem S1024x1024 .bf16) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x256x1024 .f32) (harg19 : arg19.IsWhole)
    (x0 : Vec Ideal S1x256x1024 .f32) (x1 : Vec Ideal S1x256x512 .f32) (x2 : Vec Ideal S1x256x512 .f32) (x3 : Vec Ideal S1x256x512 .f32) (x4 : Vec Ideal S1x256x512 .f32) (x5 : Vec Ideal S1x256x512 .f32) (x6 : Vec Ideal S1x256x1024 .f32) (x7 : Vec Ideal S1x256x1024 .f32) (x8 : Vec Ideal S1x256x1024 .f32) (x9 : Vec Ideal S1x3072 .f32) (x10 : Vec Ideal S1x128 .f32) (x11 : Vec Ideal S512x512 .bf16) (x12 : Vec Ideal S1x512 .f32) (x13 : Vec Ideal S3x512x1024 .bf16) (x14 : Vec Ideal S1024x1024 .bf16) (x15 : Vec Ideal S1x1024 .f32) (x16 : Vec Ideal S1x1024 .f32) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16 = stored x0 x1 x2 x3 x4 x5 x6 x7 x8 x9 x10 x11 x12 x13 x14 x15 x16 := by
  unfold out0_A_17
  refine (View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 x15 x16)).trans ?_
  delta kernelRun0_A
  dsimp only
  rw [View.canon_cons_unit_lit inb_S1x256x1024_S1x256x1024_0_0_0 _ _ (by decide)]
  delta kernelRun0_A.sl.r_15
  delta kernelRun0_A.sl.r_14
  delta kernelRun0_A.sl.r_13
  delta kernelRun0_A.sl.r_12
  delta kernelRun0_A.sl.r_11
  delta kernelRun0_A.sl.r_10
  delta kernelRun0_A.sl.r_9
  delta kernelRun0_A.sl.r_8
  delta kernelRun0_A.sl.r_7
  delta kernelRun0_A.sl.r_6
  delta kernelRun0_A.sl.r_5
  delta kernelRun0_A.sl.r_4
  delta kernelRun0_A.sl.r_3
  delta kernelRun0_A.sl.r_2
  delta kernelRun0_A.sl.r_1
  delta kernelRun0_A.sl.r
  rw [rd (by decide) inb_S1x256x1024_S1x256x1024_0_0_0 harg2 x0,
    rd (by decide) inb_S1x256x512_S1x256x512_0_0_0 harg3 x1,
    rd (by decide) inb_S1x256x512_S1x256x512_0_0_0 harg4 x2,
    rd (by decide) inb_S1x256x512_S1x256x512_0_0_0 harg5 x3,
    rd (by decide) inb_S1x256x512_S1x256x512_0_0_0 harg6 x4,
    rd (by decide) inb_S1x256x512_S1x256x512_0_0_0 harg7 x5,
    rd (by decide) inb_S1x256x1024_S1x256x1024_0_0_0 harg8 x6,
    rd (by decide) inb_S1x256x1024_S1x256x1024_0_0_0 harg9 x7,
    rd (by decide) inb_S1x256x1024_S1x256x1024_0_0_0 harg10 x8,
    rd (by decide) inb_S1x3072_S1x3072_0_0 harg11 x9,
    rd (by decide) inb_S1x128_S1x128_0_0 harg12 x10,
    rd (by decide) inb_S512x512_S512x512_0_0 harg13 x11,
    rd (by decide) inb_S1x512_S1x512_0_0 harg14 x12,
    rd (by decide) inb_S1024x1024_S1024x1024_0_0 harg16 x14,
    rd (by decide) inb_S1x1024_S1x1024_0_0 harg17 x15,
    rd (by decide) inb_S1x1024_S1x1024_0_0 harg18 x16,
    rdw 0 (by decide) inb_S3x512x1024_S1x512x1024_0_0_0 harg15 x13,
    rdw 1 (by decide) inb_S3x512x1024_S1x512x1024_1_0_0 harg15 x13,
    rdw 2 (by decide) inb_S3x512x1024_S1x512x1024_2_0_0 harg15 x13]
  rfl

/-! ## The stored tile at an index -/

variable (x0 : FVec Ideal S1x256x1024 .f32) (x1 x2 x3 x4 x5 : FVec Ideal S1x256x512 .f32) (x6 x7 x8 : FVec Ideal S1x256x1024 .f32)
  (x9 : FVec Ideal S1x3072 .f32) (x10 : FVec Ideal S1x128 .f32) (x11 : FVec Ideal S512x512 .bf16) (x12 : FVec Ideal S1x512 .f32)
  (x13 : FVec Ideal S3x512x1024 .bf16) (x14 : FVec Ideal S1024x1024 .bf16) (x15 x16 : FVec Ideal S1x1024 .f32) (r : Fin 256)

theorem lt_col {j : Nat} (d : Fin 128) (h : j ≤ 384) : j + d.val < 512 := by omega

theorem first_apply (c : Fin 512) :
    (first x1 x2 x3 x10 (ix2 r c) : EReal) = branchA (oRow x1 x2 r) (fun k => x3 (ix3 0 r k)) (fun k => x10 (ix2 0 k)) c := by
  unfold branchA first
  rcases (by omega : c.val < 128 ∨ (128 ≤ c.val ∧ c.val < 256) ∨ (256 ≤ c.val ∧ c.val < 384) ∨ (384 ≤ c.val ∧ c.val < 512)) with h | h | h | h
  · obtain ⟨d, rfl⟩ : ∃ d : Fin 128, c = ⟨d.val, Nat.lt_trans d.isLt (by decide)⟩ := ⟨⟨c.val, h⟩, rfl⟩
    rw [p8_0, p4, p3, colHead_of _ 0 d (by simp), colDim_of _ 0 d (by simp)]
  · obtain ⟨d, rfl⟩ : ∃ d : Fin 128, c = ⟨128 + d.val, lt_col d (by decide)⟩ := ⟨⟨c.val - 128, by omega⟩, Fin.ext (by
      show c.val = 128 + (c.val - 128)
      omega)⟩
    rw [p8_1, p5, p3, colHead_of _ 1 d (by simp), colDim_of _ 1 d (by simp)]
  · obtain ⟨d, rfl⟩ : ∃ d : Fin 128, c = ⟨256 + d.val, lt_col d (by decide)⟩ := ⟨⟨c.val - 256, by omega⟩, Fin.ext (by
      show c.val = 256 + (c.val - 256)
      omega)⟩
    rw [p8_2 _ _ _ _ _ _ _ _ _ _ (headOf (oRow x1 x2 r) 2) (p6 x1 x2 r) (p7 x1 x2 r), p3, colHead_of _ 2 d (by simp), colDim_of _ 2 d (by simp)]
  · obtain ⟨d, rfl⟩ : ∃ d : Fin 128, c = ⟨384 + d.val, lt_col d (by decide)⟩ := ⟨⟨c.val - 384, by omega⟩, Fin.ext (by
      show c.val = 384 + (c.val - 384)
      omega)⟩
    rw [p8_3 _ _ _ _ _ _ _ _ _ _ (oRow x1 x2 r) (p2 x1 x2 r), p3, colHead_of _ 3 d (by simp), colDim_of _ 3 d (by simp)]

theorem second_apply (c : Fin 512) :
    (second x4 x11 x12 (ix2 r c) : EReal) = branchB (fun k => x4 (ix3 0 r k)) (fun k c => x11 (ix2 k c)) (fun c => x12 (ix2 0 c)) c :=
  p12 r x4 x11 x12 c

theorem stored_apply (n : Fin 1024) : (stored x0 x1 x2 x3 x4 x5 x6 x7 x8 x9 x10 x11 x12 x13 x14 x15 x16 (ix3 0 r n) : EReal)
    = mergeRow (fun k => x0 (ix3 0 r k)) (oRow x1 x2 r) (fun k => x3 (ix3 0 r k)) (fun k => x4 (ix3 0 r k)) (fun k => x5 (ix3 0 r k))
        (fun n => (x6 (ix3 0 r n) : EReal) + x9 (ix2 0 (⟨n.val, by omega⟩ : Fin 3072)))
        (fun n => (x7 (ix3 0 r n) : EReal) + x9 (ix2 0 (⟨1024 + n.val, by omega⟩ : Fin 3072)))
        (fun n => (x8 (ix3 0 r n) : EReal) + x9 (ix2 0 (⟨2048 + n.val, by omega⟩ : Fin 3072)))
        (fun k => x10 (ix2 0 k)) (fun k c => x11 (ix2 k c)) (fun c => x12 (ix2 0 c)) (fun j k n => x13 (ix3 j k n))
        (fun k n => x14 (ix2 k n)) (fun k => x15 (ix2 0 k)) (fun k => x16 (ix2 0 k)) n := by
  unfold stored
  rw [p1, p19]
  unfold mergeRow
  refine congrArg (fun h : Fin 1024 → EReal => norm h _ _ n) (congrArg (fun q => resid _ q _) (funext fun n => ?_))
  rw [p17, p18]
  simp only [first_apply, second_apply, p13]
  rfl

end Cert.Kernel4Ideal.Tile

end
-- ==== Proof.Merge.Ref.lean ====
/- The merge's reference at an index. -/
module

public import proofs.«01_k».proof.Proof.Gen.Reference4Ideal.Run
public import proofs.«01_k».proof.Proof.Merge.Row
public import Idealize.ShloMosaic.Lib.Pointwise

@[expose] public section

set_option maxRecDepth 16384

noncomputable section

namespace Cert.Reference4Ideal.Val

open Cert.Reference4Ideal Cert.Reference4Ideal.Gen
open Idealize.ShloMosaic Idealize.ShloMosaic.TcCoe Idealize.SL.Sem Cert.Gate Cert.Row

/-- The two directions' sum by heads, and its mean square by head. -/
def heads (a b : FVec Ideal S10x8192x512 .f32) : FVec Ideal S10x8192x4x128 .f32 :=
  shapeCast _ (addf a b) shapeCasts_S10x8192x512_S10x8192x4x128
def meanSq (o : FVec Ideal S10x8192x4x128 .f32) : FVec Ideal S10x8192x4x1 .f32 :=
  Host.divf (broadcastInDim S10x8192x4x1 ![0, 1, 2] bcast_S10x8192x4_S10x8192x4x1_0_1_2
    (Host.reduceAdd (mulf o o) (constant S_ .f32 0x00000000#32) reducesTo_S10x8192x4x128_S10x8192x4_d3 h_S_))
    (broadcastInDim S10x8192x4x1 ![] bcast_S_S10x8192x4x1 (constant S_ .f32 0x43000000#32))
def normed (o : FVec Ideal S10x8192x4x128 .f32) (g : FVec Ideal S128 .f32) : FVec Ideal S10x8192x4x128 .f32 :=
  mulf (mulf o (broadcastInDim S10x8192x4x128 ![0, 1, 2, 3] bcast_S10x8192x4x1_S10x8192x4x128_0_1_2_3
      (Host.rsqrt (addf (meanSq o) (broadcastInDim S10x8192x4x1 ![] bcast_S_S10x8192x4x1 (constant S_ .f32 0x358637BD#32))))))
    (broadcastInDim S10x8192x4x128 ![0, 1, 2, 3] bcast_S1x1x1x128_S10x8192x4x128_0_1_2_3 (broadcastInDim S1x1x1x128 ![3] bcast_S128_S1x1x1x128_3 g))

/-- The gate of the first branch, by heads. -/
def zHeads (p : FVec Ideal S10x8192x7296 .f32) : FVec Ideal S10x8192x4x128 .f32 :=
  shapeCast _ (extractStridedSlice S10x8192x512 ![0, 0, 1536] p slices_S10x8192x7296_S10x8192x512_0_0_1536) shapeCasts_S10x8192x512_S10x8192x4x128
def siluOf (z : FVec Ideal S10x8192x4x128 .f32) : FVec Ideal S10x8192x4x128 .f32 :=
  mulf z (Host.divf (broadcastInDim S10x8192x4x128 ![] bcast_S_S10x8192x4x128 (constant S_ .f32 0x3F800000#32))
    (addf (broadcastInDim S10x8192x4x128 ![] bcast_S_S10x8192x4x128 (constant S_ .f32 0x3F800000#32)) (Host.exp (Host.negf z))))
def firstOf (n z : FVec Ideal S10x8192x4x128 .f32) : FVec Ideal S10x8192x512 .f32 :=
  shapeCast _ (mulf n (siluOf z)) shapeCasts_S10x8192x4x128_S10x8192x512

/-- The second branch. -/
def geluOf (y : FVec Ideal S10x8192x512 .f32) : FVec Ideal S10x8192x512 .f32 :=
  mulf y (mulf (broadcastInDim S10x8192x512 ![] bcast_S_S10x8192x512 (constant S_ .f32 0x3F000000#32))
    (addf (broadcastInDim S10x8192x512 ![] bcast_S_S10x8192x512 (constant S_ .f32 0x3F800000#32))
      (Host.tanh (mulf (broadcastInDim S10x8192x512 ![] bcast_S_S10x8192x512 (constant S_ .f32 0x3F4C422A#32))
        (addf y (mulf (broadcastInDim S10x8192x512 ![] bcast_S_S10x8192x512 (constant S_ .f32 0x3D372713#32)) (mulf (mulf y y) y)))))))
def secondOf (y : FVec Ideal S10x8192x512 .f32) (w : FVec Ideal S512x512 .f32) (b : FVec Ideal S512 .f32) : FVec Ideal S10x8192x512 .f32 :=
  mulf y (Host.divf (broadcastInDim S10x8192x512 ![] bcast_S_S10x8192x512 (constant S_ .f32 0x3F800000#32))
    (addf (broadcastInDim S10x8192x512 ![] bcast_S_S10x8192x512 (constant S_ .f32 0x3F800000#32))
      (Host.exp (Host.negf (addf (Host.dotGeneral dot_S10x8192x512_S512x512_S10x8192x512_2_0_01_1_n_n none y w)
        (broadcastInDim S10x8192x512 ![0, 1, 2] bcast_S1x1x512_S10x8192x512_0_1_2 (broadcastInDim S1x1x512 ![2] bcast_S512_S1x1x512_2 b)))))))

/-- The three gates. -/
def gatesOf (p : FVec Ideal S10x8192x7296 .f32) (b : FVec Ideal S3072 .f32) : FVec Ideal S10x8192x3x1024 .f32 :=
  shapeCast _ (Host.divf (broadcastInDim S10x8192x3072 ![] bcast_S_S10x8192x3072 (constant S_ .f32 0x3F800000#32))
    (addf (broadcastInDim S10x8192x3072 ![] bcast_S_S10x8192x3072 (constant S_ .f32 0x3F800000#32))
      (Host.exp (Host.negf (addf (extractStridedSlice S10x8192x3072 ![0, 0, 4096] p slices_S10x8192x7296_S10x8192x3072_0_0_4096)
        (broadcastInDim S10x8192x3072 ![0, 1, 2] bcast_S1x1x3072_S10x8192x3072_0_1_2 (broadcastInDim S1x1x3072 ![2] bcast_S3072_S1x1x3072_2 b)))))))
    shapeCasts_S10x8192x3072_S10x8192x3x1024

/-- The merged branches. -/
def mergedOf (q : FVec Ideal S10x8192x3x1024 .f32) (a b d : FVec Ideal S10x8192x512 .f32) (w : FVec Ideal S3x512x1024 .f32) : FVec Ideal S10x8192x1024 .f32 :=
  addf (addf
    (mulf (shapeCast _ (extractStridedSlice S10x8192x1x1024 ![0, 0, 0, 0] q slices_S10x8192x3x1024_S10x8192x1x1024_0_0_0_0) shapeCasts_S10x8192x1x1024_S10x8192x1024)
      (Host.dotGeneral dot_S10x8192x512_S512x1024_S10x8192x1024_2_0_01_1_n_n none a
        (shapeCast _ (extractStridedSlice S1x512x1024 ![0, 0, 0] w slices_S3x512x1024_S1x512x1024_0_0_0) shapeCasts_S1x512x1024_S512x1024)))
    (mulf (shapeCast _ (extractStridedSlice S10x8192x1x1024 ![0, 0, 1, 0] q slices_S10x8192x3x1024_S10x8192x1x1024_0_0_1_0) shapeCasts_S10x8192x1x1024_S10x8192x1024)
      (Host.dotGeneral dot_S10x8192x512_S512x1024_S10x8192x1024_2_0_01_1_n_n none b
        (shapeCast _ (extractStridedSlice S1x512x1024 ![1, 0, 0] w slices_S3x512x1024_S1x512x1024_1_0_0) shapeCasts_S1x512x1024_S512x1024))))
    (mulf (shapeCast _ (extractStridedSlice S10x8192x1x1024 ![0, 0, 2, 0] q slices_S10x8192x3x1024_S10x8192x1x1024_0_0_2_0) shapeCasts_S10x8192x1x1024_S10x8192x1024)
      (Host.dotGeneral dot_S10x8192x512_S512x1024_S10x8192x1024_2_0_01_1_n_n none d
        (shapeCast _ (extractStridedSlice S1x512x1024 ![2, 0, 0] w slices_S3x512x1024_S1x512x1024_2_0_0) shapeCasts_S1x512x1024_S512x1024)))

/-- The residual. -/
def residOf (x m : FVec Ideal S10x8192x1024 .f32) (w : FVec Ideal S1024x1024 .f32) : FVec Ideal S10x8192x1024 .f32 :=
  addf (mulf (broadcastInDim S10x8192x1024 ![] bcast_S_S10x8192x1024 (constant S_ .f32 0x3FB504F3#32)) x)
    (Host.dotGeneral dot_S10x8192x1024_S1024x1024_S10x8192x1024_2_0_01_1_n_n none m w)

/-- The mean over the last axis, the row less it, and the normalisation. -/
def meanOf (h : FVec Ideal S10x8192x1024 .f32) : FVec Ideal S10x8192x1 .f32 :=
  Host.divf (broadcastInDim S10x8192x1 ![0, 1] bcast_S10x8192_S10x8192x1_0_1
    (Host.reduceAdd h (constant S_ .f32 0x00000000#32) reducesTo_S10x8192x1024_S10x8192_d2 h_S_))
    (broadcastInDim S10x8192x1 ![] bcast_S_S10x8192x1 (constant S_ .f32 0x44800000#32))
def centred (h : FVec Ideal S10x8192x1024 .f32) : FVec Ideal S10x8192x1024 .f32 :=
  subf h (broadcastInDim S10x8192x1024 ![0, 1, 2] bcast_S10x8192x1_S10x8192x1024_0_1_2 (meanOf h))
def normOf (h : FVec Ideal S10x8192x1024 .f32) (g b : FVec Ideal S1024 .f32) : FVec Ideal S10x8192x1024 .f32 :=
  addf (mulf (mulf (centred h) (broadcastInDim S10x8192x1024 ![0, 1, 2] bcast_S10x8192x1_S10x8192x1024_0_1_2
      (Host.rsqrt (addf (meanOf (mulf (centred h) (centred h))) (broadcastInDim S10x8192x1 ![] bcast_S_S10x8192x1 (constant S_ .f32 0x3727C5AC#32))))))
    (broadcastInDim S10x8192x1024 ![0, 1, 2] bcast_S1x1x1024_S10x8192x1024_0_1_2 (broadcastInDim S1x1x1024 ![2] bcast_S1024_S1x1x1024_2 g)))
    (broadcastInDim S10x8192x1024 ![0, 1, 2] bcast_S1x1x1024_S10x8192x1024_0_1_2 (broadcastInDim S1x1x1024 ![2] bcast_S1024_S1x1x1024_2 b))

/-- The whole reference. -/
def refOut (x : FVec Ideal S10x8192x1024 .f32) (a b : FVec Ideal S10x8192x512 .f32) (p : FVec Ideal S10x8192x7296 .f32) (y d : FVec Ideal S10x8192x512 .f32)
    (bg : FVec Ideal S3072 .f32) (dn : FVec Ideal S128 .f32) (gw : FVec Ideal S512x512 .f32) (gb : FVec Ideal S512 .f32)
    (wb : FVec Ideal S3x512x1024 .f32) (wo : FVec Ideal S1024x1024 .f32) (lg lb : FVec Ideal S1024 .f32) : FVec Ideal S10x8192x1024 .f32 :=
  normOf (residOf x (mergedOf (gatesOf p bg) (firstOf (normed (heads a b) dn) (zHeads p)) (secondOf (geluOf y) gw gb) d wb) wo) lg lb

theorem res_eq (m : (ℓ : Loc nD τ sig) → Buf (Elt Ideal) ℓ) (c : Dev nD) : Cert.Reference4Ideal.Value.res_main_v102 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) := rfl

/-! ## At an index -/

variable (i : Fin 10) (s : Fin 8192)

theorem heads_apply (a b : FVec Ideal S10x8192x512 .f32) (h : Fin 4) (d : Fin 128) :
    (heads a b (ix4 i s h d) : EReal) = headOf (fun k => (a (ix3 i s k) : EReal) + b (ix3 i s k)) h d := by
  pointwise [heads]
  rfl
theorem zHeads_apply (p : FVec Ideal S10x8192x7296 .f32) (h : Fin 4) (d : Fin 128) :
    (zHeads p (ix4 i s h d) : EReal) = p (ix3 i s (⟨1536 + (h.val * 128 + d.val), by omega⟩ : Fin 7296)) := by
  pointwise [zHeads]
theorem meanSq_apply (o : FVec Ideal S10x8192x4x128 .f32) (h : Fin 4) :
    (meanSq o (ix4 i s h 0) : EReal) = Ideal.div (∑ k : Fin 128, (o (ix4 i s h k) : EReal) * o (ix4 i s h k)) (Ideal.ofBits .f32 0x43000000#32) := by
  pointwise [meanSq]
theorem normed_apply (o : FVec Ideal S10x8192x4x128 .f32) (g : FVec Ideal S128 .f32) (h : Fin 4) (d : Fin 128) :
    (normed o g (ix4 i s h d) : EReal) = rms (fun d => o (ix4 i s h d)) (fun k => g (ix1 k)) d := by
  pointwise [normed, meanSq_apply]
  rfl
theorem siluOf_apply (z : FVec Ideal S10x8192x4x128 .f32) (h : Fin 4) (d : Fin 128) :
    (siluOf z (ix4 i s h d) : EReal) = z (ix4 i s h d) * logi (z (ix4 i s h d)) := by
  rw [logi, logistic_eq]
  pointwise [siluOf]
theorem firstOf_apply (n z : FVec Ideal S10x8192x4x128 .f32) (c : Fin 512) :
    (firstOf n z (ix3 i s c) : EReal) = n (ix4 i s (colHead c) (colDim c)) * (z (ix4 i s (colHead c) (colDim c)) * logi (z (ix4 i s (colHead c) (colDim c)))) := by
  rw [← siluOf_apply]
  pointwise [firstOf]
  rfl
theorem geluOf_apply (y : FVec Ideal S10x8192x512 .f32) (c : Fin 512) : (geluOf y (ix3 i s c) : EReal) = gelu (y (ix3 i s c)) := by
  pointwise [geluOf]
  rw [mul_comm ((y (ix3 i s c) : EReal) * y (ix3 i s c)) (y (ix3 i s c))]
  rfl
theorem secondOf_apply (y : FVec Ideal S10x8192x512 .f32) (w : FVec Ideal S512x512 .f32) (b : FVec Ideal S512 .f32) (c : Fin 512) :
    (secondOf y w b (ix3 i s c) : EReal) = y (ix3 i s c) * logi ((∑ k : Fin 512, (y (ix3 i s k) : EReal) * w (ix2 k c)) + b (ix1 c)) := by
  rw [logi, logistic_eq]
  pointwise [secondOf]
theorem gatesOf_apply (p : FVec Ideal S10x8192x7296 .f32) (b : FVec Ideal S3072 .f32) (q : Fin 3) (n : Fin 1024) :
    (gatesOf p b (ix4 i s q n) : EReal) = logi ((p (ix3 i s (⟨4096 + (q.val * 1024 + n.val), by omega⟩ : Fin 7296)) : EReal)
      + b (ix1 (⟨q.val * 1024 + n.val, by omega⟩ : Fin 3072))) := by
  rw [logi, logistic_eq]
  pointwise [gatesOf]
theorem mergedOf_apply (q : FVec Ideal S10x8192x3x1024 .f32) (a b d : FVec Ideal S10x8192x512 .f32) (w : FVec Ideal S3x512x1024 .f32) (n : Fin 1024) :
    (mergedOf q a b d w (ix3 i s n) : EReal) = (q (ix4 i s 0 n) : EReal) * (∑ k : Fin 512, (a (ix3 i s k) : EReal) * w (ix3 0 k n))
      + (q (ix4 i s 1 n) : EReal) * (∑ k : Fin 512, (b (ix3 i s k) : EReal) * w (ix3 1 k n))
      + (q (ix4 i s 2 n) : EReal) * (∑ k : Fin 512, (d (ix3 i s k) : EReal) * w (ix3 2 k n)) := by
  pointwise [mergedOf]
theorem residOf_apply (x m : FVec Ideal S10x8192x1024 .f32) (w : FVec Ideal S1024x1024 .f32) (n : Fin 1024) :
    (residOf x m w (ix3 i s n) : EReal) = resid (fun k => x (ix3 i s k)) (fun k => m (ix3 i s k)) (fun k n => w (ix2 k n)) n := by
  pointwise [residOf]
  rfl
theorem meanOf_apply (h : FVec Ideal S10x8192x1024 .f32) : (meanOf h (ix3 i s 0) : EReal) = mean (fun k => h (ix3 i s k)) := by
  pointwise [meanOf]
  rfl
theorem centred_apply (h : FVec Ideal S10x8192x1024 .f32) (n : Fin 1024) :
    (centred h (ix3 i s n) : EReal) = h (ix3 i s n) - mean (fun k => h (ix3 i s k)) := by
  pointwise [centred, meanOf_apply]
theorem normOf_apply (h : FVec Ideal S10x8192x1024 .f32) (g b : FVec Ideal S1024 .f32) (n : Fin 1024) :
    (normOf h g b (ix3 i s n) : EReal) = norm (fun k => h (ix3 i s k)) (fun k => g (ix1 k)) (fun k => b (ix1 k)) n := by
  pointwise [normOf, meanOf_apply, centred_apply]
  rfl

end Cert.Reference4Ideal.Val

end
-- ==== Proof.Merge.Whole.lean ====
/- The merge's reference, a row at a time. -/
module

public import proofs.«01_k».proof.Proof.Merge.Ref

@[expose] public section

set_option maxRecDepth 16384

noncomputable section

namespace Cert.Reference4Ideal.Val

open Cert.Reference4Ideal Cert.Reference4Ideal.Gen
open Idealize.ShloMosaic Idealize.ShloMosaic.TcCoe Idealize.SL.Sem Cert.Gate Cert.Row

variable (x : FVec Ideal S10x8192x1024 .f32) (a b : FVec Ideal S10x8192x512 .f32) (p : FVec Ideal S10x8192x7296 .f32) (y d : FVec Ideal S10x8192x512 .f32)
    (bg : FVec Ideal S3072 .f32) (dn : FVec Ideal S128 .f32) (gw : FVec Ideal S512x512 .f32) (gb : FVec Ideal S512 .f32)
    (wb : FVec Ideal S3x512x1024 .f32) (wo : FVec Ideal S1024x1024 .f32) (lg lb : FVec Ideal S1024 .f32) (i : Fin 10) (s : Fin 8192)

/-- The first branch as a row's. -/
theorem first_row (c : Fin 512) : (firstOf (normed (heads a b) dn) (zHeads p) (ix3 i s c) : EReal)
    = branchA (fun k => (a (ix3 i s k) : EReal) + b (ix3 i s k)) (fun k => p (ix3 i s (⟨1536 + k.val, by omega⟩ : Fin 7296))) (fun k => dn (ix1 k)) c := by
  have ez : (zHeads p (ix4 i s (colHead c) (colDim c)) : EReal) = p (ix3 i s (⟨1536 + c.val, by omega⟩ : Fin 7296)) := by
    rw [zHeads_apply]
    refine congrArg (fun j : Fin 7296 => p (ix3 i s j)) (Fin.ext ?_)
    show 1536 + (c.val / 128 * 128 + c.val % 128) = 1536 + c.val
    omega
  rw [firstOf_apply, normed_apply, ez]
  simp only [heads_apply]
  rfl

/-- The second branch as a row's. -/
theorem second_row (c : Fin 512) : (secondOf (geluOf y) gw gb (ix3 i s c) : EReal)
    = branchB (fun k => y (ix3 i s k)) (fun k c => gw (ix2 k c)) (fun c => gb (ix1 c)) c := by
  rw [secondOf_apply]
  simp only [geluOf_apply]
  rfl

theorem gate0 (n : Fin 1024) : (gatesOf p bg (ix4 i s 0 n) : EReal)
    = logi ((p (ix3 i s (⟨4096 + n.val, by omega⟩ : Fin 7296)) : EReal) + bg (ix1 (⟨n.val, by omega⟩ : Fin 3072))) := by
  rw [gatesOf_apply]
  refine congrArg logi (congrArg₂ (fun u v : EReal => u + v) (congrArg (fun j : Fin 7296 => p (ix3 i s j)) (Fin.ext ?_)) (congrArg (fun j : Fin 3072 => bg (ix1 j)) (Fin.ext ?_)))
  · show 4096 + (0 * 1024 + n.val) = 4096 + n.val
    omega
  · show 0 * 1024 + n.val = n.val
    omega
theorem gate1 (n : Fin 1024) : (gatesOf p bg (ix4 i s 1 n) : EReal)
    = logi ((p (ix3 i s (⟨5120 + n.val, by omega⟩ : Fin 7296)) : EReal) + bg (ix1 (⟨1024 + n.val, by omega⟩ : Fin 3072))) := by
  rw [gatesOf_apply]
  refine congrArg logi (congrArg₂ (fun u v : EReal => u + v) (congrArg (fun j : Fin 7296 => p (ix3 i s j)) (Fin.ext ?_)) (congrArg (fun j : Fin 3072 => bg (ix1 j)) (Fin.ext ?_)))
  · show 4096 + (1 * 1024 + n.val) = 5120 + n.val
    omega
  · show 1 * 1024 + n.val = 1024 + n.val
    omega
theorem gate2 (n : Fin 1024) : (gatesOf p bg (ix4 i s 2 n) : EReal)
    = logi ((p (ix3 i s (⟨6144 + n.val, by omega⟩ : Fin 7296)) : EReal) + bg (ix1 (⟨2048 + n.val, by omega⟩ : Fin 3072))) := by
  rw [gatesOf_apply]
  refine congrArg logi (congrArg₂ (fun u v : EReal => u + v) (congrArg (fun j : Fin 7296 => p (ix3 i s j)) (Fin.ext ?_)) (congrArg (fun j : Fin 3072 => bg (ix1 j)) (Fin.ext ?_)))
  · show 4096 + (2 * 1024 + n.val) = 6144 + n.val
    omega
  · show 2 * 1024 + n.val = 2048 + n.val
    omega

/-- The reference's row. -/
theorem refOut_apply (n : Fin 1024) : (refOut x a b p y d bg dn gw gb wb wo lg lb (ix3 i s n) : EReal)
    = mergeRow (fun k => x (ix3 i s k)) (fun k => (a (ix3 i s k) : EReal) + b (ix3 i s k)) (fun k => p (ix3 i s (⟨1536 + k.val, by omega⟩ : Fin 7296)))
        (fun k => y (ix3 i s k)) (fun k => d (ix3 i s k))
        (fun n => (p (ix3 i s (⟨4096 + n.val, by omega⟩ : Fin 7296)) : EReal) + bg (ix1 (⟨n.val, by omega⟩ : Fin 3072)))
        (fun n => (p (ix3 i s (⟨5120 + n.val, by omega⟩ : Fin 7296)) : EReal) + bg (ix1 (⟨1024 + n.val, by omega⟩ : Fin 3072)))
        (fun n => (p (ix3 i s (⟨6144 + n.val, by omega⟩ : Fin 7296)) : EReal) + bg (ix1 (⟨2048 + n.val, by omega⟩ : Fin 3072)))
        (fun k => dn (ix1 k)) (fun k c => gw (ix2 k c)) (fun c => gb (ix1 c)) (fun j k n => wb (ix3 j k n)) (fun k n => wo (ix2 k n))
        (fun k => lg (ix1 k)) (fun k => lb (ix1 k)) n := by
  unfold refOut mergeRow
  rw [normOf_apply]
  refine congrArg (fun h : Fin 1024 → EReal => norm h _ _ n) (funext fun n => ?_)
  rw [residOf_apply]
  refine congrArg (fun q : Fin 1024 → EReal => resid _ q _ n) (funext fun n => ?_)
  rw [mergedOf_apply, gate0, gate1, gate2]
  simp only [first_row, second_row]
  rfl

end Cert.Reference4Ideal.Val

end
-- ==== Proof.Merge.Arr.lean ====
/- The merge's result as the row's formula of the arguments. -/
module

public import proofs.«01_k».proof.Proof.Gen.Kernel4Ideal.Value
public import proofs.«01_k».proof.Proof.Merge.Out
public import proofs.«01_k».proof.Proof.Merge.Whole
public import Idealize.ShloMosaic.Lib.Pointwise
public import Idealize.ShloMosaic.Lib.Pipeline.Covers

@[expose] public section

set_option maxRecDepth 16384

noncomputable section

namespace Cert.Kernel4Ideal.Arr

open Cert.Kernel4Ideal Cert.Kernel4Ideal.Gen Cert.Kernel4Ideal.Value Cert.Kernel4Ideal.Tile
open Idealize.ShloMosaic Idealize.ShloMosaic.TcCoe Idealize.SL.Sem Cert.Row
open Idealize.ShloMosaic.Pipeline (Dat Cfg Window)

/-- A grid point's batch and its run of 256 rows. -/
def bOf (t : Fin cfg0.N) : Fin 10 := ⟨t.val / 32, by
  have : t.val < 320 := lt_of_lt_of_eq t.isLt (by decide : grid0.N = 320)
  omega⟩
def iOf (t : Fin cfg0.N) : Fin 32 := ⟨t.val % 32, by omega⟩
def rowOf (t : Fin cfg0.N) (r : Fin 256) : Fin 8192 := ⟨(iOf t).val * 256 + r.val, by
  have := (iOf t).isLt
  omega⟩

theorem tr0 : ∀ t : Fin grid0.N, cc0_transform_0 (grid0.coords t) = ![t.val / 32, t.val % 32, 0] := by decide +kernel
theorem tr1 : ∀ t : Fin grid0.N, cc0_transform_1 (grid0.coords t) = ![t.val / 32, t.val % 32, 0] := by decide +kernel
theorem tr2 : ∀ t : Fin grid0.N, cc0_transform_2 (grid0.coords t) = ![t.val / 32, t.val % 32, 0] := by decide +kernel
theorem tr4 : ∀ t : Fin grid0.N, cc0_transform_4 (grid0.coords t) = ![t.val / 32, t.val % 32, 0] := by decide +kernel
theorem tr5 : ∀ t : Fin grid0.N, cc0_transform_5 (grid0.coords t) = ![t.val / 32, t.val % 32, 0] := by decide +kernel
theorem tr17 : ∀ t : Fin grid0.N, cc0_transform_17 (grid0.coords t) = ![t.val / 32, t.val % 32, 0] := by decide +kernel
theorem tr3 : ∀ t : Fin grid0.N, cc0_transform_3 (grid0.coords t) = ![t.val / 32, t.val % 32, 3] := by decide +kernel
theorem tr6 : ∀ t : Fin grid0.N, cc0_transform_6 (grid0.coords t) = ![t.val / 32, t.val % 32, 4] := by decide +kernel
theorem tr7 : ∀ t : Fin grid0.N, cc0_transform_7 (grid0.coords t) = ![t.val / 32, t.val % 32, 5] := by decide +kernel
theorem tr8 : ∀ t : Fin grid0.N, cc0_transform_8 (grid0.coords t) = ![t.val / 32, t.val % 32, 6] := by decide +kernel

theorem ix_0 (t : Fin cfg0.N) : (cfg0.win 0).index t = ![(bOf t).val, (iOf t).val, 0] := tr0 t
theorem ix_1 (t : Fin cfg0.N) : (cfg0.win 1).index t = ![(bOf t).val, (iOf t).val, 0] := tr1 t
theorem ix_2 (t : Fin cfg0.N) : (cfg0.win 2).index t = ![(bOf t).val, (iOf t).val, 0] := tr2 t
theorem ix_4 (t : Fin cfg0.N) : (cfg0.win 4).index t = ![(bOf t).val, (iOf t).val, 0] := tr4 t
theorem ix_5 (t : Fin cfg0.N) : (cfg0.win 5).index t = ![(bOf t).val, (iOf t).val, 0] := tr5 t
theorem ix_17 (t : Fin cfg0.N) : (cfg0.win 17).index t = ![(bOf t).val, (iOf t).val, 0] := tr17 t
theorem ix_3 (t : Fin cfg0.N) : (cfg0.win 3).index t = ![(bOf t).val, (iOf t).val, 3] := tr3 t
theorem ix_6 (t : Fin cfg0.N) : (cfg0.win 6).index t = ![(bOf t).val, (iOf t).val, 4] := tr6 t
theorem ix_7 (t : Fin cfg0.N) : (cfg0.win 7).index t = ![(bOf t).val, (iOf t).val, 5] := tr7 t
theorem ix_8 (t : Fin cfg0.N) : (cfg0.win 8).index t = ![(bOf t).val, (iOf t).val, 6] := tr8 t
theorem ix_9 (t : Fin cfg0.N) : (cfg0.win 9).index t = ![0, 0] := rfl
theorem ix_10 (t : Fin cfg0.N) : (cfg0.win 10).index t = ![0, 0] := rfl
theorem ix_11 (t : Fin cfg0.N) : (cfg0.win 11).index t = ![0, 0] := rfl
theorem ix_12 (t : Fin cfg0.N) : (cfg0.win 12).index t = ![0, 0] := rfl
theorem ix_14 (t : Fin cfg0.N) : (cfg0.win 14).index t = ![0, 0] := rfl
theorem ix_15 (t : Fin cfg0.N) : (cfg0.win 15).index t = ![0, 0] := rfl
theorem ix_16 (t : Fin cfg0.N) : (cfg0.win 16).index t = ![0, 0] := rfl
theorem ix_13 (t : Fin cfg0.N) : (cfg0.win 13).index t = ![0, 0, 0] := rfl

theorem covers17 : (cfg0.win 17).Covers :=
  (cfg0.win 17).covers_of_index_surj rfl (fun b => by match b with | ⟨0, _⟩ => exact (by decide : 0 < 1) | ⟨1, _⟩ => exact (by decide : 0 < 256) | ⟨2, _⟩ => exact (by decide : 0 < 1024)) fun β => by
    have h0 : (β (0 : Fin 3)).val < 10 := lt_of_lt_of_eq (β (0 : Fin 3)).isLt (by show (10 + 1 - 1) / 1 = 10; norm_num)
    have h1 : (β (1 : Fin 3)).val < 32 := lt_of_lt_of_eq (β (1 : Fin 3)).isLt (by show (8192 + 256 - 1) / 256 = 32; norm_num)
    have h2 : (β (2 : Fin 3)).val < 1 := lt_of_lt_of_eq (β (2 : Fin 3)).isLt (by show (1024 + 1024 - 1) / 1024 = 1; norm_num)
    refine ⟨⟨(β (0 : Fin 3)).val * 32 + (β (1 : Fin 3)).val, show _ < grid0.N by rw [show grid0.N = 320 by decide]; omega⟩, fun b => ?_⟩
    rw [ix_17]
    match b with
    | ⟨0, _⟩ =>
      show ((β (0 : Fin 3)).val * 32 + (β (1 : Fin 3)).val) / 32 = (β (0 : Fin 3)).val
      omega
    | ⟨1, _⟩ =>
      show ((β (0 : Fin 3)).val * 32 + (β (1 : Fin 3)).val) % 32 = (β (1 : Fin 3)).val
      omega
    | ⟨2, _⟩ =>
      show 0 = (β (2 : Fin 3)).val
      omega

variable (m : (ℓ : Loc nD τ sig) → Buf (Elt Ideal) ℓ) (c : Dev nD)

/-! ## The prepared arguments at an index -/

/-- The conversion to the narrower format. -/
def narrow {s : Shape} (w : FVec Ideal s .f32) : FVec Ideal s .bf16 := truncf .bf16 w bitsLt_bf16_f32

theorem at_v0 : V m c main_v0 = shapeCast S1x3072 (m ((c : Thread nD τ).loc main_arg6)) shapeCasts_S3072_S1x3072 := rfl
theorem v0_apply (n : Fin 3072) : (V m c main_v0 (ix2 0 n) : EReal) = m ((c : Thread nD τ).loc main_arg6) (ix1 n) := by
  rw [at_v0]
  pointwise []
theorem at_v1 : V m c main_v1 = shapeCast S1x128 (m ((c : Thread nD τ).loc main_arg7)) shapeCasts_S128_S1x128 := rfl
theorem v1_apply (n : Fin 128) : (V m c main_v1 (ix2 0 n) : EReal) = m ((c : Thread nD τ).loc main_arg7) (ix1 n) := by
  rw [at_v1]
  pointwise []
theorem at_v2 : V m c main_v2 = narrow (m ((c : Thread nD τ).loc main_arg8)) := rfl
theorem v2_apply (k : Fin 512) (n : Fin 512) : (V m c main_v2 (ix2 k n) : EReal) = m ((c : Thread nD τ).loc main_arg8) (ix2 k n) := by
  rw [at_v2]
  rfl
theorem at_v3 : V m c main_v3 = shapeCast S1x512 (m ((c : Thread nD τ).loc main_arg9)) shapeCasts_S512_S1x512 := rfl
theorem v3_apply (n : Fin 512) : (V m c main_v3 (ix2 0 n) : EReal) = m ((c : Thread nD τ).loc main_arg9) (ix1 n) := by
  rw [at_v3]
  pointwise []
theorem at_v4 : V m c main_v4 = narrow (m ((c : Thread nD τ).loc main_arg10)) := rfl
theorem v4_apply (j : Fin 3) (k : Fin 512) (n : Fin 1024) : (V m c main_v4 (ix3 j k n) : EReal) = m ((c : Thread nD τ).loc main_arg10) (ix3 j k n) := by
  rw [at_v4]
  rfl
theorem at_v5 : V m c main_v5 = narrow (m ((c : Thread nD τ).loc main_arg11)) := rfl
theorem v5_apply (k : Fin 1024) (n : Fin 1024) : (V m c main_v5 (ix2 k n) : EReal) = m ((c : Thread nD τ).loc main_arg11) (ix2 k n) := by
  rw [at_v5]
  rfl
theorem at_v6 : V m c main_v6 = shapeCast S1x1024 (m ((c : Thread nD τ).loc main_arg12)) shapeCasts_S1024_S1x1024 := rfl
theorem v6_apply (n : Fin 1024) : (V m c main_v6 (ix2 0 n) : EReal) = m ((c : Thread nD τ).loc main_arg12) (ix1 n) := by
  rw [at_v6]
  pointwise []
theorem at_v7 : V m c main_v7 = shapeCast S1x1024 (m ((c : Thread nD τ).loc main_arg13)) shapeCasts_S1024_S1x1024 := rfl
theorem v7_apply (n : Fin 1024) : (V m c main_v7 (ix2 0 n) : EReal) = m ((c : Thread nD τ).loc main_arg13) (ix1 n) := by
  rw [at_v7]
  pointwise []

/-! ## The blocks -/

theorem blk0 (t : Fin cfg0.N) (r : Fin 256) (k : Fin 1024) : (iblk m c 0 t (ix3 0 r k) : EReal) = m ((c : Thread nD τ).loc main_arg0) (ix3 (bOf t) (rowOf t r) k) := by
  refine Eq.trans ?_ (congrFun (V_main_arg0 m c) _)
  blk_simp [iblk]
  refine congrArg (V m c main_arg0) ?_
  blk_ext [ix_0 t]
  rfl
theorem blk1 (t : Fin cfg0.N) (r : Fin 256) (k : Fin 512) : (iblk m c 1 t (ix3 0 r k) : EReal) = m ((c : Thread nD τ).loc main_arg1) (ix3 (bOf t) (rowOf t r) k) := by
  refine Eq.trans ?_ (congrFun (V_main_arg1 m c) _)
  blk_simp [iblk]
  refine congrArg (V m c main_arg1) ?_
  blk_ext [ix_1 t]
  rfl
theorem blk2 (t : Fin cfg0.N) (r : Fin 256) (k : Fin 512) : (iblk m c 2 t (ix3 0 r k) : EReal) = m ((c : Thread nD τ).loc main_arg2) (ix3 (bOf t) (rowOf t r) k) := by
  refine Eq.trans ?_ (congrFun (V_main_arg2 m c) _)
  blk_simp [iblk]
  refine congrArg (V m c main_arg2) ?_
  blk_ext [ix_2 t]
  rfl
theorem blk4 (t : Fin cfg0.N) (r : Fin 256) (k : Fin 512) : (iblk m c 4 t (ix3 0 r k) : EReal) = m ((c : Thread nD τ).loc main_arg4) (ix3 (bOf t) (rowOf t r) k) := by
  refine Eq.trans ?_ (congrFun (V_main_arg4 m c) _)
  blk_simp [iblk]
  refine congrArg (V m c main_arg4) ?_
  blk_ext [ix_4 t]
  rfl
theorem blk5 (t : Fin cfg0.N) (r : Fin 256) (k : Fin 512) : (iblk m c 5 t (ix3 0 r k) : EReal) = m ((c : Thread nD τ).loc main_arg5) (ix3 (bOf t) (rowOf t r) k) := by
  refine Eq.trans ?_ (congrFun (V_main_arg5 m c) _)
  blk_simp [iblk]
  refine congrArg (V m c main_arg5) ?_
  blk_ext [ix_5 t]
  rfl
theorem blk3 (t : Fin cfg0.N) (r : Fin 256) (k : Fin 512) : (X0_3 m c t (ix3 0 r k) : EReal)
    = m ((c : Thread nD τ).loc main_arg3) (ix3 (bOf t) (rowOf t r) (⟨1536 + k.val, by omega⟩ : Fin 7296)) := by
  refine Eq.trans ?_ (congrFun (V_main_arg3 m c) _)
  have hm : (cfg0.win 3).moved (cfg0.grid.coords t) (ix3 (0 : Fin 1) r k) = true := moved0_3 t _
  unfold X0_3 Pipeline.Window.fill
  rw [dif_pos hm]
  blk_simp [iblk]
  refine congrArg (V m c main_arg3) ?_
  blk_ext [ix_3 t]
  rfl
theorem blk6 (t : Fin cfg0.N) (r : Fin 256) (k : Fin 1024) : (X0_6 m c t (ix3 0 r k) : EReal)
    = m ((c : Thread nD τ).loc main_arg3) (ix3 (bOf t) (rowOf t r) (⟨4096 + k.val, by omega⟩ : Fin 7296)) := by
  refine Eq.trans ?_ (congrFun (V_main_arg3 m c) _)
  have hm : (cfg0.win 6).moved (cfg0.grid.coords t) (ix3 (0 : Fin 1) r k) = true := moved0_6 t _
  unfold X0_6 Pipeline.Window.fill
  rw [dif_pos hm]
  blk_simp [iblk]
  refine congrArg (V m c main_arg3) ?_
  blk_ext [ix_6 t]
  rfl
theorem blk7 (t : Fin cfg0.N) (r : Fin 256) (k : Fin 1024) : (X0_7 m c t (ix3 0 r k) : EReal)
    = m ((c : Thread nD τ).loc main_arg3) (ix3 (bOf t) (rowOf t r) (⟨5120 + k.val, by omega⟩ : Fin 7296)) := by
  refine Eq.trans ?_ (congrFun (V_main_arg3 m c) _)
  have hm : (cfg0.win 7).moved (cfg0.grid.coords t) (ix3 (0 : Fin 1) r k) = true := moved0_7 t _
  unfold X0_7 Pipeline.Window.fill
  rw [dif_pos hm]
  blk_simp [iblk]
  refine congrArg (V m c main_arg3) ?_
  blk_ext [ix_7 t]
  rfl
theorem blk8 (t : Fin cfg0.N) (r : Fin 256) (k : Fin 1024) : (X0_8 m c t (ix3 0 r k) : EReal)
    = m ((c : Thread nD τ).loc main_arg3) (ix3 (bOf t) (rowOf t r) (⟨6144 + k.val, by omega⟩ : Fin 7296)) := by
  refine Eq.trans ?_ (congrFun (V_main_arg3 m c) _)
  have hm : (cfg0.win 8).moved (cfg0.grid.coords t) (ix3 (0 : Fin 1) r k) = true := moved0_8 t _
  unfold X0_8 Pipeline.Window.fill
  rw [dif_pos hm]
  blk_simp [iblk]
  refine congrArg (V m c main_arg3) ?_
  blk_ext [ix_8 t]
  rfl
theorem blk9 (t : Fin cfg0.N) (n : Fin 3072) : (iblk m c 9 t (ix2 0 n) : EReal) = m ((c : Thread nD τ).loc main_arg6) (ix1 n) := by
  refine Eq.trans ?_ (v0_apply m c n)
  blk_simp [iblk]
  refine congrArg (V m c main_v0) ?_
  blk_ext [ix_9 t]
theorem blk10 (t : Fin cfg0.N) (n : Fin 128) : (iblk m c 10 t (ix2 0 n) : EReal) = m ((c : Thread nD τ).loc main_arg7) (ix1 n) := by
  refine Eq.trans ?_ (v1_apply m c n)
  blk_simp [iblk]
  refine congrArg (V m c main_v1) ?_
  blk_ext [ix_10 t]
theorem blk11 (t : Fin cfg0.N) (k : Fin 512) (n : Fin 512) : (iblk m c 11 t (ix2 k n) : EReal) = m ((c : Thread nD τ).loc main_arg8) (ix2 k n) := by
  refine Eq.trans ?_ (v2_apply m c k n)
  blk_simp [iblk]
  refine congrArg (V m c main_v2) ?_
  blk_ext [ix_11 t]
theorem blk12 (t : Fin cfg0.N) (n : Fin 512) : (iblk m c 12 t (ix2 0 n) : EReal) = m ((c : Thread nD τ).loc main_arg9) (ix1 n) := by
  refine Eq.trans ?_ (v3_apply m c n)
  blk_simp [iblk]
  refine congrArg (V m c main_v3) ?_
  blk_ext [ix_12 t]
theorem blk13 (t : Fin cfg0.N) (j : Fin 3) (k : Fin 512) (n : Fin 1024) : (iblk m c 13 t (ix3 j k n) : EReal) = m ((c : Thread nD τ).loc main_arg10) (ix3 j k n) := by
  refine Eq.trans ?_ (v4_apply m c j k n)
  blk_simp [iblk]
  refine congrArg (V m c main_v4) ?_
  blk_ext [ix_13 t]
theorem blk14 (t : Fin cfg0.N) (k : Fin 1024) (n : Fin 1024) : (iblk m c 14 t (ix2 k n) : EReal) = m ((c : Thread nD τ).loc main_arg11) (ix2 k n) := by
  refine Eq.trans ?_ (v5_apply m c k n)
  blk_simp [iblk]
  refine congrArg (V m c main_v5) ?_
  blk_ext [ix_14 t]
theorem blk15 (t : Fin cfg0.N) (n : Fin 1024) : (iblk m c 15 t (ix2 0 n) : EReal) = m ((c : Thread nD τ).loc main_arg12) (ix1 n) := by
  refine Eq.trans ?_ (v6_apply m c n)
  blk_simp [iblk]
  refine congrArg (V m c main_v6) ?_
  blk_ext [ix_15 t]
theorem blk16 (t : Fin cfg0.N) (n : Fin 1024) : (iblk m c 16 t (ix2 0 n) : EReal) = m ((c : Thread nD τ).loc main_arg13) (ix1 n) := by
  refine Eq.trans ?_ (v7_apply m c n)
  blk_simp [iblk]
  refine congrArg (V m c main_v7) ?_
  blk_ext [ix_16 t]

/-- The kernel's result: the reference's text of the kernel's own arguments. -/
def whole : FVec Ideal S10x8192x1024 .f32 :=
  Cert.Reference4Ideal.Val.refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem tile_eq (t : Fin cfg0.N) (r : Fin 256) (n : Fin 1024) :
    (stored (iblk m c 0 t) (iblk m c 1 t) (iblk m c 2 t) (X0_3 m c t) (iblk m c 4 t) (iblk m c 5 t) (X0_6 m c t) (X0_7 m c t) (X0_8 m c t) (iblk m c 9 t) (iblk m c 10 t) (iblk m c 11 t) (iblk m c 12 t) (iblk m c 13 t) (iblk m c 14 t) (iblk m c 15 t) (iblk m c 16 t) (ix3 0 r n) : EReal) = whole m c (ix3 (bOf t) (rowOf t r) n) := by
  refine (stored_apply (iblk m c 0 t) (iblk m c 1 t) (iblk m c 2 t) (X0_3 m c t) (iblk m c 4 t) (iblk m c 5 t) (X0_6 m c t) (X0_7 m c t) (X0_8 m c t) (iblk m c 9 t) (iblk m c 10 t) (iblk m c 11 t) (iblk m c 12 t) (iblk m c 13 t) (iblk m c 14 t) (iblk m c 15 t) (iblk m c 16 t) r n).trans (Eq.trans ?_ (Cert.Reference4Ideal.Val.refOut_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (bOf t) (rowOf t r) n).symm)
  unfold oRow
  simp only [blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t]

theorem arr17 : (dats m 0 c).arrAt 17 cfg0.N = whole m c := by
  refine (dats m 0 c).arrAt_eq_of_covers 17 _ covers17 fun t hf y => ?_
  obtain ⟨z, r, f, rfl⟩ : ∃ (z : Fin 1) (r : Fin 256) (f : Fin 1024), y = ix3 z r f := ⟨y (0 : Fin 3), y (1 : Fin 3), y (2 : Fin 3), eq_ix3 y⟩
  obtain rfl : z = 0 := Subsingleton.elim _ _
  refine (congrFun (flushed17_A m c t) (ix3 0 r f)).trans (((congrFun (out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (X0_3 m c t) (iblk m c 4 t) (iblk m c 5 t) (X0_6 m c t) (X0_7 m c t) (X0_8 m c t) (iblk m c 9 t) (iblk m c 10 t) (iblk m c 11 t) (iblk m c 12 t) (iblk m c 13 t) (iblk m c 14 t) (iblk m c 15 t) (iblk m c 16 t)) (ix3 0 r f)).trans (tile_eq m c t r f)).trans ?_)
  refine congrArg (whole m c) ?_
  blk_ext [ix_17 t]
  rfl

end Cert.Kernel4Ideal.Arr

end
-- ==== Proof.Merge.Claims.lean ====
/- The claims about the merge. -/
module

public import proofs.«01_k».proof.Defs
public import proofs.«01_k».proof.Proof.Gen.Kernel4
public import proofs.«01_k».proof.Proof.Gen.Reference4Ideal.Run
public import proofs.«01_k».proof.Proof.Merge.Arr

@[expose] public section

set_option maxRecDepth 16384

noncomputable section

namespace Cert.Proof

open Idealize.ShloMosaic Idealize.ShloMosaic.TcCoe Idealize.SL.Sem

/-- The merge on extended reals. -/
theorem frame_kernel4Ideal : Cert.quiescent_Kernel4Ideal := fun m ρ _ => Cert.Kernel4Ideal.Gen.frame m ρ

/-- The merge's reference. -/
theorem frame_reference4Ideal : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

section

set_option maxHeartbeats 4000000

/-- The bodies the two programs run are the same. -/
theorem merge_bodies_same : Cert.Kernel4.defs₀ (F := Bits) = Cert.Kernel4Ideal.defs₀ (F := Bits) := by
  funext p l a
  cases p with
  | tc => match l, a with
    | 0, (t, s) => rfl
  | scScalar _ => rfl
  | scVector _ _ => rfl

theorem merge_main_same : Cert.Kernel4.main (F := Bits) = Cert.Kernel4Ideal.main (F := Bits) := rfl

theorem merge_defs_same : Cert.Kernel4.defs (F := Bits) = Cert.Kernel4Ideal.defs (F := Bits) :=
  congrArg (Pipeline.defs (Cert.Kernel4Ideal.pcfgs (F := Bits))) merge_bodies_same

/-- The same text on machine numbers. -/
theorem frame_kernel4 : Cert.quiescent_Kernel4 := fun m ρ _ => by
  rw [merge_main_same, merge_defs_same]
  exact Cert.Kernel4Ideal.Gen.frame (F := Bits) m ρ

end

/-- The two programs' results are equal. -/
theorem algebraic_kernel4 : Cert.algebraic_Kernel4Ideal_Reference4Ideal := fun m g m' g' _ hargs => by
  refine ⟨fun c => Cert.Kernel4Ideal.Arr.whole m c, ?_, ?_⟩
  · exact (θ_run Cert.Kernel4Ideal.defs _ _).mono
      (fun r h c => ⟨(h c).1.trans (Cert.Kernel4Ideal.Arr.arr17 m c), (h c).2⟩)
      (Cert.Kernel4Ideal.Value.run_blocks (F := Ideal) m g)
  · refine (θ_run Cert.Reference4Ideal.defs _ _).mono (fun r h c => ?_) (Cert.Reference4Ideal.Value.run (F := Ideal) m' g')
    obtain ⟨a0, a1, a2, a3, a4, a5, a6, a7, a8, a9, a10, a11, a12, a13⟩ := hargs c
    refine ⟨((h c).1.trans (Cert.Reference4Ideal.Val.res_eq m' c)).trans ?_, (h c).2⟩
    rw [a0, a1, a2, a3, a4, a5, a6, a7, a8, a9, a10, a11, a12, a13]
    rfl

end Cert.Proof

end
-- ==== Proof.lean ====
module

public import proofs.«01_k».proof.Defs
public import proofs.«01_k».proof.Proof.Frames
public import proofs.«01_k».proof.Proof.Algebraic
public import proofs.«01_k».proof.Proof.Expert.Claims
public import proofs.«01_k».proof.Proof.Expert.SplitClaims
public import proofs.«01_k».proof.Proof.Merge.Claims
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Pre_in_range
public import proofs.«01_k».proof.Proof.Gen.Kernel3
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel3Ideal
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel2Ideal.Launch
public import proofs.«01_k».proof.Proof.Gen.Kernel2Ideal.Skeleton
public import proofs.«01_k».proof.Proof.Gen.Reference2Ideal.Run
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite.Gen.facts, Cert.Pre_in_range.Gen.facts,
    frame_kernel, frame_kernelIdeal, frame_kernelIdeal_finite, frame_referenceIdeal, frame_referenceIdeal_finite,
    frame_kernel2, frame_kernel2Ideal, frame_reference2Ideal,
    frame_kernel3, frame_kernel3Ideal, frame_reference3Ideal,
    frame_kernel4, frame_kernel4Ideal, frame_reference4Ideal,
    preserves_kernel, algebraic_kernel, trivial, algebraic_kernel2, trivial, algebraic_kernel3,
    trivial, algebraic_kernel4⟩

end Cert.Proof

end
